-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v78_0)) (v1 : (c : Dev Cert.KernelIdeal.nD) → Buf (Elt Ideal) ((c.tc : Thread Cert.KernelIdeal.nD Cert.KernelIdeal.τ).loc Cert.KernelIdeal.main_v78_1)) (v2 : (c : Dev Cert.KernelIdeal.nD) → Buf (Elt Ideal) ((c.tc : Thread Cert.KernelIdeal.nD Cert.KernelIdeal.τ).loc Cert.KernelIdeal.main_v78_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78_0) = v0 c
          ∧ r.2.mem ((c.tc : Thread Cert.KernelIdeal.nD Cert.KernelIdeal.τ).loc Cert.KernelIdeal.main_v78_1) = v1 c
          ∧ r.2.mem ((c.tc : Thread Cert.KernelIdeal.nD Cert.KernelIdeal.τ).loc Cert.KernelIdeal.main_v78_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v9) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6)) (v1 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_v7) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)) (v1 : (c : Dev Cert.Kernel7Ideal.nD) → Buf (Elt Ideal) ((c.tc : Thread Cert.Kernel7Ideal.nD Cert.Kernel7Ideal.τ).loc Cert.Kernel7Ideal.main_v7)) (v2 : (c : Dev Cert.Kernel7Ideal.nD) → Buf (Elt Ideal) ((c.tc : Thread Cert.Kernel7Ideal.nD Cert.Kernel7Ideal.τ).loc Cert.Kernel7Ideal.main_v8)) (v3 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_v7) = v1 c
          ∧ r.2.mem ((c.tc : Thread Cert.Kernel7Ideal.nD Cert.Kernel7Ideal.τ).loc Cert.Kernel7Ideal.main_v8) = v2 c
          ∧ r.2.mem ((c.tc : Thread Cert.Kernel7Ideal.nD Cert.Kernel7Ideal.τ).loc Cert.Kernel7Ideal.main_v9) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15_0) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_v17) = v2 c
          ∧ r.2.mem ((c.tc : Thread Cert.Reference7Ideal.nD Cert.Reference7Ideal.τ).loc Cert.Reference7Ideal.main_v12) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v7) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v2) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S4096x5120 : Shape := ⟨2, ![4096, 5120]⟩
abbrev S4x4096x64 : Shape := ⟨3, ![4, 4096, 64]⟩
abbrev S4x4096 : Shape := ⟨2, ![4, 4096]⟩
abbrev S4096x256 : Shape := ⟨2, ![4096, 256]⟩
abbrev S_ : Shape := ⟨0, ![]⟩

class Facts : Prop where
  bcast_S_S4096x5120 : S_.BroadcastsInDim S4096x5120 (![] : Fin 0 → Fin S4096x5120.rank)
  reducesTo_S4096x5120_S_d0_1 : S4096x5120.ReducesTo [0, 1] S_
  h_S_ : 0 < S_.numel
  bcast_S_S4x4096x64 : S_.BroadcastsInDim S4x4096x64 (![] : Fin 0 → Fin S4x4096x64.rank)
  reducesTo_S4x4096x64_S_d0_1_2 : S4x4096x64.ReducesTo [0, 1, 2] S_
  bcast_S_S4x4096 : S_.BroadcastsInDim S4x4096 (![] : Fin 0 → Fin S4x4096.rank)
  reducesTo_S4x4096_S_d0_1 : S4x4096.ReducesTo [0, 1] S_
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_arg4 : FVec F S4x4096 .f32) (main_arg5 : FVec F S4096x256 .f32) (main_v3 : IVec S_ 1) (main_v7 : IVec S_ 1) (main_v11 : IVec S_ 1) (main_v15 : IVec S_ 1) : IVec S_ 1 :=
  let main_v16 : FVec F S4x4096 .f32 := Host.absf main_arg4
  let main_cst_6 : FVec F S_ .f32 := constant S_ .f32 0x7F800000#32
  let main_v17 : FVec F S4x4096 .f32 := broadcastInDim S4x4096 ![] bcast_S_S4x4096 main_cst_6
  let main_v18 : IVec S4x4096 1 := cmpf .olt main_v16 main_v17
  let main_c_7 : IVec S_ 1 := constantI S_ 1 1#1
  let main_v19 : IVec S_ 1 := (fun x v => Host.reduce IntOp.andi x v reducesTo_S4x4096_S_d0_1 h_S_) main_v18 main_c_7
  let main_v20 : FVec F S4096x256 .f32 := Host.absf main_arg5
  let main_cst_8 : FVec F S_ .f32 := constant S_ .f32 0x7F800000#32
  let main_v21 : FVec F S4096x256 .f32 := broadcastInDim S4096x256 ![] bcast_S_S4096x256 main_cst_8
  let main_v22 : IVec S4096x256 1 := cmpf .olt main_v20 main_v21
  let main_c_9 : IVec S_ 1 := constantI S_ 1 1#1
  let main_v23 : IVec S_ 1 := (fun x v => Host.reduce IntOp.andi x v reducesTo_S4096x256_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x5120 .f32) (main_arg1 : FVec F S4x4096x64 .f32) (main_arg2 : FVec F S4x4096 .f32) (main_arg3 : FVec F S4x4096x64 .f32) (main_arg4 : FVec F S4x4096 .f32) (main_arg5 : FVec F S4096x256 .f32) : IVec S_ 1 :=
  let main_v0 : FVec F S4096x5120 .f32 := Host.absf main_arg0
  let main_cst : FVec F S_ .f32 := constant S_ .f32 0x7F800000#32
  let main_v1 : FVec F S4096x5120 .f32 := broadcastInDim S4096x5120 ![] bcast_S_S4096x5120 main_cst
  let main_v2 : IVec S4096x5120 1 := cmpf .olt main_v0 main_v1
  let main_c : IVec S_ 1 := constantI S_ 1 1#1
  let main_v3 : IVec S_ 1 := (fun x v => Host.reduce IntOp.andi x v reducesTo_S4096x5120_S_d0_1 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : FVec F S4x4096 .f32 := Host.absf main_arg2
  let main_cst_2 : FVec F S_ .f32 := constant S_ .f32 0x7F800000#32
  let main_v9 : FVec F S4x4096 .f32 := broadcastInDim S4x4096 ![] bcast_S_S4x4096 main_cst_2
  let main_v10 : IVec S4x4096 1 := cmpf .olt main_v8 main_v9
  let main_c_3 : IVec S_ 1 := constantI S_ 1 1#1
  let main_v11 : IVec S_ 1 := (fun x v => Host.reduce IntOp.andi x v reducesTo_S4x4096_S_d0_1 h_S_) main_v10 main_c_3
  let main_v12 : FVec F S4x4096x64 .f32 := Host.absf main_arg3
  let main_cst_4 : FVec F S_ .f32 := constant S_ .f32 0x7F800000#32
  let main_v13 : FVec F S4x4096x64 .f32 := broadcastInDim S4x4096x64 ![] bcast_S_S4x4096x64 main_cst_4
  let main_v14 : IVec S4x4096x64 1 := cmpf .olt main_v12 main_v13
  let main_c_5 : IVec S_ 1 := constantI S_ 1 1#1
  let main_v15 : IVec S_ 1 := (fun x v => Host.reduce IntOp.andi x v reducesTo_S4x4096x64_S_d0_1_2 h_S_) main_v14 main_c_5
  fn_part1 (F := F) main_arg4 main_arg5 main_v3 main_v7 main_v11 main_v15
-- ==== Pre_finite6.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x1024 .f32) (main_arg1 : FVec F S4096x2816 .f32) (main_arg2 : FVec F S4096x2816 .f32) (main_arg3 : FVec F S2816x1024 .f32) (main_arg4 : FVec F S4096x1024 .f32) : IVec S_ 1 :=
  let main_v0 : FVec F S4096x2816 .f32 := Host.absf main_arg2
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S2816x1024 .f32 := Host.absf main_arg3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : FVec F S4096x1024 .f32 := Host.absf main_arg4
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  let main_v12 : IVec S_ 1 := andi main_v3 main_v7
  let main_v13 : IVec S_ 1 := andi main_v12 main_v11
  main_v13
-- ==== Pre_finite7.lean ====
abbrev S4096x1024 : Shape := ⟨2, ![4096, 1024]⟩
abbrev S1024 : Shape := ⟨1, ![1024]⟩
abbrev S1024x2816 : Shape := ⟨2, ![1024, 2816]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S4096x1024 .f32) (main_arg1 : FVec F S1024 .f32) (main_arg2 : FVec F S1024x2816 .f32) (main_arg3 : FVec F S1024x2816 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2816 .f32 := Host.absf main_arg3
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  main_v8
-- ==== Kernel.lean ====
abbrev S4096x5120 : Shape := ⟨2, ![4096, 5120]⟩
abbrev S4x4096x64 : Shape := ⟨3, ![4, 4096, 64]⟩
abbrev S4x4096 : Shape := ⟨2, ![4, 4096]⟩
abbrev S4096x256 : Shape := ⟨2, ![4096, 256]⟩
abbrev S4096x4x64 : Shape := ⟨3, ![4096, 4, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x4096x4096 : Shape := ⟨3, ![4, 4096, 4096]⟩
abbrev S4x4096x1 : Shape := ⟨3, ![4, 4096, 1]⟩
abbrev S1x4x4096 : Shape := ⟨3, ![1, 4, 4096]⟩
abbrev S3x4x4096 : Shape := ⟨3, ![3, 4, 4096]⟩
abbrev S3x4x4096x1 : Shape := ⟨4, ![3, 4, 4096, 1]⟩
abbrev S1x4x4096x64 : Shape := ⟨4, ![1, 4, 4096, 64]⟩
abbrev S3x4x4096x64 : Shape := ⟨4, ![3, 4, 4096, 64]⟩
abbrev S4096x4 : Shape := ⟨2, ![4096, 4]⟩
abbrev S4096x4x1 : Shape := ⟨3, ![4096, 4, 1]⟩
abbrev S4096x128 : Shape := ⟨2, ![4096, 128]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 124
  | .vmem => 18
  | .smem => 0
  | _ => 0

abbrev bufTy : (tb : Table) → Fin (tcTables nBuf tb) → BufTy
  | .hbm, ⟨0, _⟩ => ⟨S4096x5120, .f32⟩
  | .hbm, ⟨1, _⟩ => ⟨S4x4096x64, .f32⟩
  | .hbm, ⟨2, _⟩ => ⟨S4x4096, .f32⟩
  | .hbm, ⟨3, _⟩ => ⟨S4x4096x64, .f32⟩
  | .hbm, ⟨4, _⟩ => ⟨S4x4096, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x4x64, .f32⟩
  | .hbm, ⟨10, _⟩ => ⟨S4x4096x64, .f32⟩
  | .hbm, ⟨11, _⟩ => ⟨S4096x4x64, .f32⟩
  | .hbm, ⟨12, _⟩ => ⟨S4x4096x64, .f32⟩
  | .hbm, ⟨13, _⟩ => ⟨S4096x4x64, .f32⟩
  | .hbm, ⟨14, _⟩ => ⟨S4x4096x64, .f32⟩
  | .hbm, ⟨15, _⟩ => ⟨S4096, .i32⟩
  | .hbm, ⟨16, _⟩ => ⟨S4096x1, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i32⟩
  | .hbm, ⟨21, _⟩ => ⟨S_, .i32⟩
  | .hbm, ⟨22, _⟩ => ⟨S4096x4096, .i32⟩
  | .hbm, ⟨23, _⟩ => ⟨S4096x4096, .i1⟩
  | .hbm, ⟨24, _⟩ => ⟨S_, .i32⟩
  | .hbm, ⟨25, _⟩ => ⟨S4096x4096, .i32⟩
  | .hbm, ⟨26, _⟩ => ⟨S4096x4096, .i1⟩
  | .hbm, ⟨27, _⟩ => ⟨S4096x4096, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S4096x4096, .i32⟩
  | .hbm, ⟨35, _⟩ => ⟨S4096x4096, .i32⟩
  | .hbm, ⟨36, _⟩ => ⟨S_, .i32⟩
  | .hbm, ⟨37, _⟩ => ⟨S4096x4096, .i32⟩
  | .hbm, ⟨38, _⟩ => ⟨S4096x4096, .i1⟩
  | .hbm, ⟨39, _⟩ => ⟨S_, .i32⟩
  | .hbm, ⟨40, _⟩ => ⟨S4096x4096, .i32⟩
  | .hbm, ⟨41, _⟩ => ⟨S4096x4096, .i1⟩
  | .hbm, ⟨42, _⟩ => ⟨S_, .i32⟩
  | .hbm, ⟨43, _⟩ => ⟨S_, .i1⟩
  | .hbm, ⟨44, _⟩ => ⟨S4096x4096, .i1⟩
  | .hbm, ⟨45, _⟩ => ⟨S4096x4096, .i1⟩
  | .hbm, ⟨46, _⟩ => ⟨S4096x4096, .i1⟩
  | .hbm, ⟨47, _⟩ => ⟨S4096x4096, .i32⟩
  | .hbm, ⟨48, _⟩ => ⟨S4096x4096, .i32⟩
  | .hbm, ⟨49, _⟩ => ⟨S4096x4096, .i32⟩
  | .hbm, ⟨50, _⟩ => ⟨S_, .i32⟩
  | .hbm, ⟨51, _⟩ => ⟨S4096x4096, .i32⟩
  | .hbm, ⟨52, _⟩ => ⟨S4096x4096, .i1⟩
  | .hbm, ⟨53, _⟩ => ⟨S4096x4096, .i1⟩
  | .hbm, ⟨54, _⟩ => ⟨S4x4096x4096, .f32⟩
  | .hbm, ⟨55, _⟩ => ⟨S_, .f32⟩
  | .hbm, ⟨56, _⟩ => ⟨S4x4096x4096, .f32⟩
  | .hbm, ⟨57, _⟩ => ⟨S4x4096x4096, .f32⟩
  | .hbm, ⟨58, _⟩ => ⟨S_, .f32⟩
  | .hbm, ⟨59, _⟩ => ⟨S_, .f32⟩
  | .hbm, ⟨60, _⟩ => ⟨S4x4096x4096, .i1⟩
  | .hbm, ⟨61, _⟩ => ⟨S4x4096x4096, .f32⟩
  | .hbm, ⟨62, _⟩ => ⟨S4x4096x4096, .f32⟩
  | .hbm, ⟨63, _⟩ => ⟨S_, .f32⟩
  | .hbm, ⟨64, _⟩ => ⟨S4x4096, .f32⟩
  | .hbm, ⟨65, _⟩ => ⟨S4x4096x1, .f32⟩
  | .hbm, ⟨66, _⟩ => ⟨S4x4096x4096, .f32⟩
  | .hbm, ⟨67, _⟩ => ⟨S4x4096x4096, .f32⟩
  | .hbm, ⟨68, _⟩ => ⟨S4x4096x4096, .f32⟩
  | .hbm, ⟨69, _⟩ => ⟨S_, .f32⟩
  | .hbm, ⟨70, _⟩ => ⟨S4x4096, .f32⟩
  | .hbm, ⟨71, _⟩ => ⟨S4x4096x1, .f32⟩
  | .hbm, ⟨72, _⟩ => ⟨S4x4096x64, .f32⟩
  | .hbm, ⟨73, _⟩ => ⟨S4x4096x64, .f32⟩
  | .hbm, ⟨74, _⟩ => ⟨S4x4096x64, .f32⟩
  | .hbm, ⟨75, _⟩ => ⟨S4x4096x1, .f32⟩
  | .hbm, ⟨76, _⟩ => ⟨S4x4096x1, .f32⟩
  | .hbm, ⟨77, _⟩ => ⟨S4x4096, .f32⟩
  | .hbm, ⟨78, _⟩ => ⟨S1x4x4096, .f32⟩
  | .hbm, ⟨79, _⟩ => ⟨S1x4x4096, .f32⟩
  | .hbm, ⟨80, _⟩ => ⟨S1x4x4096, .f32⟩
  | .hbm, ⟨81, _⟩ => ⟨S3x4x4096, .f32⟩
  | .hbm, ⟨82, _⟩ => ⟨S_, .f32⟩
  | .hbm, ⟨83, _⟩ => ⟨S4x4096, .f32⟩
  | .hbm, ⟨84, _⟩ => ⟨S_, .f32⟩
  | .hbm, ⟨85, _⟩ => ⟨S4x4096, .f32⟩
  | .hbm, ⟨86, _⟩ => ⟨S4x4096, .f32⟩
  | .hbm, ⟨87, _⟩ => ⟨S1x4x4096, .f32⟩
  | .hbm, ⟨88, _⟩ => ⟨S3x4x4096, .f32⟩
  | .hbm, ⟨89, _⟩ => ⟨S3x4x4096, .f32⟩
  | .hbm, ⟨90, _⟩ => ⟨S3x4x4096, .f32⟩
  | .hbm, ⟨91, _⟩ => ⟨S_, .f32⟩
  | .hbm, ⟨92, _⟩ => ⟨S4x4096, .f32⟩
  | .hbm, ⟨93, _⟩ => ⟨S1x4x4096, .f32⟩
  | .hbm, ⟨94, _⟩ => ⟨S3x4x4096, .f32⟩
  | .hbm, ⟨95, _⟩ => ⟨S3x4x4096, .f32⟩
  | .hbm, ⟨96, _⟩ => ⟨S3x4x4096x1, .f32⟩
  | .hbm, ⟨97, _⟩ => ⟨S1x4x4096x64, .f32⟩
  | .hbm, ⟨98, _⟩ => ⟨S1x4x4096x64, .f32⟩
  | .hbm, ⟨99, _⟩ => ⟨S1x4x4096x64, .f32⟩
  | .hbm, ⟨100, _⟩ => ⟨S3x4x4096x64, .f32⟩
  | .hbm, ⟨101, _⟩ => ⟨S3x4x4096x64, .f32⟩
  | .hbm, ⟨102, _⟩ => ⟨S3x4x4096x64, .f32⟩
  | .hbm, ⟨103, _⟩ => ⟨S_, .f32⟩
  | .hbm, ⟨104, _⟩ => ⟨S4x4096x64, .f32⟩
  | .hbm, ⟨105, _⟩ => ⟨S4096x4x64, .f32⟩
  | .hbm, ⟨106, _⟩ => ⟨S4096x256, .f32⟩
  | .hbm, ⟨107, _⟩ => ⟨S_, .f32⟩
  | .hbm, ⟨108, _⟩ => ⟨S4x4096, .f32⟩
  | .hbm, ⟨109, _⟩ => ⟨S1x4x4096, .f32⟩
  | .hbm, ⟨110, _⟩ => ⟨S3x4x4096, .f32⟩
  | .hbm, ⟨111, _⟩ => ⟨S3x4x4096, .f32⟩
  | .hbm, ⟨112, _⟩ => ⟨S3x4x4096, .f32⟩
  | .hbm, ⟨113, _⟩ => ⟨S_, .f32⟩
  | .hbm, ⟨114, _⟩ => ⟨S4x4096, .f32⟩
  | .hbm, ⟨115, _⟩ => ⟨S4x4096, .f32⟩
  | .hbm, ⟨116, _⟩ => ⟨S4x4096, .f32⟩
  | .hbm, ⟨117, _⟩ => ⟨S4096x4, .f32⟩
  | .hbm, ⟨118, _⟩ => ⟨S4096x4x1, .f32⟩
  | .hbm, ⟨119, _⟩ => ⟨S4096x4x64, .f32⟩
  | .hbm, ⟨120, _⟩ => ⟨S4096x256, .f32⟩
  | .hbm, ⟨121, _⟩ => ⟨S4096x256, .f32⟩
  | .hbm, ⟨122, _⟩ => ⟨S4096x256, .f32⟩
  | .hbm, ⟨123, _⟩ => ⟨S4096x256, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_v5 : Ref sig .tc := ⟨.hbm, 37, rfl⟩
abbrev main_call0_v6 : Ref sig .tc := ⟨.hbm, 38, rfl⟩
abbrev main_call0_c_2 : Ref sig .tc := ⟨.hbm, 39, rfl⟩
abbrev main_call0_v7 : Ref sig .tc := ⟨.hbm, 40, rfl⟩
abbrev main_call0_v8 : Ref sig .tc := ⟨.hbm, 41, rfl⟩
abbrev main_call0_c_3 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v20 : Ref sig .tc := ⟨.hbm, 49, rfl⟩
abbrev main_c_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst : Ref sig .tc := ⟨.hbm, 55, rfl⟩
abbrev main_v25 : Ref sig .tc := ⟨.hbm, 56, rfl⟩
abbrev main_v26 : Ref sig .tc := ⟨.hbm, 57, rfl⟩
abbrev main_cst_3 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_5 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_6 : Ref sig .tc := ⟨.hbm, 82, rfl⟩
abbrev main_v45 : Ref sig .tc := ⟨.hbm, 83, rfl⟩
abbrev main_cst_7 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_8 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_9 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_10 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_11 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78_0 : Ref sig .tc := ⟨.hbm, 121, rfl⟩
abbrev main_v78_1 : Ref sig .tc := ⟨.hbm, 122, rfl⟩
abbrev main_v78_2 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_off1 (k0_t1 : Fin k0_t1_loop.trips) (c0_i32_2 : BitVec 32) : Fin 2 → Nat :=
  let c2_i32 : BitVec 32 := 2#32
  let c0_i32 : BitVec 32 := 0#32
  let c1_i32 : BitVec 32 := 1#32
  let arg10 : BitVec 32 := Scf.iv c0_i32 c1_i32 k0_t1
  let v7 : BitVec 32 := Scalar.muli c2_i32 arg10
  let v8 : BitVec 32 := Scalar.addi v7 c0_i32_2
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c4_i32 : BitVec 32 := 4#32
  let c0_i32_5 : BitVec 32 := 0#32
  let v15 : BitVec 1 := Scalar.cmpi .sgt c4_i32 c0_i32_5
  let v16 : BitVec 32 := Scalar.extui v15
  let c0_i32_6 : BitVec 32 := 0#32
  let v17 : BitVec 1 := Scalar.cmpi .slt c4_i32 c0_i32_6
  let v18 : BitVec 32 := Scalar.extui v17
  let v19 : BitVec 32 := Scalar.subi v16 v18
  let v20 : BitVec 1 := Scalar.cmpi .ne v14 v19
  let v21 : BitVec 32 := Scalar.remsi v8 c4_i32
  let c0_i32_7 : BitVec 32 := 0#32
  let v22 : BitVec 1 := Scalar.cmpi .ne v21 c0_i32_7
  let v23 : BitVec 1 := Scalar.andi v20 v22
  let v9 : BitVec 32 := Scalar.divsi v8 c4_i32
  let c1_i32_8 : BitVec 32 := 1#32
  let v24 : BitVec 32 := Scalar.subi v9 c1_i32_8
  let v25 : BitVec 32 := Scalar.select v23 v24 v9
  let c512_i32 : BitVec 32 := 512#32
  let v28 : BitVec 32 := Scalar.muli v25 c512_i32
  let c4_i32_9 : BitVec 32 := 4#32
  let v26 : BitVec 32 := Scalar.muli v25 c4_i32_9
  let v27 : BitVec 32 := Scalar.subi v8 v26
  let v29 : BitVec 32 := Scalar.addi v28 v27
  let v61 : Index := Scalar.indexCast v29
  let c0 : Index := 0#32
  ![v61.toNat, 0]
def k0_off2 (k0_t1 : Fin k0_t1_loop.trips) (c0_i32_2 : BitVec 32) : Fin 2 → Nat :=
  let c2_i32 : BitVec 32 := 2#32
  let c0_i32 : BitVec 32 := 0#32
  let c1_i32 : BitVec 32 := 1#32
  let arg10 : BitVec 32 := Scf.iv c0_i32 c1_i32 k0_t1
  let v7 : BitVec 32 := Scalar.muli c2_i32 arg10
  let v8 : BitVec 32 := Scalar.addi v7 c0_i32_2
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c4_i32 : BitVec 32 := 4#32
  let c0_i32_5 : BitVec 32 := 0#32
  let v15 : BitVec 1 := Scalar.cmpi .sgt c4_i32 c0_i32_5
  let v16 : BitVec 32 := Scalar.extui v15
  let c0_i32_6 : BitVec 32 := 0#32
  let v17 : BitVec 1 := Scalar.cmpi .slt c4_i32 c0_i32_6
  let v18 : BitVec 32 := Scalar.extui v17
  let v19 : BitVec 32 := Scalar.subi v16 v18
  let v20 : BitVec 1 := Scalar.cmpi .ne v14 v19
  let v21 : BitVec 32 := Scalar.remsi v8 c4_i32
  let c0_i32_7 : BitVec 32 := 0#32
  let v22 : BitVec 1 := Scalar.cmpi .ne v21 c0_i32_7
  let v23 : BitVec 1 := Scalar.andi v20 v22
  let v9 : BitVec 32 := Scalar.divsi v8 c4_i32
  let c1_i32_8 : BitVec 32 := 1#32
  let v24 : BitVec 32 := Scalar.subi v9 c1_i32_8
  let v25 : BitVec 32 := Scalar.select v23 v24 v9
  let c1_i32_10 : BitVec 32 := 1#32
  let v30 : BitVec 32 := Scalar.subi v25 c1_i32_10
  let c0_i32_11 : BitVec 32 := 0#32
  let v31 : BitVec 32 := Scalar.maxsi v30 c0_i32_11
  let c512_i32_12 : BitVec 32 := 512#32
  let v32 : BitVec 32 := Scalar.muli v31 c512_i32_12
  let c4_i32_9 : BitVec 32 := 4#32
  let v26 : BitVec 32 := Scalar.muli v25 c4_i32_9
  let v27 : BitVec 32 := Scalar.subi v8 v26
  let v33 : BitVec 32 := Scalar.addi v32 v27
  let v81 : Index := Scalar.indexCast v33
  let c0_33 : Index := 0#32
  ![v81.toNat, 0]
def cc0_transform_0 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x5120 : Shape := ⟨2, ![4096, 5120]⟩
abbrev S4x4096x64 : Shape := ⟨3, ![4, 4096, 64]⟩
abbrev S4x4096 : Shape := ⟨2, ![4, 4096]⟩
abbrev S4096x256 : Shape := ⟨2, ![4096, 256]⟩
abbrev S4096x4x64 : Shape := ⟨3, ![4096, 4, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x4096x4096 : Shape := ⟨3, ![4, 4096, 4096]⟩
abbrev S4x4096x1 : Shape := ⟨3, ![4, 4096, 1]⟩
abbrev S1x4x4096 : Shape := ⟨3, ![1, 4, 4096]⟩
abbrev S3x4x4096 : Shape := ⟨3, ![3, 4, 4096]⟩
abbrev S3x4x4096x1 : Shape := ⟨4, ![3, 4, 4096, 1]⟩
abbrev S1x4x4096x64 : Shape := ⟨4, ![1, 4, 4096, 64]⟩
abbrev S3x4x4096x64 : Shape := ⟨4, ![3, 4, 4096, 64]⟩
abbrev S4x64x4096 : Shape := ⟨3, ![4, 64, 4096]⟩

abbrev nBuf : Space → Nat
  | .hbm => 233
  | .vmem => 0
  | .smem => 0
  | _ => 0

abbrev hbmTy0_0 (i : Nat) : BufTy := match i % 128 with
  | 0 => ⟨S4096x5120, .f32⟩
  | 1 => ⟨S4x4096x64, .f32⟩
  | 2 => ⟨S4x4096, .f32⟩
  | 3 => ⟨S4x4096x64, .f32⟩
  | 4 => ⟨S4x4096, .f32⟩
  | 5 => ⟨S4096x256, .f32⟩
  | 6 => ⟨S4096x256, .f32⟩
  | 7 => ⟨S4096x256, .f32⟩
  | 8 => ⟨S4096x256, .f32⟩
  | 9 => ⟨S4096x4x64, .f32⟩
  | 10 => ⟨S4x4096x64, .f32⟩
  | 11 => ⟨S4096x4x64, .f32⟩
  | 12 => ⟨S4x4096x64, .f32⟩
  | 13 => ⟨S4096x4x64, .f32⟩
  | 14 => ⟨S4x4096x64, .f32⟩
  | 15 => ⟨S4096, .i32⟩
  | 16 => ⟨S4096x1, .i32⟩
  | 17 => ⟨S1x4096, .i32⟩
  | 18 => ⟨S4096x4096, .i32⟩
  | 19 => ⟨S4096x4096, .i32⟩
  | 20 => ⟨S4096x4096, .i32⟩
  | 21 => ⟨S_, .i32⟩
  | 22 => ⟨S4096x4096, .i32⟩
  | 23 => ⟨S4096x4096, .i1⟩
  | 24 => ⟨S_, .i32⟩
  | 25 => ⟨S4096x4096, .i32⟩
  | 26 => ⟨S4096x4096, .i1⟩
  | 27 => ⟨S4096x4096, .i1⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S4096x4096, .i32⟩
  | 35 => ⟨S4096x4096, .i32⟩
  | 36 => ⟨S_, .i32⟩
  | 37 => ⟨S4096x4096, .i32⟩
  | 38 => ⟨S4096x4096, .i1⟩
  | 39 => ⟨S_, .i32⟩
  | 40 => ⟨S4096x4096, .i32⟩
  | 41 => ⟨S4096x4096, .i1⟩
  | 42 => ⟨S_, .i32⟩
  | 43 => ⟨S_, .i1⟩
  | 44 => ⟨S4096x4096, .i1⟩
  | 45 => ⟨S4096x4096, .i1⟩
  | 46 => ⟨S4096x4096, .i1⟩
  | 47 => ⟨S4096x4096, .i32⟩
  | 48 => ⟨S4096x4096, .i32⟩
  | 49 => ⟨S4096x4096, .i32⟩
  | 50 => ⟨S_, .i32⟩
  | 51 => ⟨S4096x4096, .i32⟩
  | 52 => ⟨S4096x4096, .i1⟩
  | 53 => ⟨S4096x4096, .i1⟩
  | 54 => ⟨S4x4096x4096, .f32⟩
  | 55 => ⟨S_, .f32⟩
  | 56 => ⟨S4x4096x4096, .f32⟩
  | 57 => ⟨S4x4096x4096, .f32⟩
  | 58 => ⟨S_, .f32⟩
  | 59 => ⟨S_, .f32⟩
  | 60 => ⟨S4x4096x4096, .i1⟩
  | 61 => ⟨S4x4096x4096, .f32⟩
  | 62 => ⟨S4x4096x4096, .f32⟩
  | 63 => ⟨S_, .f32⟩
  | 64 => ⟨S4x4096x4096, .f32⟩
  | 65 => ⟨S_, .f32⟩
  | 66 => ⟨S4x4096, .f32⟩
  | 67 => ⟨S4x4096x1, .f32⟩
  | 68 => ⟨S4x4096x4096, .f32⟩
  | 69 => ⟨S4x4096x4096, .i1⟩
  | 70 => ⟨S4x4096x4096, .f32⟩
  | 71 => ⟨S_, .f32⟩
  | 72 => ⟨S4x4096, .f32⟩
  | 73 => ⟨S4x4096x1, .f32⟩
  | 74 => ⟨S4x4096x4096, .f32⟩
  | 75 => ⟨S4x4096x4096, .f32⟩
  | 76 => ⟨S4x4096x4096, .f32⟩
  | 77 => ⟨S_, .f32⟩
  | 78 => ⟨S4x4096, .f32⟩
  | 79 => ⟨S4x4096x1, .f32⟩
  | 80 => ⟨S4x4096x64, .f32⟩
  | 81 => ⟨S4x4096x64, .f32⟩
  | 82 => ⟨S4x4096x64, .f32⟩
  | 83 => ⟨S4x4096x1, .f32⟩
  | 84 => ⟨S_, .f32⟩
  | 85 => ⟨S4x4096x1, .f32⟩
  | 86 => ⟨S4x4096x1, .f32⟩
  | 87 => ⟨S4x4096x1, .f32⟩
  | 88 => ⟨S4x4096x1, .f32⟩
  | 89 => ⟨S4x4096, .f32⟩
  | 90 => ⟨S1x4x4096, .f32⟩
  | 91 => ⟨S1x4x4096, .f32⟩
  | 92 => ⟨S1x4x4096, .f32⟩
  | 93 => ⟨S3x4x4096, .f32⟩
  | 94 => ⟨S_, .f32⟩
  | 95 => ⟨S4x4096, .f32⟩
  | 96 => ⟨S_, .f32⟩
  | 97 => ⟨S4x4096, .f32⟩
  | 98 => ⟨S_, .f32⟩
  | 99 => ⟨S4x4096, .f32⟩
  | 100 => ⟨S1x4x4096, .f32⟩
  | 101 => ⟨S3x4x4096, .f32⟩
  | 102 => ⟨S3x4x4096, .i1⟩
  | 103 => ⟨S3x4x4096, .f32⟩
  | 104 => ⟨S_, .f32⟩
  | 105 => ⟨S4x4096, .f32⟩
  | 106 => ⟨S_, .f32⟩
  | 107 => ⟨S4x4096, .f32⟩
  | 108 => ⟨S4x4096, .f32⟩
  | 109 => ⟨S_, .f32⟩
  | 110 => ⟨S4x4096, .f32⟩
  | 111 => ⟨S4x4096, .i1⟩
  | 112 => ⟨S_, .f32⟩
  | 113 => ⟨S4x4096, .f32⟩
  | 114 => ⟨S4x4096, .i1⟩
  | 115 => ⟨S_, .f32⟩
  | 116 => ⟨S4x4096, .f32⟩
  | 117 => ⟨S_, .f32⟩
  | 118 => ⟨S4x4096, .f32⟩
  | 119 => ⟨S_, .f32⟩
  | 120 => ⟨S4x4096, .f32⟩
  | 121 => ⟨S4x4096, .f32⟩
  | 122 => ⟨S4x4096, .f32⟩
  | 123 => ⟨S1x4x4096, .f32⟩
  | 124 => ⟨S3x4x4096, .f32⟩
  | 125 => ⟨S3x4x4096, .f32⟩
  | 126 => ⟨S3x4x4096, .f32⟩
  | 127 => ⟨S_, .f32⟩
  | _ => ⟨S4096x5120, .f32⟩

abbrev hbmTy0_1 (i : Nat) : BufTy := match i % 128 with
  | 0 => ⟨S4x4096, .f32⟩
  | 1 => ⟨S1x4x4096, .f32⟩
  | 2 => ⟨S3x4x4096, .f32⟩
  | 3 => ⟨S3x4x4096, .f32⟩
  | 4 => ⟨S1x4x4096, .f32⟩
  | 5 => ⟨S_, .f32⟩
  | 6 => ⟨S1x4x4096, .f32⟩
  | 7 => ⟨S1x4x4096, .f32⟩
  | 8 => ⟨S3x4x4096x1, .f32⟩
  | 9 => ⟨S1x4x4096x64, .f32⟩
  | 10 => ⟨S1x4x4096x64, .f32⟩
  | 11 => ⟨S1x4x4096x64, .f32⟩
  | 12 => ⟨S3x4x4096x64, .f32⟩
  | 13 => ⟨S_, .f32⟩
  | 14 => ⟨S4x4096x64, .f32⟩
  | 15 => ⟨S_, .f32⟩
  | 16 => ⟨S4x4096x64, .f32⟩
  | 17 => ⟨S3x4x4096x64, .f32⟩
  | 18 => ⟨S3x4x4096x64, .f32⟩
  | 19 => ⟨S_, .f32⟩
  | 20 => ⟨S4x4096x64, .f32⟩
  | 21 => ⟨S4096x4x64, .f32⟩
  | 22 => ⟨S4096x256, .f32⟩
  | 23 => ⟨S4096x4x64, .f32⟩
  | 24 => ⟨S4x4096x64, .f32⟩
  | 25 => ⟨S3x4x4096x64, .f32⟩
  | 26 => ⟨S3x4x4096x64, .f32⟩
  | 27 => ⟨S3x4x4096x64, .f32⟩
  | 28 => ⟨S3x4x4096x64, .f32⟩
  | 29 => ⟨S_, .f32⟩
  | 30 => ⟨S3x4x4096, .f32⟩
  | 31 => ⟨S3x4x4096x1, .f32⟩
  | 32 => ⟨S1x4x4096x64, .f32⟩
  | 33 => ⟨S4x4096x64, .f32⟩
  | 34 => ⟨S1x4x4096x64, .f32⟩
  | 35 => ⟨S4x4096x64, .f32⟩
  | 36 => ⟨S1x4x4096x64, .f32⟩
  | 37 => ⟨S4x4096x64, .f32⟩
  | 38 => ⟨S_, .f32⟩
  | 39 => ⟨S3x4x4096, .f32⟩
  | 40 => ⟨S3x4x4096, .f32⟩
  | 41 => ⟨S3x4x4096, .f32⟩
  | 42 => ⟨S3x4x4096, .f32⟩
  | 43 => ⟨S_, .f32⟩
  | 44 => ⟨S4x4096, .f32⟩
  | 45 => ⟨S1x4x4096, .f32⟩
  | 46 => ⟨S1x4x4096, .f32⟩
  | 47 => ⟨S3x4x4096, .f32⟩
  | 48 => ⟨S3x4x4096, .f32⟩
  | 49 => ⟨S_, .f32⟩
  | 50 => ⟨S4x4096, .f32⟩
  | 51 => ⟨S3x4x4096, .f32⟩
  | 52 => ⟨S3x4x4096, .f32⟩
  | 53 => ⟨S3x4x4096, .f32⟩
  | 54 => ⟨S1x4x4096, .f32⟩
  | 55 => ⟨S4x4096, .f32⟩
  | 56 => ⟨S1x4x4096, .f32⟩
  | 57 => ⟨S4x4096, .f32⟩
  | 58 => ⟨S1x4x4096, .f32⟩
  | 59 => ⟨S4x4096, .f32⟩
  | 60 => ⟨S4x4096x1, .f32⟩
  | 61 => ⟨S4x4096x1, .f32⟩
  | 62 => ⟨S4x4096x64, .f32⟩
  | 63 => ⟨S4x4096x64, .f32⟩
  | 64 => ⟨S4x4096x64, .f32⟩
  | 65 => ⟨S_, .f32⟩
  | 66 => ⟨S4x4096, .f32⟩
  | 67 => ⟨S4x4096x1, .f32⟩
  | 68 => ⟨S4x4096x1, .f32⟩
  | 69 => ⟨S4x4096x1, .f32⟩
  | 70 => ⟨S4x4096x64, .f32⟩
  | 71 => ⟨S4x4096x64, .f32⟩
  | 72 => ⟨S4x64x4096, .f32⟩
  | 73 => ⟨S4x4096x64, .f32⟩
  | 74 => ⟨S4x4096x4096, .f32⟩
  | 75 => ⟨S_, .f32⟩
  | 76 => ⟨S4x4096, .f32⟩
  | 77 => ⟨S4x4096x4096, .f32⟩
  | 78 => ⟨S4x4096x4096, .f32⟩
  | 79 => ⟨S4x4096x4096, .f32⟩
  | 80 => ⟨S4x4096x4096, .f32⟩
  | 81 => ⟨S_, .f32⟩
  | 82 => ⟨S4x4096, .f32⟩
  | 83 => ⟨S4x4096x1, .f32⟩
  | 84 => ⟨S4x4096x1, .f32⟩
  | 85 => ⟨S_, .f32⟩
  | 86 => ⟨S4x4096, .f32⟩
  | 87 => ⟨S4x4096, .f32⟩
  | 88 => ⟨S4x4096x4096, .f32⟩
  | 89 => ⟨S4x4096x4096, .f32⟩
  | 90 => ⟨S4x4096x4096, .f32⟩
  | 91 => ⟨S_, .f32⟩
  | 92 => ⟨S4x4096x4096, .f32⟩
  | 93 => ⟨S4x4096x4096, .f32⟩
  | 94 => ⟨S_, .f32⟩
  | 95 => ⟨S4x4096x4096, .f32⟩
  | 96 => ⟨S4x4096x4096, .f32⟩
  | 97 => ⟨S4x4096x64, .f32⟩
  | 98 => ⟨S4x4096x64, .f32⟩
  | 99 => ⟨S4096x4x64, .f32⟩
  | 100 => ⟨S4096x256, .f32⟩
  | 101 => ⟨S4096x4x64, .f32⟩
  | 102 => ⟨S4096x256, .f32⟩
  | 103 => ⟨S4096x4x64, .f32⟩
  | 104 => ⟨S4096x256, .f32⟩
  | _ => ⟨S4096x5120, .f32⟩

abbrev hbmTy (i : Nat) : BufTy := match i / 128 with
  | 0 => hbmTy0_0 i
  | 1 => hbmTy0_1 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_v5 : Ref sig .tc := ⟨.hbm, 37, rfl⟩
abbrev main_call0_v6 : Ref sig .tc := ⟨.hbm, 38, rfl⟩
abbrev main_call0_c_2 : Ref sig .tc := ⟨.hbm, 39, rfl⟩
abbrev main_call0_v7 : Ref sig .tc := ⟨.hbm, 40, rfl⟩
abbrev main_call0_v8 : Ref sig .tc := ⟨.hbm, 41, rfl⟩
abbrev main_call0_c_3 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v20 : Ref sig .tc := ⟨.hbm, 49, rfl⟩
abbrev main_c_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst : Ref sig .tc := ⟨.hbm, 55, rfl⟩
abbrev main_v25 : Ref sig .tc := ⟨.hbm, 56, rfl⟩
abbrev main_v26 : Ref sig .tc := ⟨.hbm, 57, rfl⟩
abbrev main_cst_3 : Ref sig .tc := ⟨.hbm, 58, rfl⟩
abbrev main_call1_v0 : Ref sig .tc := ⟨.hbm, 59, rfl⟩
abbrev main_v27_1 : Ref sig .tc := ⟨.hbm, 60, rfl⟩
abbrev main_call1_v2 : Ref sig .tc := ⟨.hbm, 61, rfl⟩
abbrev main_v27_0 : Ref sig .tc := ⟨.hbm, 62, rfl⟩
abbrev main_call1_cst : Ref sig .tc := ⟨.hbm, 63, rfl⟩
abbrev main_v27_2 : Ref sig .tc := ⟨.hbm, 64, rfl⟩
abbrev main_cst_4 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_5 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_6 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_7 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_8 : Ref sig .tc := ⟨.hbm, 94, rfl⟩
abbrev main_v53 : Ref sig .tc := ⟨.hbm, 95, rfl⟩
abbrev main_cst_9 : Ref sig .tc := ⟨.hbm, 96, rfl⟩
abbrev main_v54 : Ref sig .tc := ⟨.hbm, 97, rfl⟩
abbrev main_cst_10 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_11 : Ref sig .tc := ⟨.hbm, 104, rfl⟩
abbrev main_v60 : Ref sig .tc := ⟨.hbm, 105, rfl⟩
abbrev main_cst_12 : Ref sig .tc := ⟨.hbm, 106, rfl⟩
abbrev main_v61 : Ref sig .tc := ⟨.hbm, 107, rfl⟩
abbrev main_v62 : Ref sig .tc := ⟨.hbm, 108, rfl⟩
abbrev main_cst_13 : Ref sig .tc := ⟨.hbm, 109, rfl⟩
abbrev main_v63 : Ref sig .tc := ⟨.hbm, 110, rfl⟩
abbrev main_v64 : Ref sig .tc := ⟨.hbm, 111, rfl⟩
abbrev main_cst_14 : Ref sig .tc := ⟨.hbm, 112, rfl⟩
abbrev main_v65 : Ref sig .tc := ⟨.hbm, 113, rfl⟩
abbrev main_v66 : Ref sig .tc := ⟨.hbm, 114, rfl⟩
abbrev main_cst_15 : Ref sig .tc := ⟨.hbm, 115, rfl⟩
abbrev main_v67 : Ref sig .tc := ⟨.hbm, 116, rfl⟩
abbrev main_cst_16 : Ref sig .tc := ⟨.hbm, 117, rfl⟩
abbrev main_v68 : Ref sig .tc := ⟨.hbm, 118, rfl⟩
abbrev main_cst_17 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_cst_18 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_19 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_20 : Ref sig .tc := ⟨.hbm, 141, rfl⟩
abbrev main_v88 : Ref sig .tc := ⟨.hbm, 142, rfl⟩
abbrev main_cst_21 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_22 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_23 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_cst_24 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_cst_25 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_cst_26 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_27 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_cst_28 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_cst_29 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_cst_30 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_call2_cst : Ref sig .tc := ⟨.hbm, 219, rfl⟩
abbrev main_call2_v0 : Ref sig .tc := ⟨.hbm, 220, rfl⟩
abbrev main_v155 : Ref sig .tc := ⟨.hbm, 221, rfl⟩
abbrev main_cst_31 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩

abbrev nD : Nat := 1
abbrev τ : Topo := Topo.v7x

variable {F : FTy → Type} [FloatOps F]
-- ==== Kernel2.lean ====
abbrev S4096x2816 : Shape := ⟨2, ![4096, 2816]⟩
abbrev S1024x2816 : Shape := ⟨2, ![1024, 2816]⟩
abbrev S4096x1024 : Shape := ⟨2, ![4096, 1024]⟩
abbrev S1024 : Shape := ⟨1, ![1024]⟩
abbrev S2816x1024 : Shape := ⟨2, ![2816, 1024]⟩
abbrev S1x1024 : Shape := ⟨2, ![1, 1024]⟩
abbrev S8x1024 : Shape := ⟨2, ![8, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 18
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S4096x2816, .bf16⟩
  | .hbm, ⟨8, _⟩ => ⟨S4096x2816, .bf16⟩
  | .hbm, ⟨9, _⟩ => ⟨S2816x1024, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S1x1024, .f32⟩
  | .hbm, ⟨14, _⟩ => ⟨S4096x1024, .f32⟩
  | .hbm, ⟨15, _⟩ => ⟨S8x1024, .f32⟩
  | .hbm, ⟨16, _⟩ => ⟨S1x1024, .f32⟩
  | .hbm, ⟨17, _⟩ => ⟨S1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S8x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_22 : BitVec 32 := 0#32
  let v46 : BitVec 1 := Scalar.cmpi .ne v45 c0_i32_22
  v46

def k0_cond2 (i : grid0.Coords) : BitVec 1 :=
  let arg0 : BitVec 32 := BitVec.ofNat 32 (i 0).val
  let c0_i32_23 : BitVec 32 := 0#32
  let v47 : BitVec 1 := Scalar.cmpi .sgt arg0 c0_i32_23
  let v48 : BitVec 32 := Scalar.extui v47
  let c0_i32_24 : BitVec 32 := 0#32
  let v49 : BitVec 1 := Scalar.cmpi .ne v48 c0_i32_24
  v49

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference2Ideal.lean ====
abbrev S4096x2816 : Shape := ⟨2, ![4096, 2816]⟩
abbrev S1024x2816 : Shape := ⟨2, ![1024, 2816]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel3.lean ====
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .f32⟩
  | .hbm, ⟨3, _⟩ => ⟨S4096x2816, .bf16⟩
  | .hbm, ⟨4, _⟩ => ⟨S4096x1024, .bf16⟩
  | .hbm, ⟨5, _⟩ => ⟨S2816x1024, .bf16⟩
  | .hbm, ⟨6, _⟩ => ⟨S1024x2816, .bf16⟩
  | .hbm, ⟨7, _⟩ => ⟨S1024x2816, .f32⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference3Ideal.lean ====
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .f32⟩
  | .hbm, ⟨3, _⟩ => ⟨S4096x2816, .f32⟩
  | .hbm, ⟨4, _⟩ => ⟨S2816x1024, .f32⟩
  | .hbm, ⟨5, _⟩ => ⟨S1024x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S4096x1024 : Shape := ⟨2, ![4096, 1024]⟩
abbrev S4096x2816 : Shape := ⟨2, ![4096, 2816]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference4Ideal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S4096x2816 : Shape := ⟨2, ![4096, 2816]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .bf16⟩
  | .hbm, ⟨5, _⟩ => ⟨S2816x1024, .bf16⟩
  | .hbm, ⟨6, _⟩ => ⟨S2816x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S2816x1024, .bf16⟩
  | .local _ .vmem, ⟨5, _⟩ => ⟨S2816x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference5Ideal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel6.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩
abbrev S512x1024 : Shape := ⟨2, ![512, 1024]⟩
abbrev S512x2816 : Shape := ⟨2, ![512, 2816]⟩

abbrev nBuf : Space → Nat
  | .hbm => 29
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S2816x1024, .bf16⟩
  | .hbm, ⟨19, _⟩ => ⟨S4096x2816, .bf16⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .bf16⟩
  | .hbm, ⟨25, _⟩ => ⟨S4096x2816, .bf16⟩
  | .hbm, ⟨26, _⟩ => ⟨S4096x2816, .bf16⟩
  | .hbm, ⟨27, _⟩ => ⟨S4096x2816, .f32⟩
  | .hbm, ⟨28, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v0_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v0_1 : Ref sig .tc := ⟨.hbm, 16, rfl⟩
abbrev main_v0_0 : Ref sig .tc := ⟨.hbm, 17, rfl⟩
abbrev main_v1 : Ref sig .tc := ⟨.hbm, 18, rfl⟩
abbrev main_v2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v3 : Ref sig .tc := ⟨.hbm, 23, rfl⟩
abbrev main_v4 : Ref sig .tc := ⟨.hbm, 24, rfl⟩
abbrev main_v5_0 : Ref sig .tc := ⟨.hbm, 25, rfl⟩
abbrev main_v5_1 : Ref sig .tc := ⟨.hbm, 26, rfl⟩
abbrev main_v6 : Ref sig .tc := ⟨.hbm, 27, rfl⟩
abbrev main_v7 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference6Ideal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v0_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v0_1 : Ref sig .tc := ⟨.hbm, 16, rfl⟩
abbrev main_v0_0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v11 : Ref sig .tc := ⟨.hbm, 33, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x2816 : Shape := ⟨2, ![1024, 2816]⟩
abbrev S1x1024 : Shape := ⟨2, ![1, 1024]⟩
abbrev S2816x1024 : Shape := ⟨2, ![2816, 1024]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 17
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S1x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S4096x2816, .bf16⟩
  | .hbm, ⟨10, _⟩ => ⟨S4096x2816, .bf16⟩
  | .hbm, ⟨11, _⟩ => ⟨S4096x2816, .bf16⟩
  | .hbm, ⟨12, _⟩ => ⟨S4096x1024, .bf16⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S2816x1024, .bf16⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x1024, .bf16⟩
  | .local _ .vmem, ⟨12, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference7Ideal.lean ====
abbrev S4096x1024 : Shape := ⟨2, ![4096, 1024]⟩
abbrev S1024 : Shape := ⟨1, ![1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v15_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v15_1 : Ref sig .tc := ⟨.hbm, 33, rfl⟩
abbrev main_v15_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_v17 : Ref sig .tc := ⟨.hbm, 39, rfl⟩

abbrev nD : Nat := 1
abbrev τ : Topo := Topo.v7x

variable {F : FTy → Type} [FloatOps F]
-- ==== Kernel8.lean ====
abbrev S4096x1024 : Shape := ⟨2, ![4096, 1024]⟩
abbrev S1024x5120 : Shape := ⟨2, ![1024, 5120]⟩
abbrev S4096x5120 : Shape := ⟨2, ![4096, 5120]⟩
abbrev S4x1024x1280 : Shape := ⟨3, ![4, 1024, 1280]⟩
abbrev S512x1024 : Shape := ⟨2, ![512, 1024]⟩
abbrev S512x1280 : Shape := ⟨2, ![512, 1280]⟩
abbrev S1x1024x1280 : Shape := ⟨3, ![1, 1024, 1280]⟩
abbrev S1024x1280 : Shape := ⟨2, ![1024, 1280]⟩
abbrev S1024x4x1280 : Shape := ⟨3, ![1024, 4, 1280]⟩

abbrev nBuf : Space → Nat
  | .hbm => 9
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5120, .f32⟩
  | .hbm, ⟨2, _⟩ => ⟨S4096x5120, .f32⟩
  | .hbm, ⟨3, _⟩ => ⟨S4096x1024, .bf16⟩
  | .hbm, ⟨4, _⟩ => ⟨S4096x5120, .bf16⟩
  | .hbm, ⟨5, _⟩ => ⟨S4x1024x1280, .bf16⟩
  | .hbm, ⟨6, _⟩ => ⟨S1024x4x1280, .bf16⟩
  | .hbm, ⟨7, _⟩ => ⟨S1024x5120, .bf16⟩
  | .hbm, ⟨8, _⟩ => ⟨S1024x5120, .f32⟩
  | .local _ .vmem, ⟨0, _⟩ => ⟨S512x1024, .bf16⟩
  | .local _ .vmem, ⟨1, _⟩ => ⟨S512x1024, .bf16⟩
  | .local _ .vmem, ⟨2, _⟩ => ⟨S512x1280, .bf16⟩
  | .local _ .vmem, ⟨3, _⟩ => ⟨S512x1280, .bf16⟩
  | .local _ .vmem, ⟨4, _⟩ => ⟨S1x1024x1280, .bf16⟩
  | .local _ .vmem, ⟨5, _⟩ => ⟨S1x1024x1280, .bf16⟩
  | .local _ .vmem, ⟨6, _⟩ => ⟨S1024x1280, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference8Ideal.lean ====
abbrev S4096x1024 : Shape := ⟨2, ![4096, 1024]⟩
abbrev S1024x5120 : Shape := ⟨2, ![1024, 5120]⟩
abbrev S4096x5120 : Shape := ⟨2, ![4096, 5120]⟩
abbrev S5120x1024 : Shape := ⟨2, ![5120, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5120, .f32⟩
  | .hbm, ⟨2, _⟩ => ⟨S4096x5120, .f32⟩
  | .hbm, ⟨3, _⟩ => ⟨S4096x5120, .f32⟩
  | .hbm, ⟨4, _⟩ => ⟨S5120x1024, .f32⟩
  | .hbm, ⟨5, _⟩ => ⟨S1024x5120, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S4096x5120 : Shape := ⟨2, ![4096, 5120]⟩
abbrev S1024x5120 : Shape := ⟨2, ![1024, 5120]⟩
abbrev S4096x1024 : Shape := ⟨2, ![4096, 1024]⟩
abbrev S1024 : Shape := ⟨1, ![1024]⟩
abbrev S1024x4x1x1280 : Shape := ⟨4, ![1024, 4, 1, 1280]⟩
abbrev S4x1x1024x1280 : Shape := ⟨4, ![4, 1, 1024, 1280]⟩
abbrev S1x1024 : Shape := ⟨2, ![1, 1024]⟩
abbrev S8x1024 : Shape := ⟨2, ![8, 1024]⟩
abbrev S512x5120 : Shape := ⟨2, ![512, 5120]⟩
abbrev S512x1024 : Shape := ⟨2, ![512, 1024]⟩
abbrev S512x1280 : Shape := ⟨2, ![512, 1280]⟩
abbrev S1x1x1024x1280 : Shape := ⟨4, ![1, 1, 1024, 1280]⟩
abbrev S1024x1280 : Shape := ⟨2, ![1024, 1280]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S4096x5120, .f32⟩
  | .hbm, ⟨1, _⟩ => ⟨S1024x5120, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x4x1x1280, .f32⟩
  | .hbm, ⟨6, _⟩ => ⟨S4x1x1024x1280, .f32⟩
  | .hbm, ⟨7, _⟩ => ⟨S4096x5120, .bf16⟩
  | .hbm, ⟨8, _⟩ => ⟨S4x1x1024x1280, .bf16⟩
  | .hbm, ⟨9, _⟩ => ⟨S1x1024, .f32⟩
  | .hbm, ⟨10, _⟩ => ⟨S4096x1024, .f32⟩
  | .hbm, ⟨11, _⟩ => ⟨S8x1024, .f32⟩
  | .hbm, ⟨12, _⟩ => ⟨S1x1024, .f32⟩
  | .hbm, ⟨13, _⟩ => ⟨S1024, .f32⟩
  | .local _ .vmem, ⟨0, _⟩ => ⟨S512x5120, .bf16⟩
  | .local _ .vmem, ⟨1, _⟩ => ⟨S512x5120, .bf16⟩
  | .local _ .vmem, ⟨2, _⟩ => ⟨S4x1x1024x1280, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_34 : BitVec 32 := 0#32
  let v58 : BitVec 1 := Scalar.cmpi .ne v57 c0_i32_34
  v58

def k0_cond2 (i : grid0.Coords) : BitVec 1 :=
  let arg0 : BitVec 32 := BitVec.ofNat 32 (i 0).val
  let c0_i32_35 : BitVec 32 := 0#32
  let v59 : BitVec 1 := Scalar.cmpi .sgt arg0 c0_i32_35
  let v60 : BitVec 32 := Scalar.extui v59
  let c0_i32_36 : BitVec 32 := 0#32
  let v61 : BitVec 1 := Scalar.cmpi .ne v60 c0_i32_36
  v61

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x1x1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference9Ideal.lean ====
abbrev S4096x5120 : Shape := ⟨2, ![4096, 5120]⟩
abbrev S1024x5120 : Shape := ⟨2, ![1024, 5120]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S1024x5120, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5120, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference10Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference11Ideal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel12.lean ====
abbrev S4096x256 : Shape := ⟨2, ![4096, 256]⟩
abbrev S256x1024 : Shape := ⟨2, ![256, 1024]⟩
abbrev S4096x1024 : Shape := ⟨2, ![4096, 1024]⟩
abbrev S512x1024 : Shape := ⟨2, ![512, 1024]⟩
abbrev S512x256 : Shape := ⟨2, ![512, 256]⟩

abbrev nBuf : Space → Nat
  | .hbm => 12
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x1024, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .hbm, ⟨8, _⟩ => ⟨S256x1024, .bf16⟩
  | .hbm, ⟨9, _⟩ => ⟨S256x1024, .bf16⟩
  | .hbm, ⟨10, _⟩ => ⟨S4096x256, .f32⟩
  | .hbm, ⟨11, _⟩ => ⟨S4096x256, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S256x1024, .bf16⟩
  | .local _ .vmem, ⟨5, _⟩ => ⟨S256x1024, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference12Ideal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x1024, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x256, .f32⟩
  | .hbm, ⟨9, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== Proof.Trip.lean ====
module

public import proofs.«01_k».proof.Proof.Gen.KernelIdeal.Loops
public import proofs.«01_k».proof.Proof.Gen.KernelIdeal.Frame
public import Idealize.ShloMosaic.Lib.Writes
public import Idealize.ShloMosaic.Lib.Claim

@[expose] public section

set_option maxRecDepth 16384

noncomputable section

namespace Cert.KernelIdeal.Dil

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The own rows of a block start at `512 u + r`. -/
theorem off1_0 : ∀ k : Fin k0_t1_loop.trips, k0_off1 k 0#32 = ![(2 * k.val) / 4 * 512 + (2 * k.val) % 4, 0] := by decide +kernel
theorem off1_1 : ∀ k : Fin k0_t1_loop.trips, k0_off1 k 1#32 = ![(2 * k.val + 1) / 4 * 512 + (2 * k.val + 1) % 4, 0] := by decide +kernel
theorem off2_0 : ∀ k : Fin k0_t1_loop.trips, k0_off2 k 0#32 = ![((2 * k.val) / 4 - 1) * 512 + (2 * k.val) % 4, 0] := by decide +kernel
theorem off2_1 : ∀ k : Fin k0_t1_loop.trips, k0_off2 k 1#32 = ![((2 * k.val + 1) / 4 - 1) * 512 + (2 * k.val + 1) % 4, 0] := by decide +kernel

instance closed1_0 (k : Fin k0_t1_loop.trips) : ClosedOff (k0_off1 k 0#32) := ⟨_, off1_0 k⟩
instance closed1_1 (k : Fin k0_t1_loop.trips) : ClosedOff (k0_off1 k 1#32) := ⟨_, off1_1 k⟩
instance closed2_0 (k : Fin k0_t1_loop.trips) : ClosedOff (k0_off2 k 0#32) := ⟨_, off2_0 k⟩
instance closed2_1 (k : Fin k0_t1_loop.trips) : ClosedOff (k0_off2 k 1#32) := ⟨_, off2_1 k⟩

/-- The band index of block `2 k + e`, as a word. -/
def uw (k : Fin k0_t1_loop.trips) (e : ℕ) : BitVec 32 := BitVec.ofNat 32 ((2 * k.val + e) / 4)

section Block

variable (w : BitVec 32) (q kp ko vp vo dO o l : Vec F S128x128 .f32)

/-- The probabilities of a block: the two heads' rows stacked, against the previous and own keys. -/
def pB : FVec F S256x256 .f32 :=
  k0_pay28 (k0_pay22 (k0_pay8 k0_pay1 k0_pay2 q) (k0_pay10 kp ko)) (k0_pay26 w) (k0_pay27 k0_pay3 l)

/-- The gradient of a block's scores. -/
def dsB : FVec F S256x256 .bf16 :=
  k0_pay30 (k0_pay18 k0_pay1 k0_pay2 dO o) (k0_pay22 (k0_pay8 k0_pay1 k0_pay2 q) (k0_pay10 kp ko))
    (k0_pay24 (k0_pay12 vp vo) (k0_pay16 k0_pay1 k0_pay2 dO)) (k0_pay26 w) (k0_pay27 k0_pay3 l)

/-- The gradient of a block's queries. -/
def dqB : FVec F S128x128 .f32 :=
  k0_pay39 k0_pay1 k0_pay2
    (matmul dot_S256x256_S256x128_S256x128_1_0_0_1_n_n none (dsB w q kp ko vp vo dO o l) (k0_pay10 kp ko) (constant S256x128 .f32 0x00000000#32))
    (extractStridedSlice S128x128 ![0, 0]
      (matmul dot_S256x256_S256x128_S256x128_1_0_0_1_n_n none (dsB w q kp ko vp vo dO o l) (k0_pay10 kp ko) (constant S256x128 .f32 0x00000000#32))
      slices_S256x128_o0_0_S128x128)

/-- What a block adds to the gradient of the keys it reads. -/
def dkB : FVec F S256x128 .f32 :=
  matmul dot_S256x256_S256x128_S256x128_0_0_1_1_n_n none (dsB w q kp ko vp vo dO o l) (k0_pay8 k0_pay1 k0_pay2 q) (constant S256x128 .f32 0x00000000#32)

/-- What a block adds to the gradient of the values it reads. -/
def dvB : FVec F S256x128 .f32 :=
  matmul dot_S256x256_S256x128_S256x128_0_0_1_1_n_n none (truncf .bf16 (pB w q kp ko l) bitsLt_bf16_f32) (k0_pay16 k0_pay1 k0_pay2 dO) (constant S256x128 .f32 0x00000000#32)

end Block

/-- The own rows of the even and of the odd block of trip `k`, and the rows before them. -/
abbrev own0 (k : Fin k0_t1_loop.trips) : Rect S4096x128 := ⟨⟨k0_off1 k 0#32, S128x128.size, ![4, 1], k0_off1_inb k 0⟩, spos_4_1⟩
abbrev own1 (k : Fin k0_t1_loop.trips) : Rect S4096x128 := ⟨⟨k0_off1 k 1#32, S128x128.size, ![4, 1], k0_off1_inb k 1⟩, spos_4_1⟩
abbrev prev0 (k : Fin k0_t1_loop.trips) : Rect S4096x128 := ⟨⟨k0_off2 k 0#32, S128x128.size, ![4, 1], k0_off2_inb k 0⟩, spos_4_1⟩
abbrev prev1 (k : Fin k0_t1_loop.trips) : Rect S4096x128 := ⟨⟨k0_off2 k 1#32, S128x128.size, ![4, 1], k0_off2_inb k 1⟩, spos_4_1⟩

/-- The rows of an array that a rectangle of 128 rows names. -/
abbrev sub (x : Vec F S4096x128 .f32) (r : Fin 2 → ℕ) (h : ∀ a, S128x128.size a = 0 ∨ r a + (![4, 1] : Fin 2 → ℕ) a * (S128x128.size a - 1) < S4096x128.size a) :
    Vec F S128x128 .f32 :=
  fun y => x (LoadRect.idx (s := S4096x128) ⟨r, S128x128.size, ![4, 1], h⟩ y)

section Arrays

variable (k : Fin k0_t1_loop.trips) (x1 x2 x3 x4 x5 x6 : Vec F S4096x128 .f32)

def dq0 : FVec F S128x128 .f32 :=
  dqB (uw k 0) (sub x1 _ (k0_off1_inb k 0)) (sub x2 _ (k0_off2_inb k 0)) (sub x2 _ (k0_off1_inb k 0)) (sub x3 _ (k0_off2_inb k 0)) (sub x3 _ (k0_off1_inb k 0))
    (sub x4 _ (k0_off1_inb k 0)) (sub x5 _ (k0_off1_inb k 0)) (sub x6 _ (k0_off1_inb k 0))
def dq1 : FVec F S128x128 .f32 :=
  dqB (uw k 1) (sub x1 _ (k0_off1_inb k 1)) (sub x2 _ (k0_off2_inb k 1)) (sub x2 _ (k0_off1_inb k 1)) (sub x3 _ (k0_off2_inb k 1)) (sub x3 _ (k0_off1_inb k 1))
    (sub x4 _ (k0_off1_inb k 1)) (sub x5 _ (k0_off1_inb k 1)) (sub x6 _ (k0_off1_inb k 1))
def dk0 : FVec F S256x128 .f32 :=
  dkB (uw k 0) (sub x1 _ (k0_off1_inb k 0)) (sub x2 _ (k0_off2_inb k 0)) (sub x2 _ (k0_off1_inb k 0)) (sub x3 _ (k0_off2_inb k 0)) (sub x3 _ (k0_off1_inb k 0))
    (sub x4 _ (k0_off1_inb k 0)) (sub x5 _ (k0_off1_inb k 0)) (sub x6 _ (k0_off1_inb k 0))
def dk1 : FVec F S256x128 .f32 :=
  dkB (uw k 1) (sub x1 _ (k0_off1_inb k 1)) (sub x2 _ (k0_off2_inb k 1)) (sub x2 _ (k0_off1_inb k 1)) (sub x3 _ (k0_off2_inb k 1)) (sub x3 _ (k0_off1_inb k 1))
    (sub x4 _ (k0_off1_inb k 1)) (sub x5 _ (k0_off1_inb k 1)) (sub x6 _ (k0_off1_inb k 1))
def dv0 : FVec F S256x128 .f32 :=
  dvB (uw k 0) (sub x1 _ (k0_off1_inb k 0)) (sub x2 _ (k0_off2_inb k 0)) (sub x2 _ (k0_off1_inb k 0)) (sub x4 _ (k0_off1_inb k 0)) (sub x6 _ (k0_off1_inb k 0))
def dv1 : FVec F S256x128 .f32 :=
  dvB (uw k 1) (sub x1 _ (k0_off1_inb k 1)) (sub x2 _ (k0_off2_inb k 1)) (sub x2 _ (k0_off1_inb k 1)) (sub x4 _ (k0_off1_inb k 1)) (sub x6 _ (k0_off1_inb k 1))

/-- What trip `k` writes in the gradient of the queries. -/
def stepQ (a : Memref sig .tc .vmem S4096x128 .f32) (f : a.view.ty.Contents (Elt F)) : a.view.ty.Contents (Elt F) :=
  a.view.writes (Elt F) f [⟨own1 k, dq1 k x1 x2 x3 x4 x5 x6⟩, ⟨own0 k, dq0 k x1 x2 x3 x4 x5 x6⟩]

/-- What trip `k` writes in the gradient of the keys or of the values, the two blocks' parts given. -/
def stepA (d0 d1 : FVec F S256x128 .f32) (a : Memref sig .tc .vmem S4096x128 .f32) (f : a.view.ty.Contents (Elt F)) : a.view.ty.Contents (Elt F) :=
  let L1 : List (View.Piece (Elt F) S4096x128 .f32) := [⟨own0 k, k0_pay40 d0⟩]
  let L3 : List (View.Piece (Elt F) S4096x128 .f32) :=
    ⟨own1 k, k0_pay40 d1⟩ :: ⟨prev0 k, k0_pay42 d0 (a.view.readAt (Elt F) (prev0 k).toLoadRect (a.view.writes (Elt F) f L1))⟩ :: L1
  a.view.writes (Elt F) f (⟨prev1 k, k0_pay42 d1 (a.view.readAt (Elt F) (prev1 k).toLoadRect (a.view.writes (Elt F) f L3))⟩ :: L3)

end Arrays

section Trip

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole)

/-- A buffer of the body held whole at contents `f`. -/
abbrev held (a : Memref sig .tc .vmem S4096x128 .f32) (f : Buf (Elt F) (a.view.loc (c : Thread nD τ))) : sProp 𝕄 :=
  a.view.loc (c : Thread nD τ) ↦[a.view.set]{fullShare} f

set_option maxHeartbeats 2000000 in
/-- One trip from the nine buffers, run to what it leaves in them. -/
theorem trip (k : Fin k0_t1_loop.trips)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (f7 : Buf (Elt F) (arg7.view.loc (c : Thread nD τ))) (f8 : Buf (Elt F) (arg8.view.loc (c : Thread nD τ)))
    (f9 : Buf (Elt F) (arg9.view.loc (c : Thread nD τ)))
    (x1 x2 x3 x4 x5 x6 : Vec F S4096x128 .f32) (h1 : arg1.view.read (Elt F) f1 = x1) (h2 : arg2.view.read (Elt F) f2 = x2)
    (h3 : arg3.view.read (Elt F) f3 = x3) (h4 : arg4.view.read (Elt F) f4 = x4) (h5 : arg5.view.read (Elt F) f5 = x5)
    (h6 : arg6.view.read (Elt F) f6 = x6) :
    iprop(held c arg1 f1 ∗ held c arg2 f2 ∗ held c arg3 f3 ∗ held c arg4 f4 ∗ held c arg5 f5 ∗ held c arg6 f6
        ∗ held c arg7 f7 ∗ held c arg8 f8 ∗ held c arg9 f9)
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 k ())
          (fun _ => iprop(held c arg1 f1 ∗ held c arg2 f2 ∗ held c arg3 f3 ∗ held c arg4 f4 ∗ held c arg5 f5 ∗ held c arg6 f6
            ∗ held c arg7 (stepQ k x1 x2 x3 x4 x5 x6 arg7 f7)
            ∗ held c arg8 (stepA k (dk0 k x1 x2 x3 x4 x5 x6) (dk1 k x1 x2 x3 x4 x5 x6) arg8 f8)
            ∗ held c arg9 (stepA k (dv0 k x1 x2 x4 x6) (dv1 k x1 x2 x4 x6) arg9 f9))) := by
  subst h1 h2 h3 h4 h5 h6
  unfold k0_t1_body
  iintro ⟨H1, H2, H3, H4, H5, H6, H7, H8, H9⟩
  sl_exec
  sl_step
  have hu0 : trip.sl.v25 k = uw k 0 := (by decide +kernel : ∀ k, trip.sl.v25 k = uw k 0) k
  have hu1 : trip.sl.v52 k = uw k 1 := (by decide +kernel : ∀ k, trip.sl.v52 k = uw k 1) k
  have h70 : trip.sl.v70 c arg1 k f1 = k0_pay8 k0_pay1 k0_pay2 (sub (arg1.view.read (Elt F) f1) _ (k0_off1_inb k 0)) := by
    rfl
  have h80 : trip.sl.v80 c arg1 k f1 = k0_pay8 k0_pay1 k0_pay2 (sub (arg1.view.read (Elt F) f1) _ (k0_off1_inb k 1)) := by
    rfl
  have h86 : trip.sl.v86 c arg2 k f2 = k0_pay10 (sub (arg2.view.read (Elt F) f2) _ (k0_off2_inb k 0)) (sub (arg2.view.read (Elt F) f2) _ (k0_off1_inb k 0)) := by
    rfl
  have h92 : trip.sl.v92 c arg2 k f2 = k0_pay10 (sub (arg2.view.read (Elt F) f2) _ (k0_off2_inb k 1)) (sub (arg2.view.read (Elt F) f2) _ (k0_off1_inb k 1)) := by
    rfl
  have h119 : trip.sl.v119 c arg4 k f4 = k0_pay16 k0_pay1 k0_pay2 (sub (arg4.view.read (Elt F) f4) _ (k0_off1_inb k 0)) := by
    rfl
  have h120 : trip.sl.v120 c arg4 k f4 = k0_pay16 k0_pay1 k0_pay2 (sub (arg4.view.read (Elt F) f4) _ (k0_off1_inb k 1)) := by
    rfl
  have h127 : trip.sl.v127 c arg4 arg5 k f4 f5 = k0_pay18 k0_pay1 k0_pay2 (sub (arg4.view.read (Elt F) f4) _ (k0_off1_inb k 0)) (sub (arg5.view.read (Elt F) f5) _ (k0_off1_inb k 0)) := by
    rfl
  have h173 : trip.sl.r_6 k = k0_pay26 (uw k 0) := by
    unfold trip.sl.r_6; rw [hu0]
  have h197 : trip.sl.v197 k = k0_pay26 (uw k 1) := by
    rw [← hu1]; rfl
  have h178 : trip.sl.v178 c arg1 arg2 arg6 k f1 f2 f6 = pB (uw k 0) (sub (arg1.view.read (Elt F) f1) _ (k0_off1_inb k 0)) (sub (arg2.view.read (Elt F) f2) _ (k0_off2_inb k 0)) (sub (arg2.view.read (Elt F) f2) _ (k0_off1_inb k 0)) (sub (arg6.view.read (Elt F) f6) _ (k0_off1_inb k 0)) := by
    unfold trip.sl.v178; rw [h173]; rfl
  have h202 : trip.sl.v202 c arg1 arg2 arg6 k f1 f2 f6 = pB (uw k 1) (sub (arg1.view.read (Elt F) f1) _ (k0_off1_inb k 1)) (sub (arg2.view.read (Elt F) f2) _ (k0_off2_inb k 1)) (sub (arg2.view.read (Elt F) f2) _ (k0_off1_inb k 1)) (sub (arg6.view.read (Elt F) f6) _ (k0_off1_inb k 1)) := by
    unfold trip.sl.v202; rw [h197]; rfl
  have h206 : trip.sl.v206 c arg1 arg2 arg3 arg4 arg5 arg6 k f1 f2 f3 f4 f5 f6 = dsB (uw k 0) (sub (arg1.view.read (Elt F) f1) _ (k0_off1_inb k 0)) (sub (arg2.view.read (Elt F) f2) _ (k0_off2_inb k 0)) (sub (arg2.view.read (Elt F) f2) _ (k0_off1_inb k 0)) (sub (arg3.view.read (Elt F) f3) _ (k0_off2_inb k 0)) (sub (arg3.view.read (Elt F) f3) _ (k0_off1_inb k 0)) (sub (arg4.view.read (Elt F) f4) _ (k0_off1_inb k 0)) (sub (arg5.view.read (Elt F) f5) _ (k0_off1_inb k 0)) (sub (arg6.view.read (Elt F) f6) _ (k0_off1_inb k 0)) := by
    unfold trip.sl.v206 trip.sl.v205; rw [h178]; rfl
  have h210 : trip.sl.v210 c arg1 arg2 arg3 arg4 arg5 arg6 k f1 f2 f3 f4 f5 f6 = dsB (uw k 1) (sub (arg1.view.read (Elt F) f1) _ (k0_off1_inb k 1)) (sub (arg2.view.read (Elt F) f2) _ (k0_off2_inb k 1)) (sub (arg2.view.read (Elt F) f2) _ (k0_off1_inb k 1)) (sub (arg3.view.read (Elt F) f3) _ (k0_off2_inb k 1)) (sub (arg3.view.read (Elt F) f3) _ (k0_off1_inb k 1)) (sub (arg4.view.read (Elt F) f4) _ (k0_off1_inb k 1)) (sub (arg5.view.read (Elt F) f5) _ (k0_off1_inb k 1)) (sub (arg6.view.read (Elt F) f6) _ (k0_off1_inb k 1)) := by
    unfold trip.sl.v210 trip.sl.v209; rw [h202]; rfl
  have h211 : trip.sl.v211 c arg1 arg2 arg3 arg4 arg5 arg6 k f1 f2 f3 f4 f5 f6 = matmul dot_S256x256_S256x128_S256x128_1_0_0_1_n_n none (dsB (uw k 0) (sub (arg1.view.read (Elt F) f1) _ (k0_off1_inb k 0)) (sub (arg2.view.read (Elt F) f2) _ (k0_off2_inb k 0)) (sub (arg2.view.read (Elt F) f2) _ (k0_off1_inb k 0)) (sub (arg3.view.read (Elt F) f3) _ (k0_off2_inb k 0)) (sub (arg3.view.read (Elt F) f3) _ (k0_off1_inb k 0)) (sub (arg4.view.read (Elt F) f4) _ (k0_off1_inb k 0)) (sub (arg5.view.read (Elt F) f5) _ (k0_off1_inb k 0)) (sub (arg6.view.read (Elt F) f6) _ (k0_off1_inb k 0))) (k0_pay10 (sub (arg2.view.read (Elt F) f2) _ (k0_off2_inb k 0)) (sub (arg2.view.read (Elt F) f2) _ (k0_off1_inb k 0))) (constant S256x128 .f32 0x00000000#32) := by
    unfold trip.sl.v211; rw [h206, h86]; rfl
  have h212 : trip.sl.v212 c arg1 arg2 arg3 arg4 arg5 arg6 k f1 f2 f3 f4 f5 f6 = matmul dot_S256x256_S256x128_S256x128_1_0_0_1_n_n none (dsB (uw k 1) (sub (arg1.view.read (Elt F) f1) _ (k0_off1_inb k 1)) (sub (arg2.view.read (Elt F) f2) _ (k0_off2_inb k 1)) (sub (arg2.view.read (Elt F) f2) _ (k0_off1_inb k 1)) (sub (arg3.view.read (Elt F) f3) _ (k0_off2_inb k 1)) (sub (arg3.view.read (Elt F) f3) _ (k0_off1_inb k 1)) (sub (arg4.view.read (Elt F) f4) _ (k0_off1_inb k 1)) (sub (arg5.view.read (Elt F) f5) _ (k0_off1_inb k 1)) (sub (arg6.view.read (Elt F) f6) _ (k0_off1_inb k 1))) (k0_pay10 (sub (arg2.view.read (Elt F) f2) _ (k0_off2_inb k 1)) (sub (arg2.view.read (Elt F) f2) _ (k0_off1_inb k 1))) (constant S256x128 .f32 0x00000000#32) := by
    unfold trip.sl.v212; rw [h210, h92]; rfl
  have e0 : trip.sl.v227 c arg1 arg2 arg3 arg4 arg5 arg6 k f1 f2 f3 f4 f5 f6 = dq0 k (arg1.view.read (Elt F) f1) (arg2.view.read (Elt F) f2) (arg3.view.read (Elt F) f3) (arg4.view.read (Elt F) f4) (arg5.view.read (Elt F) f5) (arg6.view.read (Elt F) f6) := by
    unfold dq0 dqB; rw [← h211]; rfl
  have e1 : trip.sl.v258 c arg1 arg2 arg3 arg4 arg5 arg6 k f1 f2 f3 f4 f5 f6 = dq1 k (arg1.view.read (Elt F) f1) (arg2.view.read (Elt F) f2) (arg3.view.read (Elt F) f3) (arg4.view.read (Elt F) f4) (arg5.view.read (Elt F) f5) (arg6.view.read (Elt F) f6) := by
    unfold dq1 dqB; rw [← h212]; rfl
  have k0 : trip.sl.v213 c arg1 arg2 arg3 arg4 arg5 arg6 k f1 f2 f3 f4 f5 f6 = dk0 k (arg1.view.read (Elt F) f1) (arg2.view.read (Elt F) f2) (arg3.view.read (Elt F) f3) (arg4.view.read (Elt F) f4) (arg5.view.read (Elt F) f5) (arg6.view.read (Elt F) f6) := by
    unfold dk0 dkB trip.sl.v213; rw [h206, h70]; rfl
  have k1 : trip.sl.v214 c arg1 arg2 arg3 arg4 arg5 arg6 k f1 f2 f3 f4 f5 f6 = dk1 k (arg1.view.read (Elt F) f1) (arg2.view.read (Elt F) f2) (arg3.view.read (Elt F) f3) (arg4.view.read (Elt F) f4) (arg5.view.read (Elt F) f5) (arg6.view.read (Elt F) f6) := by
    unfold dk1 dkB trip.sl.v214; rw [h210, h80]; rfl
  have w0 : trip.sl.v216 c arg1 arg2 arg4 arg6 k f1 f2 f4 f6 = dv0 k (arg1.view.read (Elt F) f1) (arg2.view.read (Elt F) f2) (arg4.view.read (Elt F) f4) (arg6.view.read (Elt F) f6) := by
    unfold dv0 dvB trip.sl.v216 trip.sl.v215; rw [h178, h119]; rfl
  have w1 : trip.sl.v218 c arg1 arg2 arg4 arg6 k f1 f2 f4 f6 = dv1 k (arg1.view.read (Elt F) f1) (arg2.view.read (Elt F) f2) (arg4.view.read (Elt F) f4) (arg6.view.read (Elt F) f6) := by
    unfold dv1 dvB trip.sl.v218 trip.sl.v217; rw [h202, h120]; rfl
  unfold stepQ
  rw [← e0, ← e1, ← k0, ← k1, ← w0, ← w1]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Trip

end Cert.KernelIdeal.Dil

end
-- ==== Proof.Acc.lean ====
module

public import proofs.«01_k».proof.Proof.Trip
public import Idealize.ShloMosaic.Lib.Pipeline.Value

@[expose] public section

set_option maxRecDepth 16384

noncomputable section

namespace Cert.KernelIdeal.Dil

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The buffers before each trip, and what each of their rows ends at -/

/-- The gradient of the queries before trip `k`. -/
def stQ (x1 x2 x3 x4 x5 x6 : Vec F S4096x128 .f32) (a : Memref sig .tc .vmem S4096x128 .f32) (f : a.view.ty.Contents (Elt F)) :
    ℕ → a.view.ty.Contents (Elt F)
  | 0 => f
  | k + 1 => if h : k < k0_t1_loop.trips then stepQ ⟨k, h⟩ x1 x2 x3 x4 x5 x6 a (stQ x1 x2 x3 x4 x5 x6 a f k) else stQ x1 x2 x3 x4 x5 x6 a f k

/-- The gradient of the keys or of the values before trip `k`. -/
def stA (d0 d1 : Fin k0_t1_loop.trips → FVec F S256x128 .f32) (a : Memref sig .tc .vmem S4096x128 .f32) (f : a.view.ty.Contents (Elt F)) :
    ℕ → a.view.ty.Contents (Elt F)
  | 0 => f
  | k + 1 => if h : k < k0_t1_loop.trips then stepA ⟨k, h⟩ (d0 ⟨k, h⟩) (d1 ⟨k, h⟩) a (stA d0 d1 a f k) else stA d0 d1 a f k

/-- The block a row is an own row of. -/
def blk (t : ℕ) : ℕ := t / 512 * 4 + t % 4

/-- The rows before those of block `n`: block 0's to 3's own, for the rest those four blocks back. -/
def pv (n : ℕ) : ℕ := if n < 4 then n else n - 4

/-- A row's place in its block. -/
def inBlk (y : S4096x128.Idx) : S128x128.Idx := fun
  | ⟨0, _⟩ => ⟨((y 0).val % 512) / 4, by show _ < 128; omega⟩
  | ⟨1, _⟩ => ⟨(y 1).val, (y 1).isLt⟩

theorem row_lt (y : S4096x128.Idx) : (y 0).val < 4096 := (y 0).isLt

/-- A row of 128 strided rows, by the block they are. -/
theorem mem_rows {off : Fin 2 → ℕ} {n : ℕ} (ho : off = ![n / 4 * 512 + n % 4, 0])
    (h : ∀ a, S128x128.size a = 0 ∨ off a + (![4, 1] : Fin 2 → ℕ) a * (S128x128.size a - 1) < S4096x128.size a) (y : S4096x128.Idx)
    (hy : blk (y 0).val ≠ n) : y ∉ (⟨⟨off, S128x128.size, ![4, 1], h⟩, spos_4_1⟩ : Rect S4096x128).set := fun hm => by
  subst ho
  obtain ⟨j, hj, e⟩ := LoadRect.mem_set _ |>.mp hm 0
  have e' : (y 0).val = n / 4 * 512 + n % 4 + 4 * j := e
  have hj' : j < 128 := hj
  unfold blk at hy
  omega

theorem idx_rows {off : Fin 2 → ℕ} {n : ℕ} (ho : off = ![n / 4 * 512 + n % 4, 0])
    (h : ∀ a, S128x128.size a = 0 ∨ off a + (![4, 1] : Fin 2 → ℕ) a * (S128x128.size a - 1) < S4096x128.size a) (y : S4096x128.Idx)
    (hy : blk (y 0).val = n) : (LoadRect.idx (s := S4096x128) ⟨off, S128x128.size, ![4, 1], h⟩ (inBlk y)) = y := by
  subst ho
  funext a
  apply Fin.ext
  match a with
  | ⟨0, _⟩ =>
    show n / 4 * 512 + n % 4 + 4 * (((y 0).val % 512) / 4) = (y 0).val
    unfold blk at hy; omega
  | ⟨1, _⟩ =>
    show 0 + 1 * (y 1).val = (y 1).val
    omega

theorem off_own0 (k : Fin k0_t1_loop.trips) : k0_off1 k 0#32 = ![(2 * k.val) / 4 * 512 + (2 * k.val) % 4, 0] := off1_0 k
theorem off_own1 (k : Fin k0_t1_loop.trips) : k0_off1 k 1#32 = ![(2 * k.val + 1) / 4 * 512 + (2 * k.val + 1) % 4, 0] := off1_1 k
theorem off_prev0 (k : Fin k0_t1_loop.trips) : k0_off2 k 0#32 = ![pv (2 * k.val) / 4 * 512 + pv (2 * k.val) % 4, 0] := by
  rw [off2_0]; unfold pv; congr 1; split <;> omega
theorem off_prev1 (k : Fin k0_t1_loop.trips) : k0_off2 k 1#32 = ![pv (2 * k.val + 1) / 4 * 512 + pv (2 * k.val + 1) % 4, 0] := by
  rw [off2_1]; unfold pv; congr 1; split <;> omega

variable (a : Memref sig .tc .vmem S4096x128 .f32)

/-- The newest write of a list read at a row it holds, and at one it does not. -/
theorem hitR {off : Fin 2 → ℕ} {n : ℕ} (ho : off = ![n / 4 * 512 + n % 4, 0])
    {h : ∀ a, S128x128.size a = 0 ∨ off a + (![4, 1] : Fin 2 → ℕ) a * (S128x128.size a - 1) < S4096x128.size a}
    {w : S128x128.Idx → Elt F .f32} {L : List (View.Piece (Elt F) S4096x128 .f32)} {f : a.view.ty.Contents (Elt F)} {y : S4096x128.Idx} (hy : blk (y 0).val = n) :
    a.view.read (Elt F) (a.view.writes (Elt F) f (⟨⟨⟨off, S128x128.size, ![4, 1], h⟩, spos_4_1⟩, w⟩ :: L)) y = w (inBlk y) :=
  View.read_writes_cons_hit a.view f (⟨⟨off, S128x128.size, ![4, 1], h⟩, spos_4_1⟩ : Rect S4096x128) w L (inBlk y) y (idx_rows ho h y hy)

theorem missR {off : Fin 2 → ℕ} {n : ℕ} (ho : off = ![n / 4 * 512 + n % 4, 0])
    {h : ∀ a, S128x128.size a = 0 ∨ off a + (![4, 1] : Fin 2 → ℕ) a * (S128x128.size a - 1) < S4096x128.size a}
    {w : S128x128.Idx → Elt F .f32} {L : List (View.Piece (Elt F) S4096x128 .f32)} {f : a.view.ty.Contents (Elt F)} {y : S4096x128.Idx} (hy : blk (y 0).val ≠ n) :
    a.view.read (Elt F) (a.view.writes (Elt F) f (⟨⟨⟨off, S128x128.size, ![4, 1], h⟩, spos_4_1⟩, w⟩ :: L)) y = a.view.read (Elt F) (a.view.writes (Elt F) f L) y :=
  View.read_writes_cons_miss a.view f ⟨⟨⟨off, S128x128.size, ![4, 1], h⟩, spos_4_1⟩, w⟩ L y (mem_rows ho h y hy)

/-- A load through 128 strided rows, at a row it holds. -/
theorem readR {off : Fin 2 → ℕ} {n : ℕ} (ho : off = ![n / 4 * 512 + n % 4, 0])
    {h : ∀ a, S128x128.size a = 0 ∨ off a + (![4, 1] : Fin 2 → ℕ) a * (S128x128.size a - 1) < S4096x128.size a}
    {f : a.view.ty.Contents (Elt F)} {y : S4096x128.Idx} (hy : blk (y 0).val = n) :
    a.view.readAt (Elt F) (⟨off, S128x128.size, ![4, 1], h⟩ : LoadRect S4096x128) f (inBlk y) = a.view.read (Elt F) f y := by
  rw [View.readAt_apply, idx_rows ho h y hy]

/-- A row after one trip, in the gradient of the queries. -/
theorem read_stepQ (k : Fin k0_t1_loop.trips) (x1 x2 x3 x4 x5 x6 : Vec F S4096x128 .f32) (f : a.view.ty.Contents (Elt F)) (y : S4096x128.Idx) :
    a.view.read (Elt F) (stepQ k x1 x2 x3 x4 x5 x6 a f) y
      = if blk (y 0).val = 2 * k.val + 1 then dq1 k x1 x2 x3 x4 x5 x6 (inBlk y)
        else if blk (y 0).val = 2 * k.val then dq0 k x1 x2 x3 x4 x5 x6 (inBlk y) else a.view.read (Elt F) f y := by
  unfold stepQ
  split
  · rename_i h
    rw [hitR a (off_own1 k) h]
  · rename_i h
    rw [missR a (off_own1 k) h]
    split
    · rename_i h
      rw [hitR a (off_own0 k) h]
    · rename_i h
      rw [missR a (off_own0 k) h]
      rfl

/-- The own half of what a block adds, and the sum with the previous half. -/
abbrev ownHalf (d : FVec F S256x128 .f32) : FVec F S128x128 .f32 := k0_pay40 d
def plusPrev (d : FVec F S256x128 .f32) (j : S128x128.Idx) (v : F .f32) : F .f32 := k0_pay42 d (fun _ => v) j

theorem pay42_apply (d : FVec F S256x128 .f32) (x : Vec F S128x128 .f32) (j : S128x128.Idx) : k0_pay42 d x j = plusPrev d j (x j) := by
  unfold plusPrev k0_pay42
  simp only [shapeCast_self]
  rfl

/-- A row after one trip, in the gradient of the keys or of the values. -/
theorem read_stepA (k : Fin k0_t1_loop.trips) (d0 d1 : FVec F S256x128 .f32) (f : a.view.ty.Contents (Elt F)) (y : S4096x128.Idx)
    {v1 v2 v3 v4 : F .f32} (hv1 : v1 = if blk (y 0).val = 2 * k.val then ownHalf d0 (inBlk y) else a.view.read (Elt F) f y)
    (hv2 : v2 = if blk (y 0).val = pv (2 * k.val) then plusPrev d0 (inBlk y) v1 else v1)
    (hv3 : v3 = if blk (y 0).val = 2 * k.val + 1 then ownHalf d1 (inBlk y) else v2)
    (hv4 : v4 = if blk (y 0).val = pv (2 * k.val + 1) then plusPrev d1 (inBlk y) v3 else v3) :
    a.view.read (Elt F) (stepA k d0 d1 a f) y = v4 := by
  show a.view.read (Elt F) (a.view.writes (Elt F) f (⟨prev1 k, k0_pay42 d1 (a.view.readAt (Elt F) (prev1 k).toLoadRect
      (a.view.writes (Elt F) f [⟨own1 k, k0_pay40 d1⟩, ⟨prev0 k, k0_pay42 d0 (a.view.readAt (Elt F) (prev0 k).toLoadRect
      (a.view.writes (Elt F) f [⟨own0 k, k0_pay40 d0⟩]))⟩, ⟨own0 k, k0_pay40 d0⟩]))⟩ :: [⟨own1 k, k0_pay40 d1⟩, ⟨prev0 k, k0_pay42 d0 (a.view.readAt (Elt F) (prev0 k).toLoadRect
      (a.view.writes (Elt F) f [⟨own0 k, k0_pay40 d0⟩]))⟩, ⟨own0 k, k0_pay40 d0⟩])) y = v4
  have e1 : a.view.read (Elt F) (a.view.writes (Elt F) f [⟨own0 k, k0_pay40 d0⟩]) y = v1 := by
    by_cases h : blk (y 0).val = 2 * k.val
    · rw [hitR a (off_own0 k) h]
      rw [hv1, if_pos h]
    · rw [missR a (off_own0 k) h]
      rw [hv1, if_neg h]; rfl
  have e2 : a.view.read (Elt F) (a.view.writes (Elt F) f [⟨prev0 k, k0_pay42 d0 (a.view.readAt (Elt F) (prev0 k).toLoadRect
      (a.view.writes (Elt F) f [⟨own0 k, k0_pay40 d0⟩]))⟩, ⟨own0 k, k0_pay40 d0⟩]) y = v2 := by
    by_cases h : blk (y 0).val = pv (2 * k.val)
    · rw [hitR a (off_prev0 k) h, pay42_apply, readR a (off_prev0 k) h, e1, hv2, if_pos h]
    · rw [missR a (off_prev0 k) h, e1]
      rw [hv2, if_neg h]
  have e3 : a.view.read (Elt F) (a.view.writes (Elt F) f [⟨own1 k, k0_pay40 d1⟩, ⟨prev0 k, k0_pay42 d0 (a.view.readAt (Elt F) (prev0 k).toLoadRect
      (a.view.writes (Elt F) f [⟨own0 k, k0_pay40 d0⟩]))⟩, ⟨own0 k, k0_pay40 d0⟩]) y = v3 := by
    by_cases h : blk (y 0).val = 2 * k.val + 1
    · rw [hitR a (off_own1 k) h]
      rw [hv3, if_pos h]
    · rw [missR a (off_own1 k) h, e2]
      rw [hv3, if_neg h]
  by_cases h : blk (y 0).val = pv (2 * k.val + 1)
  · rw [hitR a (off_prev1 k) h, pay42_apply, readR a (off_prev1 k) h, e3, hv4, if_pos h]
  · rw [missR a (off_prev1 k) h, e3, hv4, if_neg h]

/-- The trip that runs a row's block, and the trip that runs the block four on, where there is one. -/
theorem trips_eq : k0_t1_loop.trips = 16 := by decide

def tripOf (y : S4096x128.Idx) : Fin k0_t1_loop.trips := ⟨blk (y 0).val / 2, by have := row_lt y; rw [trips_eq]; unfold blk; omega⟩
def nextTrip (y : S4096x128.Idx) (h : blk (y 0).val < 28) : Fin k0_t1_loop.trips := ⟨blk (y 0).val / 2 + 2, by rw [trips_eq]; omega⟩

/-- The gradient of the queries, row by row. -/
def outQ (x1 x2 x3 x4 x5 x6 : Vec F S4096x128 .f32) : Vec F S4096x128 .f32 := fun y =>
  if blk (y 0).val % 2 = 0 then dq0 (tripOf y) x1 x2 x3 x4 x5 x6 (inBlk y) else dq1 (tripOf y) x1 x2 x3 x4 x5 x6 (inBlk y)

/-- What the block of parity `n % 2` of a trip adds. -/
def par (n : ℕ) (d0 d1 : Fin k0_t1_loop.trips → FVec F S256x128 .f32) (k : Fin k0_t1_loop.trips) : FVec F S256x128 .f32 :=
  if n % 2 = 0 then d0 k else d1 k

/-- A row of the gradient of the keys or of the values from its own block: in the first band the previous half is added too. -/
def rowOwn (d0 d1 : Fin k0_t1_loop.trips → FVec F S256x128 .f32) (y : S4096x128.Idx) : F .f32 :=
  let v := ownHalf (par (blk (y 0).val) d0 d1 (tripOf y)) (inBlk y)
  if blk (y 0).val < 4 then plusPrev (par (blk (y 0).val) d0 d1 (tripOf y)) (inBlk y) v else v

/-- The gradient of the keys or of the values, row by row. -/
def outA (d0 d1 : Fin k0_t1_loop.trips → FVec F S256x128 .f32) : Vec F S4096x128 .f32 := fun y =>
  if h : blk (y 0).val < 28 then plusPrev (par (blk (y 0).val) d0 d1 (nextTrip y h)) (inBlk y) (rowOwn d0 d1 y) else rowOwn d0 d1 y

theorem read_stQ (x1 x2 x3 x4 x5 x6 : Vec F S4096x128 .f32) (f : a.view.ty.Contents (Elt F)) (y : S4096x128.Idx) :
    ∀ k : ℕ, blk (y 0).val < 2 * k → a.view.read (Elt F) (stQ x1 x2 x3 x4 x5 x6 a f k) y = outQ x1 x2 x3 x4 x5 x6 y := by
  intro k
  induction k with
  | zero => intro h; omega
  | succ k ih =>
    intro h
    have hy := row_lt y
    unfold stQ
    by_cases hk : k < k0_t1_loop.trips
    · rw [dif_pos hk, read_stepQ]
      split
      · rename_i e
        have e' : blk (y 0).val = 2 * k + 1 := e
        have : tripOf y = ⟨k, hk⟩ := Fin.ext (by show blk (y 0).val / 2 = k; omega)
        unfold outQ; rw [if_neg (by omega), this]
      · split
        · rename_i e
          have e' : blk (y 0).val = 2 * k := e
          have : tripOf y = ⟨k, hk⟩ := Fin.ext (by show blk (y 0).val / 2 = k; omega)
          unfold outQ; rw [if_pos (by omega), this]
        · exact ih (by simp only at *; omega)
    · rw [dif_neg hk]
      exact ih (by rw [trips_eq] at hk; unfold blk at *; omega)

theorem read_stA (d0 d1 : Fin k0_t1_loop.trips → FVec F S256x128 .f32) (f : a.view.ty.Contents (Elt F)) (y : S4096x128.Idx) :
    ∀ k : ℕ, blk (y 0).val < 2 * k → k ≤ 16 → a.view.read (Elt F) (stA d0 d1 a f k) y
      = if h : blk (y 0).val < 28 then
          (if blk (y 0).val / 2 + 2 < k then outA d0 d1 y else rowOwn d0 d1 y)
        else rowOwn d0 d1 y := by
  intro k
  induction k with
  | zero => intro h; omega
  | succ k ih =>
    intro h h16
    have hy := row_lt y
    have hb : blk (y 0).val < 32 := by unfold blk; omega
    have hk : k < k0_t1_loop.trips := by rw [trips_eq]; omega
    unfold stA
    rw [dif_pos hk, read_stepA (hv1 := rfl) (hv2 := rfl) (hv3 := rfl) (hv4 := rfl)]
    generalize hn : blk (y 0).val = n at *
    have hT : n / 2 = k → tripOf y = ⟨k, hk⟩ := fun e => Fin.ext (by show blk _ / 2 = k; omega)
    have hN : ∀ h28, n / 2 + 2 = k → nextTrip y h28 = ⟨k, hk⟩ := fun _ e => Fin.ext (by show blk _ / 2 + 2 = k; omega)
    show (if n = pv (2 * k + 1) then _ else _) = _
    by_cases c1 : n = 2 * k
    · have q1 : n ≠ 2 * k + 1 := by omega
      have q2 : n ≠ pv (2 * k + 1) := by unfold pv; split <;> omega
      have q3 : (n = pv (2 * k)) = (n < 4) := by unfold pv; split <;> simp <;> omega
      have q4 : ¬ n / 2 + 2 < k + 1 := by omega
      unfold rowOwn
      rw [hn, hT (by omega)]
      simp only [q1, q2, q3, q4, eq_true c1, if_true, if_false, ite_self, dite_eq_ite, par, show n % 2 = 0 by omega]
    by_cases c2 : n = 2 * k + 1
    · have q2 : (n = pv (2 * k + 1)) = (n < 4) := by unfold pv; split <;> simp <;> omega
      have q4 : ¬ n / 2 + 2 < k + 1 := by omega
      unfold rowOwn
      rw [hn, hT (by omega)]
      simp only [q2, q4, eq_true c2, if_true, if_false, ite_self, dite_eq_ite, par, show ¬ n % 2 = 0 by omega]
    have hlt : n < 2 * k := by omega
    have ih' := ih hlt (by omega)
    have z1 : ¬ (n = 2 * (⟨k, hk⟩ : Fin k0_t1_loop.trips).val) := c1
    have z2 : ¬ (n = 2 * (⟨k, hk⟩ : Fin k0_t1_loop.trips).val + 1) := c2
    rw [if_neg z2, if_neg z1, ih']
    by_cases c3 : n + 4 = 2 * k
    · have h28 : n < 28 := by omega
      have q1 : n ≠ pv (2 * k + 1) := by unfold pv; split <;> omega
      have q2 : n = pv (2 * k) := by unfold pv; split <;> omega
      have q3 : ¬ n / 2 + 2 < k := by omega
      have q4 : n / 2 + 2 < k + 1 := by omega
      rw [if_neg q1, if_pos q2, dif_pos h28, dif_pos h28, if_neg q3, if_pos q4]
      unfold outA
      rw [dif_pos (by omega), hN (by omega) (by omega)]
      simp only [hn, par, show n % 2 = 0 by omega, if_true]
    by_cases c4 : n + 4 = 2 * k + 1
    · have h28 : n < 28 := by omega
      have q1 : n = pv (2 * k + 1) := by unfold pv; split <;> omega
      have q2 : n ≠ pv (2 * k) := by unfold pv; split <;> omega
      have q3 : ¬ n / 2 + 2 < k := by omega
      have q4 : n / 2 + 2 < k + 1 := by omega
      rw [if_pos q1, if_neg q2, dif_pos h28, dif_pos h28, if_neg q3, if_pos q4]
      unfold outA
      rw [dif_pos (by omega), hN (by omega) (by omega)]
      simp only [hn, par, show ¬ n % 2 = 0 by omega, if_false]
    have q1 : n ≠ pv (2 * k + 1) := by unfold pv; split <;> omega
    have q2 : n ≠ pv (2 * k) := by unfold pv; split <;> omega
    rw [if_neg q1, if_neg q2]
    have q4 : (n / 2 + 2 < k + 1) = (n / 2 + 2 < k) := by simp; omega
    simp only [q4]

/-- The buffers after the loop. -/
theorem read_stQ_end (x1 x2 x3 x4 x5 x6 : Vec F S4096x128 .f32) (f : a.view.ty.Contents (Elt F)) :
    a.view.read (Elt F) (stQ x1 x2 x3 x4 x5 x6 a f k0_t1_loop.trips) = outQ x1 x2 x3 x4 x5 x6 :=
  funext fun y => read_stQ a x1 x2 x3 x4 x5 x6 f y _ (by have := row_lt y; rw [trips_eq]; unfold blk; omega)

theorem read_stA_end (d0 d1 : Fin k0_t1_loop.trips → FVec F S256x128 .f32) (f : a.view.ty.Contents (Elt F)) :
    a.view.read (Elt F) (stA d0 d1 a f k0_t1_loop.trips) = outA d0 d1 := funext fun y => by
  have := row_lt y
  rw [read_stA a d0 d1 f y _ (by rw [trips_eq]; unfold blk; omega) (by rw [trips_eq])]
  split
  · rw [if_pos (by rw [trips_eq]; omega)]
  · rename_i h
    unfold outA; rw [dif_neg h]

end Cert.KernelIdeal.Dil

end
-- ==== Proof.Run.lean ====
module

public import proofs.«01_k».proof.Proof.Acc
public import proofs.«01_k».proof.Proof.Gen.KernelIdeal.Launch
public import proofs.«01_k».proof.Proof.Gen.KernelIdeal.Points
public import Idealize.ShloMosaic.Lib.Claim

@[expose] public section

set_option maxRecDepth 16384

noncomputable section

namespace Cert.KernelIdeal.Dil

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The loop and the body -/

section Body

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole)

set_option warn.classDefReducibility false in
/-- Before trip `k` the six inputs are untouched and the three outputs hold what the trips before `k` left. -/
@[sl_loop] def loopInv
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) :
    Gen.LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 where
  inv k _ := iprop(held c arg1 f1 ∗ held c arg2 f2 ∗ held c arg3 f3 ∗ held c arg4 f4 ∗ held c arg5 f5 ∗ held c arg6 f6
    ∗ (∃ g, held c arg7 g ∗ ⌜g = stQ (arg1.view.read (Elt F) f1) (arg2.view.read (Elt F) f2) (arg3.view.read (Elt F) f3) (arg4.view.read (Elt F) f4) (arg5.view.read (Elt F) f5) (arg6.view.read (Elt F) f6) arg7 f7 k⌝)
    ∗ (∃ g, held c arg8 g ∗ ⌜g = stA (fun k => dk0 k (arg1.view.read (Elt F) f1) (arg2.view.read (Elt F) f2) (arg3.view.read (Elt F) f3) (arg4.view.read (Elt F) f4) (arg5.view.read (Elt F) f5) (arg6.view.read (Elt F) f6)) (fun k => dk1 k (arg1.view.read (Elt F) f1) (arg2.view.read (Elt F) f2) (arg3.view.read (Elt F) f3) (arg4.view.read (Elt F) f4) (arg5.view.read (Elt F) f5) (arg6.view.read (Elt F) f6)) arg8 f8 k⌝)
    ∗ (∃ g, held c arg9 g ∗ ⌜g = stA (fun k => dv0 k (arg1.view.read (Elt F) f1) (arg2.view.read (Elt F) f2) (arg4.view.read (Elt F) f4) (arg6.view.read (Elt F) f6)) (fun k => dv1 k (arg1.view.read (Elt F) f1) (arg2.view.read (Elt F) f2) (arg4.view.read (Elt F) f4) (arg6.view.read (Elt F) f6)) arg9 f9 k⌝))
  step k acc := by
    iintro ⟨H1, H2, H3, H4, H5, H6, ⟨%g7, H7, %h7⟩, ⟨%g8, H8, %h8⟩, ⟨%g9, H9, %h9⟩⟩
    subst h7 h8 h9
    iapply (wp_wand_r Idealize.ShloMosaic.frame (wpE (defs₀ (F := F)) Variants.none (c : Thread nD τ) none) Set.univ)
    isplitl [H1 H2 H3 H4 H5 H6 H7 H8 H9]
    · iapply (trip c i arg1 harg1 arg2 harg2 arg3 harg3 arg4 harg4 arg5 harg5 arg6 harg6 arg7 harg7 arg8 harg8 arg9 harg9 k f1 f2 f3 f4 f5 f6 _ _ _ _ _ _ _ _ _ rfl rfl rfl rfl rfl rfl)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iintro %_ ⟨H1, H2, H3, H4, H5, H6, H7, H8, H9⟩
    isplitl [H1]; · iexact H1
    isplitl [H2]; · iexact H2
    isplitl [H3]; · iexact H3
    isplitl [H4]; · iexact H4
    isplitl [H5]; · iexact H5
    isplitl [H6]; · iexact H6
    isplitl [H7]
    · iexists _; isplitl [H7]; · iexact H7
      ipureintro; rw [stQ, dif_pos k.isLt]
    isplitl [H8]
    · iexists _; isplitl [H8]; · iexact H8
      ipureintro; rw [stA, dif_pos k.isLt]
    iexists _; isplitl [H9]; · iexact H9
    ipureintro; rw [stA, dif_pos k.isLt]

/-- The body on whole staging buffers, the inputs at `x1 … x6`: the outputs end at the rows named above. -/
theorem sound_kernel (x1 x2 x3 x4 x5 x6 : Vec F S4096x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
          ∗ owns (c : Thread nD τ) arg7 fullShare (outQ x1 x2 x3 x4 x5 x6) ∗ owns (c : Thread nD τ) arg8 fullShare (outA (fun k => dk0 k x1 x2 x3 x4 x5 x6) (fun k => dk1 k x1 x2 x3 x4 x5 x6)) ∗ owns (c : Thread nD τ) arg9 fullShare (outA (fun k => dv0 k x1 x2 x4 x6) (fun k => dv1 k x1 x2 x4 x6))) -∗ K ⟨⟩))
      ⊢ wp frame (wpE (defs₀ (F := F)) Variants.none c none) Set.univ (cc0_dil_bwd_d4 i arg1 harg1 arg2 harg2 arg3 harg3 arg4 harg4 arg5 harg5 arg6 harg6 arg7 harg7 arg8 harg8 arg9 harg9) K := by
  simp only [cc0_dil_bwd_d4_eq_skeleton]; unfold cc0_dil_bwd_d4_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf1 hf2 hf3 hf4 hf5 hf6
  let L := loopInv (F := F) c i arg1 harg1 arg2 harg2 arg3 harg3 arg4 harg4 arg5 harg5 arg6 harg6 arg7 harg7 arg8 harg8 arg9 harg9 f1 f2 f3 f4 f5 f6 f7 f8 f9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; exact read_stQ_end _ _ _ _ _ _ _ _
  isplitl [H8]
  · iexists _; isplitr
    swap; · iexact H8
    ipureintro; exact read_stA_end _ _ _ _
  iexists _; isplitr
  swap; · iexact H9
  ipureintro; exact read_stA_end _ _ _ _

end Body

/-! ## The pipeline's proof data and the run -/

variable (m : (ℓ : Loc nD τ sig) → Buf (Elt F) ℓ) (ρ : Dev nD → PrngReg)

/-- The arrays as the region finds them; after the body each input's buffer at its block, each output's at the rows above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ (iblk m c 0 t) (iblk m c 1 t) (iblk m c 2 t) (iblk m c 3 t) (iblk m c 4 t) (iblk m c 5 t)
    | ⟨7, _⟩ => outA (fun k => dk0 k (iblk m c 0 t) (iblk m c 1 t) (iblk m c 2 t) (iblk m c 3 t) (iblk m c 4 t) (iblk m c 5 t)) (fun k => dk1 k (iblk m c 0 t) (iblk m c 1 t) (iblk m c 2 t) (iblk m c 3 t) (iblk m c 4 t) (iblk m c 5 t))
    | ⟨8, _⟩ => outA (fun k => dv0 k (iblk m c 0 t) (iblk m c 1 t) (iblk m c 3 t) (iblk m c 5 t)) (fun k => dv1 k (iblk m c 0 t) (iblk m c 1 t) (iblk m c 3 t) (iblk m c 5 t))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outQ (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outA (fun k => dk0 k (iblk m c 0 t) (iblk m c 1 t) (iblk m c 2 t) (iblk m c 3 t) (iblk m c 4 t) (iblk m c 5 t)) (fun k => dk1 k (iblk m c 0 t) (iblk m c 1 t) (iblk m c 2 t) (iblk m c 3 t) (iblk m c 4 t) (iblk m c 5 t)) := by dsimp only [dats]
theorem after0_8 (c : Dev nD) (t : Fin cfg0.N) : (dats m 0 c).after 8 t = outA (fun k => dv0 k (iblk m c 0 t) (iblk m c 1 t) (iblk m c 3 t) (iblk m c 5 t)) (fun k => dv1 k (iblk m c 0 t) (iblk m c 1 t) (iblk m c 3 t) (iblk m c 5 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends with the arrays at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Dil

end
-- ==== Proof.Bits.Trip.lean ====
module

public import proofs.«01_k».proof.Proof.Gen.Kernel.Loops
public import proofs.«01_k».proof.Proof.Gen.Kernel.Frame
public import Idealize.ShloMosaic.Lib.Writes
public import Idealize.ShloMosaic.Lib.Claim

@[expose] public section

set_option maxRecDepth 16384

noncomputable section

namespace Cert.Kernel.Dil

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The own rows of a block start at `512 u + r`. -/
theorem off1_0 : ∀ k : Fin k0_t1_loop.trips, k0_off1 k 0#32 = ![(2 * k.val) / 4 * 512 + (2 * k.val) % 4, 0] := by decide +kernel
theorem off1_1 : ∀ k : Fin k0_t1_loop.trips, k0_off1 k 1#32 = ![(2 * k.val + 1) / 4 * 512 + (2 * k.val + 1) % 4, 0] := by decide +kernel
theorem off2_0 : ∀ k : Fin k0_t1_loop.trips, k0_off2 k 0#32 = ![((2 * k.val) / 4 - 1) * 512 + (2 * k.val) % 4, 0] := by decide +kernel
theorem off2_1 : ∀ k : Fin k0_t1_loop.trips, k0_off2 k 1#32 = ![((2 * k.val + 1) / 4 - 1) * 512 + (2 * k.val + 1) % 4, 0] := by decide +kernel

instance closed1_0 (k : Fin k0_t1_loop.trips) : ClosedOff (k0_off1 k 0#32) := ⟨_, off1_0 k⟩
instance closed1_1 (k : Fin k0_t1_loop.trips) : ClosedOff (k0_off1 k 1#32) := ⟨_, off1_1 k⟩
instance closed2_0 (k : Fin k0_t1_loop.trips) : ClosedOff (k0_off2 k 0#32) := ⟨_, off2_0 k⟩
instance closed2_1 (k : Fin k0_t1_loop.trips) : ClosedOff (k0_off2 k 1#32) := ⟨_, off2_1 k⟩

/-- The band index of block `2 k + e`, as a word. -/
def uw (k : Fin k0_t1_loop.trips) (e : ℕ) : BitVec 32 := BitVec.ofNat 32 ((2 * k.val + e) / 4)

section Block

variable (w : BitVec 32) (q kp ko vp vo dO o l : Vec F S128x128 .f32)

/-- The probabilities of a block: the two heads' rows stacked, against the previous and own keys. -/
def pB : FVec F S256x256 .f32 :=
  k0_pay28 (k0_pay22 (k0_pay8 k0_pay1 k0_pay2 q) (k0_pay10 kp ko)) (k0_pay26 w) (k0_pay27 k0_pay3 l)

/-- The gradient of a block's scores. -/
def dsB : FVec F S256x256 .bf16 :=
  k0_pay30 (k0_pay18 k0_pay1 k0_pay2 dO o) (k0_pay22 (k0_pay8 k0_pay1 k0_pay2 q) (k0_pay10 kp ko))
    (k0_pay24 (k0_pay12 vp vo) (k0_pay16 k0_pay1 k0_pay2 dO)) (k0_pay26 w) (k0_pay27 k0_pay3 l)

/-- The gradient of a block's queries. -/
def dqB : FVec F S128x128 .f32 :=
  k0_pay39 k0_pay1 k0_pay2
    (matmul dot_S256x256_S256x128_S256x128_1_0_0_1_n_n none (dsB w q kp ko vp vo dO o l) (k0_pay10 kp ko) (constant S256x128 .f32 0x00000000#32))
    (extractStridedSlice S128x128 ![0, 0]
      (matmul dot_S256x256_S256x128_S256x128_1_0_0_1_n_n none (dsB w q kp ko vp vo dO o l) (k0_pay10 kp ko) (constant S256x128 .f32 0x00000000#32))
      slices_S256x128_o0_0_S128x128)

/-- What a block adds to the gradient of the keys it reads. -/
def dkB : FVec F S256x128 .f32 :=
  matmul dot_S256x256_S256x128_S256x128_0_0_1_1_n_n none (dsB w q kp ko vp vo dO o l) (k0_pay8 k0_pay1 k0_pay2 q) (constant S256x128 .f32 0x00000000#32)

/-- What a block adds to the gradient of the values it reads. -/
def dvB : FVec F S256x128 .f32 :=
  matmul dot_S256x256_S256x128_S256x128_0_0_1_1_n_n none (truncf .bf16 (pB w q kp ko l) bitsLt_bf16_f32) (k0_pay16 k0_pay1 k0_pay2 dO) (constant S256x128 .f32 0x00000000#32)

end Block

/-- The own rows of the even and of the odd block of trip `k`, and the rows before them. -/
abbrev own0 (k : Fin k0_t1_loop.trips) : Rect S4096x128 := ⟨⟨k0_off1 k 0#32, S128x128.size, ![4, 1], k0_off1_inb k 0⟩, spos_4_1⟩
abbrev own1 (k : Fin k0_t1_loop.trips) : Rect S4096x128 := ⟨⟨k0_off1 k 1#32, S128x128.size, ![4, 1], k0_off1_inb k 1⟩, spos_4_1⟩
abbrev prev0 (k : Fin k0_t1_loop.trips) : Rect S4096x128 := ⟨⟨k0_off2 k 0#32, S128x128.size, ![4, 1], k0_off2_inb k 0⟩, spos_4_1⟩
abbrev prev1 (k : Fin k0_t1_loop.trips) : Rect S4096x128 := ⟨⟨k0_off2 k 1#32, S128x128.size, ![4, 1], k0_off2_inb k 1⟩, spos_4_1⟩

/-- The rows of an array that a rectangle of 128 rows names. -/
abbrev sub (x : Vec F S4096x128 .f32) (r : Fin 2 → ℕ) (h : ∀ a, S128x128.size a = 0 ∨ r a + (![4, 1] : Fin 2 → ℕ) a * (S128x128.size a - 1) < S4096x128.size a) :
    Vec F S128x128 .f32 :=
  fun y => x (LoadRect.idx (s := S4096x128) ⟨r, S128x128.size, ![4, 1], h⟩ y)

section Arrays

variable (k : Fin k0_t1_loop.trips) (x1 x2 x3 x4 x5 x6 : Vec F S4096x128 .f32)

def dq0 : FVec F S128x128 .f32 :=
  dqB (uw k 0) (sub x1 _ (k0_off1_inb k 0)) (sub x2 _ (k0_off2_inb k 0)) (sub x2 _ (k0_off1_inb k 0)) (sub x3 _ (k0_off2_inb k 0)) (sub x3 _ (k0_off1_inb k 0))
    (sub x4 _ (k0_off1_inb k 0)) (sub x5 _ (k0_off1_inb k 0)) (sub x6 _ (k0_off1_inb k 0))
def dq1 : FVec F S128x128 .f32 :=
  dqB (uw k 1) (sub x1 _ (k0_off1_inb k 1)) (sub x2 _ (k0_off2_inb k 1)) (sub x2 _ (k0_off1_inb k 1)) (sub x3 _ (k0_off2_inb k 1)) (sub x3 _ (k0_off1_inb k 1))
    (sub x4 _ (k0_off1_inb k 1)) (sub x5 _ (k0_off1_inb k 1)) (sub x6 _ (k0_off1_inb k 1))
def dk0 : FVec F S256x128 .f32 :=
  dkB (uw k 0) (sub x1 _ (k0_off1_inb k 0)) (sub x2 _ (k0_off2_inb k 0)) (sub x2 _ (k0_off1_inb k 0)) (sub x3 _ (k0_off2_inb k 0)) (sub x3 _ (k0_off1_inb k 0))
    (sub x4 _ (k0_off1_inb k 0)) (sub x5 _ (k0_off1_inb k 0)) (sub x6 _ (k0_off1_inb k 0))
def dk1 : FVec F S256x128 .f32 :=
  dkB (uw k 1) (sub x1 _ (k0_off1_inb k 1)) (sub x2 _ (k0_off2_inb k 1)) (sub x2 _ (k0_off1_inb k 1)) (sub x3 _ (k0_off2_inb k 1)) (sub x3 _ (k0_off1_inb k 1))
    (sub x4 _ (k0_off1_inb k 1)) (sub x5 _ (k0_off1_inb k 1)) (sub x6 _ (k0_off1_inb k 1))
def dv0 : FVec F S256x128 .f32 :=
  dvB (uw k 0) (sub x1 _ (k0_off1_inb k 0)) (sub x2 _ (k0_off2_inb k 0)) (sub x2 _ (k0_off1_inb k 0)) (sub x4 _ (k0_off1_inb k 0)) (sub x6 _ (k0_off1_inb k 0))
def dv1 : FVec F S256x128 .f32 :=
  dvB (uw k 1) (sub x1 _ (k0_off1_inb k 1)) (sub x2 _ (k0_off2_inb k 1)) (sub x2 _ (k0_off1_inb k 1)) (sub x4 _ (k0_off1_inb k 1)) (sub x6 _ (k0_off1_inb k 1))

/-- What trip `k` writes in the gradient of the queries. -/
def stepQ (a : Memref sig .tc .vmem S4096x128 .f32) (f : a.view.ty.Contents (Elt F)) : a.view.ty.Contents (Elt F) :=
  a.view.writes (Elt F) f [⟨own1 k, dq1 k x1 x2 x3 x4 x5 x6⟩, ⟨own0 k, dq0 k x1 x2 x3 x4 x5 x6⟩]

/-- What trip `k` writes in the gradient of the keys or of the values, the two blocks' parts given. -/
def stepA (d0 d1 : FVec F S256x128 .f32) (a : Memref sig .tc .vmem S4096x128 .f32) (f : a.view.ty.Contents (Elt F)) : a.view.ty.Contents (Elt F) :=
  let L1 : List (View.Piece (Elt F) S4096x128 .f32) := [⟨own0 k, k0_pay40 d0⟩]
  let L3 : List (View.Piece (Elt F) S4096x128 .f32) :=
    ⟨own1 k, k0_pay40 d1⟩ :: ⟨prev0 k, k0_pay42 d0 (a.view.readAt (Elt F) (prev0 k).toLoadRect (a.view.writes (Elt F) f L1))⟩ :: L1
  a.view.writes (Elt F) f (⟨prev1 k, k0_pay42 d1 (a.view.readAt (Elt F) (prev1 k).toLoadRect (a.view.writes (Elt F) f L3))⟩ :: L3)

end Arrays

section Trip

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole)

/-- A buffer of the body held whole at contents `f`. -/
abbrev held (a : Memref sig .tc .vmem S4096x128 .f32) (f : Buf (Elt F) (a.view.loc (c : Thread nD τ))) : sProp 𝕄 :=
  a.view.loc (c : Thread nD τ) ↦[a.view.set]{fullShare} f

set_option maxHeartbeats 2000000 in
/-- One trip from the nine buffers, run to what it leaves in them. -/
theorem trip (k : Fin k0_t1_loop.trips)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (f7 : Buf (Elt F) (arg7.view.loc (c : Thread nD τ))) (f8 : Buf (Elt F) (arg8.view.loc (c : Thread nD τ)))
    (f9 : Buf (Elt F) (arg9.view.loc (c : Thread nD τ)))
    (x1 x2 x3 x4 x5 x6 : Vec F S4096x128 .f32) (h1 : arg1.view.read (Elt F) f1 = x1) (h2 : arg2.view.read (Elt F) f2 = x2)
    (h3 : arg3.view.read (Elt F) f3 = x3) (h4 : arg4.view.read (Elt F) f4 = x4) (h5 : arg5.view.read (Elt F) f5 = x5)
    (h6 : arg6.view.read (Elt F) f6 = x6) :
    iprop(held c arg1 f1 ∗ held c arg2 f2 ∗ held c arg3 f3 ∗ held c arg4 f4 ∗ held c arg5 f5 ∗ held c arg6 f6
        ∗ held c arg7 f7 ∗ held c arg8 f8 ∗ held c arg9 f9)
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 k ())
          (fun _ => iprop(held c arg1 f1 ∗ held c arg2 f2 ∗ held c arg3 f3 ∗ held c arg4 f4 ∗ held c arg5 f5 ∗ held c arg6 f6
            ∗ held c arg7 (stepQ k x1 x2 x3 x4 x5 x6 arg7 f7)
            ∗ held c arg8 (stepA k (dk0 k x1 x2 x3 x4 x5 x6) (dk1 k x1 x2 x3 x4 x5 x6) arg8 f8)
            ∗ held c arg9 (stepA k (dv0 k x1 x2 x4 x6) (dv1 k x1 x2 x4 x6) arg9 f9))) := by
  subst h1 h2 h3 h4 h5 h6
  unfold k0_t1_body
  iintro ⟨H1, H2, H3, H4, H5, H6, H7, H8, H9⟩
  sl_exec
  sl_step
  have hu0 : trip.sl.v25 k = uw k 0 := (by decide +kernel : ∀ k, trip.sl.v25 k = uw k 0) k
  have hu1 : trip.sl.v52 k = uw k 1 := (by decide +kernel : ∀ k, trip.sl.v52 k = uw k 1) k
  have h16 : trip.sl.r_16 k = k0_pay26 (uw k 0) := by
    unfold trip.sl.r_16; rw [hu0]
  have p0 : k0_pay28 (trip.sl.r_12 c arg1 arg2 k f1 f2) (trip.sl.r_16 k) (trip.sl.r_17 c arg6 k f6) = pB (uw k 0) (sub (arg1.view.read (Elt F) f1) _ (k0_off1_inb k 0)) (sub (arg2.view.read (Elt F) f2) _ (k0_off2_inb k 0)) (sub (arg2.view.read (Elt F) f2) _ (k0_off1_inb k 0)) (sub (arg6.view.read (Elt F) f6) _ (k0_off1_inb k 0)) := by
    rw [h16]; rfl
  have p1 : k0_pay29 (trip.sl.v52 k) (trip.sl.r_11 c arg6 k f6) (trip.sl.r_13 c arg1 arg2 k f1 f2) = pB (uw k 1) (sub (arg1.view.read (Elt F) f1) _ (k0_off1_inb k 1)) (sub (arg2.view.read (Elt F) f2) _ (k0_off2_inb k 1)) (sub (arg2.view.read (Elt F) f2) _ (k0_off1_inb k 1)) (sub (arg6.view.read (Elt F) f6) _ (k0_off1_inb k 1)) := by
    rw [hu1]; rfl
  have d0 : k0_pay30 (trip.sl.r_8 c arg4 arg5 k f4 f5) (trip.sl.r_12 c arg1 arg2 k f1 f2) (trip.sl.r_14 c arg3 arg4 k f3 f4) (trip.sl.r_16 k) (trip.sl.r_17 c arg6 k f6) = dsB (uw k 0) (sub (arg1.view.read (Elt F) f1) _ (k0_off1_inb k 0)) (sub (arg2.view.read (Elt F) f2) _ (k0_off2_inb k 0)) (sub (arg2.view.read (Elt F) f2) _ (k0_off1_inb k 0)) (sub (arg3.view.read (Elt F) f3) _ (k0_off2_inb k 0)) (sub (arg3.view.read (Elt F) f3) _ (k0_off1_inb k 0)) (sub (arg4.view.read (Elt F) f4) _ (k0_off1_inb k 0)) (sub (arg5.view.read (Elt F) f5) _ (k0_off1_inb k 0)) (sub (arg6.view.read (Elt F) f6) _ (k0_off1_inb k 0)) := by
    unfold k0_pay30; rw [p0]; rfl
  have d1 : k0_pay31 (trip.sl.v52 k) (trip.sl.r_10 c arg4 arg5 k f4 f5) (trip.sl.r_11 c arg6 k f6) (trip.sl.r_13 c arg1 arg2 k f1 f2) (trip.sl.r_15 c arg3 arg4 k f3 f4) = dsB (uw k 1) (sub (arg1.view.read (Elt F) f1) _ (k0_off1_inb k 1)) (sub (arg2.view.read (Elt F) f2) _ (k0_off2_inb k 1)) (sub (arg2.view.read (Elt F) f2) _ (k0_off1_inb k 1)) (sub (arg3.view.read (Elt F) f3) _ (k0_off2_inb k 1)) (sub (arg3.view.read (Elt F) f3) _ (k0_off1_inb k 1)) (sub (arg4.view.read (Elt F) f4) _ (k0_off1_inb k 1)) (sub (arg5.view.read (Elt F) f5) _ (k0_off1_inb k 1)) (sub (arg6.view.read (Elt F) f6) _ (k0_off1_inb k 1)) := by
    unfold k0_pay31; rw [p1]; rfl
  have e0 : k0_pay39 k0_pay1 k0_pay2 (trip.sl.r_18 c arg1 arg2 arg3 arg4 arg5 arg6 k f1 f2 f3 f4 f5 f6) (trip.sl.r_24 c arg1 arg2 arg3 arg4 arg5 arg6 k f1 f2 f3 f4 f5 f6) = dq0 k (arg1.view.read (Elt F) f1) (arg2.view.read (Elt F) f2) (arg3.view.read (Elt F) f3) (arg4.view.read (Elt F) f4) (arg5.view.read (Elt F) f5) (arg6.view.read (Elt F) f6) := by
    unfold trip.sl.r_24 k0_pay38 trip.sl.r_18 k0_pay32 dq0 dqB; rw [d0]; rfl
  have e1 : trip.sl.r_25 c arg1 arg2 arg3 arg4 arg5 arg6 k f1 f2 f3 f4 f5 f6 = dq1 k (arg1.view.read (Elt F) f1) (arg2.view.read (Elt F) f2) (arg3.view.read (Elt F) f3) (arg4.view.read (Elt F) f4) (arg5.view.read (Elt F) f5) (arg6.view.read (Elt F) f6) := by
    unfold trip.sl.r_25 trip.sl.r_19 k0_pay33 dq1 dqB; rw [d1]; rfl
  have k0 : trip.sl.r_20 c arg1 arg2 arg3 arg4 arg5 arg6 k f1 f2 f3 f4 f5 f6 = dk0 k (arg1.view.read (Elt F) f1) (arg2.view.read (Elt F) f2) (arg3.view.read (Elt F) f3) (arg4.view.read (Elt F) f4) (arg5.view.read (Elt F) f5) (arg6.view.read (Elt F) f6) := by
    unfold trip.sl.r_20 k0_pay34 dk0 dkB; rw [d0]; rfl
  have k1 : trip.sl.r_21 c arg1 arg2 arg3 arg4 arg5 arg6 k f1 f2 f3 f4 f5 f6 = dk1 k (arg1.view.read (Elt F) f1) (arg2.view.read (Elt F) f2) (arg3.view.read (Elt F) f3) (arg4.view.read (Elt F) f4) (arg5.view.read (Elt F) f5) (arg6.view.read (Elt F) f6) := by
    unfold trip.sl.r_21 k0_pay35 dk1 dkB; rw [d1]; rfl
  have w0 : trip.sl.r_22 c arg1 arg2 arg4 arg6 k f1 f2 f4 f6 = dv0 k (arg1.view.read (Elt F) f1) (arg2.view.read (Elt F) f2) (arg4.view.read (Elt F) f4) (arg6.view.read (Elt F) f6) := by
    unfold trip.sl.r_22 k0_pay36 dv0 dvB; rw [p0]; rfl
  have w1 : trip.sl.r_23 c arg1 arg2 arg4 arg6 k f1 f2 f4 f6 = dv1 k (arg1.view.read (Elt F) f1) (arg2.view.read (Elt F) f2) (arg4.view.read (Elt F) f4) (arg6.view.read (Elt F) f6) := by
    unfold trip.sl.r_23 k0_pay37 dv1 dvB; rw [p1]; rfl
  unfold stepQ
  rw [← e0, ← e1, ← k0, ← k1, ← w0, ← w1]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Trip

end Cert.Kernel.Dil

end
-- ==== Proof.Model.lean ====
module

public import Idealize.ShloMosaic.PureOps.Ideal.Laws
public import Mathlib.Tactic.FieldSimp
public import Mathlib.Tactic.Ring
public import Mathlib.Tactic.Positivity
public import Mathlib.Analysis.SpecialFunctions.Log.Basic

@[expose] public section

noncomputable section

namespace Cert.Dil

/-! # The gradient of one dilated group, over the reals

The formulas of the reference's backward pass, one row of scores at a time, and the short form they come to: with
`L` the logarithm of the sum of the exponentials of all the scores of all the groups and `P = exp (s - L)` on the keys a query
reads, the gradient of a score is `P * (dO · v - dO · o)`, `o` the combined output. -/

/-- The finite arrays of the problem, and for each row the two numbers that are taken off before an exponential. -/
structure Arr where
  q : Fin 4 → Fin 4096 → Fin 64 → ℝ
  k : Fin 4 → Fin 4096 → Fin 64 → ℝ
  v : Fin 4 → Fin 4096 → Fin 64 → ℝ
  oa : Fin 4 → Fin 4096 → Fin 64 → ℝ
  ob : Fin 4 → Fin 4096 → Fin 64 → ℝ
  dO : Fin 4 → Fin 4096 → Fin 64 → ℝ
  la : Fin 4 → Fin 4096 → ℝ
  lb : Fin 4 → Fin 4096 → ℝ
  m : Fin 4 → Fin 4096 → ℝ
  M : Fin 4 → Fin 4096 → ℝ

/-- Query `t` reads key `u`: at most 512 back, in steps of four. -/
def reads (t u : Fin 4096) : Prop := u.val ≤ t.val ∧ t.val - u.val ≤ 512 ∧ (t.val - u.val) % 4 = 0

instance (t u : Fin 4096) : Decidable (reads t u) := by unfold reads; infer_instance

theorem reads_self (t : Fin 4096) : reads t t := ⟨le_refl _, by omega, by omega⟩

namespace Arr

variable (A : Arr) (h : Fin 4) (t u : Fin 4096) (e : Fin 64) (g : Fin 3)

def s : ℝ := (∑ e, A.q h t e * A.k h u e) * (1 / 8)
def p : ℝ := if reads t u then Real.exp (A.s h t u - A.m h t) else 0
/-- A score, and nothing where the query does not read the key. -/
def score : EReal := if reads t u then ((A.s h t u : ℝ) : EReal) else ⊥
def den : ℝ := ∑ u, A.p h t u
def num : ℝ := ∑ u, A.p h t u * A.v h u e
def o : ℝ := A.num h t e * (1 / A.den h t)
def l : ℝ := match g with
  | 0 => A.la h t
  | 1 => A.m h t + Real.log (A.den h t)
  | 2 => A.lb h t
def E : ℝ := Real.exp (A.l h t g - A.M h t)
def Z : ℝ := ∑ g, A.E h t g
def w : ℝ := A.E h t g * (1 / A.Z h t)
def og : ℝ := match g with
  | 0 => A.oa h t e
  | 1 => A.o h t e
  | 2 => A.ob h t e
def odil : ℝ := ∑ g, A.w h t g * A.og h t e g
def D : ℝ := ∑ e, A.dO h t e * A.og h t e g
/-- The gradient of the group's logarithm of the sum. -/
def dl : ℝ := (A.D h t 1 * (1 / A.Z h t) + -(∑ g, A.D h t g * (1 / (A.Z h t * A.Z h t)) * A.E h t g)) * A.E h t 1
def cc : ℝ := A.dl h t * (1 / A.den h t) + -(∑ e, A.w h t 1 * A.dO h t e * (1 / (A.den h t * A.den h t)) * A.num h t e)
/-- The gradient of a score before the maximum's own part. -/
def ds0 : ℝ := ((∑ e, A.w h t 1 * A.dO h t e * (1 / A.den h t) * A.v h u e) + A.cc h t) * A.p h t u
/-- The gradient of the maximum. -/
def X : ℝ := A.dl h t + ∑ u, -A.ds0 h t u

def L : ℝ := A.M h t + Real.log (A.Z h t)
def P : ℝ := if reads t u then Real.exp (A.s h t u - A.L h t) else 0
def delta : ℝ := ∑ e, A.dO h t e * A.odil h t e
def dS : ℝ := A.P h t u * ((∑ e, A.dO h t e * A.v h u e) - A.delta h t)

/-- The three gradients. -/
def dq : ℝ := ∑ u, A.dS h t u * (1 / 8) * A.k h u e
def dk : ℝ := ∑ t, A.dS h t u * (1 / 8) * A.q h t e
def dv : ℝ := ∑ t, A.P h t u * A.dO h t e

theorem p_nonneg : 0 ≤ A.p h t u := by unfold p; split <;> positivity
theorem score_ne_top : A.score h t u ≠ ⊤ := by
  unfold score
  split
  · exact EReal.coe_ne_top _
  · exact bot_ne_top

theorem score_ne_bot (hr : reads t u) : A.score h t u ≠ ⊥ := by
  unfold score
  rw [if_pos hr]; exact EReal.coe_ne_bot _

theorem den_pos : 0 < A.den h t :=
  Finset.sum_pos' (fun u _ => A.p_nonneg h t u) ⟨t, Finset.mem_univ _, by unfold p; rw [if_pos (reads_self t)]; positivity⟩
theorem Z_pos : 0 < A.Z h t := Finset.sum_pos (fun g _ => Real.exp_pos _) ⟨0, Finset.mem_univ _⟩

theorem E_one : A.E h t 1 = Real.exp (A.m h t - A.M h t) * A.den h t := by
  show Real.exp (A.m h t + Real.log (A.den h t) - A.M h t) = _
  rw [add_sub_right_comm, Real.exp_add, Real.exp_log (A.den_pos h t)]

theorem P_eq : A.P h t u = A.w h t 1 * (1 / A.den h t) * A.p h t u := by
  have hd := (A.den_pos h t).ne'
  have hZ := (A.Z_pos h t).ne'
  unfold P p w
  rw [E_one]
  split
  · have : A.s h t u - A.L h t = (A.m h t - A.M h t) + (A.s h t u - A.m h t) - Real.log (A.Z h t) := by unfold L; ring
    rw [this, Real.exp_sub, Real.exp_add, Real.exp_log (A.Z_pos h t)]
    field_simp
  · simp

theorem delta_eq : A.delta h t = ∑ g, A.w h t g * A.D h t g := by
  unfold delta odil D
  simp only [Finset.mul_sum]
  rw [Finset.sum_comm]
  exact Finset.sum_congr rfl fun g _ => Finset.sum_congr rfl fun e _ => by ring

theorem D_one : A.D h t 1 = (∑ e, A.dO h t e * A.num h t e) * (1 / A.den h t) := by
  show ∑ e, A.dO h t e * (A.num h t e * (1 / A.den h t)) = _
  rw [Finset.sum_mul]
  exact Finset.sum_congr rfl fun e _ => by ring

theorem dl_eq : A.dl h t = A.w h t 1 * (A.D h t 1 - A.delta h t) := by
  have hZ := (A.Z_pos h t).ne'
  have : ∑ g, A.D h t g * (1 / (A.Z h t * A.Z h t)) * A.E h t g = A.delta h t * (1 / A.Z h t) := by
    rw [delta_eq, Finset.sum_mul]
    exact Finset.sum_congr rfl fun g _ => by unfold w; field_simp
  unfold dl w
  rw [this]
  ring

theorem cc_eq : A.cc h t = -(A.w h t 1 * (1 / A.den h t) * A.delta h t) := by
  have hd := (A.den_pos h t).ne'
  have : ∑ e, A.w h t 1 * A.dO h t e * (1 / (A.den h t * A.den h t)) * A.num h t e = A.w h t 1 * (1 / A.den h t) * A.D h t 1 := by
    rw [D_one, Finset.sum_mul, Finset.mul_sum]
    exact Finset.sum_congr rfl fun e _ => by field_simp
  unfold cc
  rw [this, dl_eq]
  ring

theorem ds0_eq : A.ds0 h t u = A.dS h t u := by
  unfold ds0 dS
  rw [P_eq, cc_eq]
  have : ∑ e, A.w h t 1 * A.dO h t e * (1 / A.den h t) * A.v h u e = A.w h t 1 * (1 / A.den h t) * ∑ e, A.dO h t e * A.v h u e := by
    rw [Finset.mul_sum]
    exact Finset.sum_congr rfl fun e _ => by ring
  rw [this]
  ring

theorem sum_num : ∑ u, A.p h t u * (∑ e, A.dO h t e * A.v h u e) = ∑ e, A.dO h t e * A.num h t e := by
  unfold num
  simp only [Finset.mul_sum]
  rw [Finset.sum_comm]
  exact Finset.sum_congr rfl fun e _ => Finset.sum_congr rfl fun u _ => by ring

/-- The maximum's gradient is zero: a softmax does not change when its scores are moved together. -/
theorem X_eq : A.X h t = 0 := by
  have hd := (A.den_pos h t).ne'
  have : ∑ u, A.ds0 h t u = A.w h t 1 * (1 / A.den h t) * ((∑ u, A.p h t u * (∑ e, A.dO h t e * A.v h u e)) - A.delta h t * A.den h t) := by
    unfold den
    rw [Finset.mul_sum, ← Finset.sum_sub_distrib, Finset.mul_sum]
    refine Finset.sum_congr rfl fun u _ => ?_
    rw [ds0_eq, dS, P_eq]
    unfold den
    ring
  unfold X
  rw [Finset.sum_neg_distrib, this, sum_num, dl_eq, D_one]
  field_simp
  ring

theorem dv_eq : ∑ t, A.w h t 1 * A.dO h t e * (1 / A.den h t) * A.p h t u = A.dv h u e :=
  Finset.sum_congr rfl fun t _ => by rw [P_eq]; ring

theorem ds0_reads (hr : ¬ reads t u) : A.dS h t u = 0 := by
  unfold dS P; rw [if_neg hr, zero_mul]

end Arr

end Cert.Dil

end
-- ==== Proof.Mask.lean ====
module

public import proofs.«01_k».proof.Proof.Model
public import proofs.«01_k».proof.Proof.Gen.ReferenceIdeal.Read

@[expose] public section

set_option maxRecDepth 16384

noncomputable section

namespace Cert.Dil

open Cert.ReferenceIdeal Cert.ReferenceIdeal.Gen Cert.ReferenceIdeal.Read Idealize.ShloMosaic

/-- The remainder on division by four, the sign of the divisor. -/
def rem4 (d : BitVec 32) : BitVec 32 :=
  let r := IntOp.remsi .host d (Scalar.select (IntOp.cmpi .eq 4#32 0#32) 1#32 4#32)
  Scalar.select (IntOp.andi (IntOp.cmpi .ne (IntOp.cmpi .slt r 0#32) (IntOp.cmpi .slt (Scalar.select (IntOp.cmpi .eq 4#32 0#32) 1#32 4#32) 0#32)) (IntOp.cmpi .ne r 0#32))
    (IntOp.addi r (Scalar.select (IntOp.cmpi .eq 4#32 0#32) 1#32 4#32)) r

/-- The mask as a function of the distance. -/
def maskBit (d : BitVec 32) : BitVec 1 :=
  IntOp.andi (IntOp.andi (IntOp.cmpi .sge d 0#32) (IntOp.cmpi .sle d 512#32)) (IntOp.cmpi .eq (rem4 d) 0#32)

theorem maskBit_back : ∀ n : Fin 4096, (maskBit (BitVec.ofNat 32 n.val) = 1#1) ↔ (n.val ≤ 512 ∧ n.val % 4 = 0) := by decide +kernel

theorem maskBit_ahead : ∀ n : Fin 4096, n.val ≠ 0 → maskBit (0#32 - BitVec.ofNat 32 n.val) ≠ 1#1 := by decide +kernel

theorem mask_bit {F : FTy → Type} [FloatOps F] (i : S4096x4096.Idx) :
    val_main_v23 (F := F) i = maskBit (BitVec.ofNat 32 (i 0).val - BitVec.ofNat 32 (i 1).val) := by
  simp only [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, val_main_v10_apply,
    val_main_v9_apply, val_main_c_apply, val_main_c_0_apply, val_main_c_1_apply, val_main_c_2_apply, val_main_call0_v0_apply, val_main_call0_v1_apply,
    val_main_call0_v2_apply, val_main_call0_v3_apply, val_main_call0_v4_apply, val_main_call0_v5_apply, val_main_call0_v6_apply, val_main_call0_v7_apply,
    val_main_call0_v8_apply, val_main_call0_v9_apply, val_main_call0_v10_apply, val_main_call0_v11_apply, val_main_call0_v12_apply,
    val_main_call0_v13_apply, val_main_call0_v14_apply, val_main_call0_c_apply, val_main_call0_c_0_apply, val_main_call0_c_1_apply,
    val_main_call0_c_2_apply, val_main_call0_c_3_apply]
  rfl

theorem mask_iff {F : FTy → Type} [FloatOps F] (i : S4096x4096.Idx) : val_main_v23 (F := F) i = 1#1 ↔ reads (i 0) (i 1) := by
  rw [mask_bit]
  have h0 : (i 0).val < 4096 := (i 0).isLt
  have h1 : (i 1).val < 4096 := (i 1).isLt
  show _ ↔ (i 1).val ≤ (i 0).val ∧ (i 0).val - (i 1).val ≤ 512 ∧ ((i 0).val - (i 1).val) % 4 = 0
  by_cases h : (i 1).val ≤ (i 0).val
  · have e : BitVec.ofNat 32 (i 0).val - BitVec.ofNat 32 (i 1).val = BitVec.ofNat 32 ((i 0).val - (i 1).val) := by
      apply BitVec.eq_of_toNat_eq
      simp only [BitVec.toNat_sub, BitVec.toNat_ofNat]
      omega
    rw [e, maskBit_back ⟨(i 0).val - (i 1).val, by omega⟩]
    exact ⟨fun x => ⟨h, x⟩, fun x => x.2⟩
  · have e : BitVec.ofNat 32 (i 0).val - BitVec.ofNat 32 (i 1).val = 0#32 - BitVec.ofNat 32 ((i 1).val - (i 0).val) := by
      apply BitVec.eq_of_toNat_eq
      simp only [BitVec.toNat_sub, BitVec.toNat_ofNat]
      omega
    rw [e]
    exact ⟨fun x => absurd x (maskBit_ahead ⟨(i 1).val - (i 0).val, by omega⟩ (by show (i 1).val - (i 0).val ≠ 0; omega)), fun x => absurd x.1 h⟩

end Cert.Dil

end
-- ==== Proof.Arith.lean ====
module

public import Idealize.ShloMosaic.PureOps.Ideal.Laws
public import Mathlib.Tactic.NormNum

@[expose] public section

noncomputable section

namespace Cert.Dil

open Idealize.ShloMosaic

/-! # The exact operations on finite values -/

theorem mul_r (a b : ℝ) : FloatOps.mulf (F := Ideal) (φ := .f32) (a : EReal) (b : EReal) = ((a * b : ℝ) : EReal) := (EReal.coe_mul a b).symm
theorem add_r (a b : ℝ) : FloatOps.addf (F := Ideal) (φ := .f32) (a : EReal) (b : EReal) = ((a + b : ℝ) : EReal) := (EReal.coe_add a b).symm
theorem sub_r (a b : ℝ) : FloatOps.subf (F := Ideal) (φ := .f32) (a : EReal) (b : EReal) = ((a - b : ℝ) : EReal) := (EReal.coe_sub a b).symm
theorem neg_r (a : ℝ) : FloatOps.hostNegf (F := Ideal) (φ := .f32) (a : EReal) = ((-a : ℝ) : EReal) := (EReal.coe_neg a).symm
theorem div_r (a b : ℝ) (hb : b ≠ 0) : FloatOps.hostDivf (F := Ideal) (φ := .f32) (a : EReal) (b : EReal) = ((a * (1 / b) : ℝ) : EReal) :=
  (Ideal.div_coe hb (a : EReal)).trans (EReal.coe_mul a (1 / b)).symm
theorem exp_r (a : ℝ) : FloatOps.hostUnary (F := Ideal) (φ := .f32) .exp (a : EReal) = ((Real.exp a : ℝ) : EReal) := Ideal.exp_coe a
theorem log_r (a : ℝ) (ha : 0 < a) : FloatOps.hostUnary (F := Ideal) (φ := .f32) .log (a : EReal) = ((Real.log a : ℝ) : EReal) :=
  (Ideal.log_coe a).trans (if_neg (not_le.mpr ha))

theorem coe_sum_r {ι : Type} (s : Finset ι) (g : ι → ℝ) : ∑ k ∈ s, ((g k : ℝ) : EReal) = ((∑ k ∈ s, g k : ℝ) : EReal) := by
  classical
  induction s using Finset.induction with
  | empty => rfl
  | insert a s ha ih => rw [Finset.sum_insert ha, Finset.sum_insert ha, ih, EReal.coe_add]

/-- A sum of finite values, and one from zero. -/
theorem sum_r {ι : Type} [Fintype ι] (f : ι → EReal) (g : ι → ℝ) (hf : ∀ k, f k = (g k : EReal)) : ∑ k, f k = ((∑ k, g k : ℝ) : EReal) := by
  rw [← coe_sum_r]; exact Finset.sum_congr rfl fun k _ => hf k

theorem zsum_r {ι : Type} [Fintype ι] (z : EReal) (hz : z = 0) (f : ι → EReal) (g : ι → ℝ) (hf : ∀ k, f k = (g k : EReal)) :
    z + ∑ k, f k = ((∑ k, g k : ℝ) : EReal) := by
  rw [hz, zero_add, sum_r f g hf]

theorem dot_r {ι : Type} [Fintype ι] (f f' : ι → EReal) (g g' : ι → ℝ) (hf : ∀ k, f k = (g k : EReal)) (hf' : ∀ k, f' k = (g' k : EReal)) :
    ∑ k, f k * f' k = ((∑ k, g k * g' k : ℝ) : EReal) :=
  sum_r _ _ fun k => by rw [hf, hf', ← EReal.coe_mul]

theorem sum_one {g : Fin 1 → ℝ} : ∑ k, g k = g 0 := Fintype.sum_unique g

theorem c_zero : FloatOps.ofBits (F := Ideal) .f32 0x00000000#32 = ((0 : ℝ) : EReal) := by simp [Ideal.ofBits, Ideal.ieee]
theorem c_zero' : FloatOps.ofBits (F := Ideal) .f32 0x00000000#32 = (0 : EReal) := by simp [Ideal.ofBits, Ideal.ieee]
theorem c_one : FloatOps.ofBits (F := Ideal) .f32 0x3F800000#32 = ((1 : ℝ) : EReal) := by
  simp [Ideal.ofBits, Ideal.ieee, -EReal.coe_mul]; norm_num
theorem c_eighth : FloatOps.ofBits (F := Ideal) .f32 0x3E000000#32 = ((1 / 8 : ℝ) : EReal) := by
  simp [Ideal.ofBits, Ideal.ieee, -EReal.coe_mul]; norm_num
theorem c_bot : FloatOps.ofBits (F := Ideal) .f32 0xFF800000#32 = (⊥ : EReal) := by simp [Ideal.ofBits, Ideal.ieee]

/-- The largest of finite values and of none is finite when one of them is. -/
theorem fold_max_real {ι : Type} (s : Finset ι) (b : EReal) (hb : b = ⊥) (f : ι → EReal) (hf : ∀ k ∈ s, f k ≠ ⊤) (k : ι) (hk : k ∈ s) (hr : f k ≠ ⊥) :
    s.fold max b f = (((s.fold max b f).toReal : ℝ) : EReal) := by
  subst hb
  refine (EReal.coe_toReal ?_ ?_).symm
  · exact ne_of_lt ((Finset.fold_max_lt _).mpr ⟨bot_lt_top, fun x hx => lt_top_iff_ne_top.mpr (hf x hx)⟩)
  · exact ne_of_gt ((Finset.lt_fold_max _).mpr (Or.inr ⟨k, hk, bot_lt_iff_ne_bot.mpr hr⟩))

/-- Where the gradient of a maximum is zero it adds nothing, whatever the number of scores that attain it. -/
theorem share_zero {ι : Type} [Fintype ι] (b : ι → BitVec 1) (z : EReal) (hz : z = 0) (u : ι) :
    FloatOps.mulf (F := Ideal) (φ := .f32) (FloatOps.hostDivf (F := Ideal) (φ := .f32) (((0 : ℝ)) : EReal) (z + ∑ k, FloatOps.uitofp (F := Ideal) .f32 (b k)))
      (FloatOps.uitofp (F := Ideal) .f32 (b u)) = ((0 : ℝ) : EReal) := by
  have hu : ∀ k, FloatOps.uitofp (F := Ideal) .f32 (b k) = (((b k).toNat : ℝ) : EReal) := fun k => rfl
  simp only [hu, hz, zero_add]
  rw [coe_sum_r]
  show Ideal.div ((0 : ℝ) : EReal) _ * _ = _
  by_cases h : (b u).toNat = 0
  · rw [h, Nat.cast_zero, EReal.coe_zero, mul_zero]
  · have hp : (∑ k, ((b k).toNat : ℝ)) ≠ 0 := by
      refine ne_of_gt (Finset.sum_pos' (fun k _ => Nat.cast_nonneg _) ⟨u, Finset.mem_univ _, ?_⟩)
      exact_mod_cast Nat.pos_of_ne_zero h
    rw [Ideal.div_coe hp, EReal.coe_zero, zero_mul, zero_mul]

theorem share_of {ι : Type} [Fintype ι] (b : ι → BitVec 1) (z : EReal) (hz : z = 0) (u : ι) (f : ι → EReal) (hf : ∀ k, f k = FloatOps.uitofp (F := Ideal) .f32 (b k))
    (c : EReal) (hc : c = FloatOps.uitofp (F := Ideal) .f32 (b u)) :
    FloatOps.mulf (F := Ideal) (φ := .f32) (FloatOps.hostDivf (F := Ideal) (φ := .f32) (((0 : ℝ)) : EReal) (z + ∑ k, f k)) c = ((0 : ℝ) : EReal) := by
  rw [hc, Finset.sum_congr rfl fun k _ => hf k]; exact share_zero b z hz u

end Cert.Dil

end
-- ==== Proof.Ref.lean ====
module

public import proofs.«01_k».proof.Proof.Mask
public import proofs.«01_k».proof.Proof.Arith
public import Idealize.ShloMosaic.Lib.ValueIdx

@[expose] public section

set_option maxRecDepth 16384

noncomputable section

namespace Cert.Dil

open Cert.ReferenceIdeal Cert.ReferenceIdeal.Gen Cert.ReferenceIdeal.Read Idealize.ShloMosaic Idealize.ShloMosaic.ValueIdx

/-! # Each stage of the reference on finite arguments, as a real number -/

variable (x0 : (⟨S4096x5120, .f32⟩ : BufTy).Contents (Elt Ideal)) (x1 : (⟨S4x4096x64, .f32⟩ : BufTy).Contents (Elt Ideal))
  (x2 : (⟨S4x4096, .f32⟩ : BufTy).Contents (Elt Ideal)) (x3 : (⟨S4x4096x64, .f32⟩ : BufTy).Contents (Elt Ideal))
  (x4 : (⟨S4x4096, .f32⟩ : BufTy).Contents (Elt Ideal)) (x5 : (⟨S4096x256, .f32⟩ : BufTy).Contents (Elt Ideal))

/-- The six arguments hold finite numbers. -/
structure Finite : Prop where
  h0 : ∀ i, x0 i = ((x0 i).toReal : EReal)
  h1 : ∀ i, x1 i = ((x1 i).toReal : EReal)
  h2 : ∀ i, x2 i = ((x2 i).toReal : EReal)
  h3 : ∀ i, x3 i = ((x3 i).toReal : EReal)
  h4 : ∀ i, x4 i = ((x4 i).toReal : EReal)
  h5 : ∀ i, x5 i = ((x5 i).toReal : EReal)

/-- The arguments as arrays of real numbers, and the maxima the reference takes off. -/
def arr : Arr where
  q h t e := (val_main_v4 (F := Ideal) x0 (ix3 h t e)).toReal
  k h t e := (val_main_v6 (F := Ideal) x0 (ix3 h t e)).toReal
  v h t e := (val_main_v8 (F := Ideal) x0 (ix3 h t e)).toReal
  oa h t e := (x1 (ix3 h t e)).toReal
  ob h t e := (x3 (ix3 h t e)).toReal
  dO h t e := (val_main_v96 (F := Ideal) x5 (ix3 h t e)).toReal
  la h t := (x2 (ix2 h t)).toReal
  lb h t := (x4 (ix2 h t)).toReal
  m h t := (val_main_v28 (F := Ideal) x0 (ix2 h t)).toReal
  M h t := (val_main_v55 (F := Ideal) x0 x2 x4 (ix2 h t)).toReal

variable (H : Finite x0 x1 x2 x3 x4 x5)
include H

theorem st4 (i : S4x4096x64.Idx) : val_main_v4 (F := Ideal) x0 i = (((arr x0 x1 x2 x3 x4 x5).q (i 0) (i 1) (i 2) : ℝ) : EReal) :=
  by
  have e : val_main_v4 (F := Ideal) x0 i = ((val_main_v4 (F := Ideal) x0 i).toReal : EReal) := by rw [val_main_v4_apply]; rw [val_main_v3_apply]; rw [val_main_v0_apply]; exact H.h0 _
  rw [e]; exact congrArg (fun j => (((val_main_v4 (F := Ideal) x0 j).toReal : ℝ) : EReal)) (eq_ix3 i)

theorem st6 (i : S4x4096x64.Idx) : val_main_v6 (F := Ideal) x0 i = (((arr x0 x1 x2 x3 x4 x5).k (i 0) (i 1) (i 2) : ℝ) : EReal) :=
  by
  have e : val_main_v6 (F := Ideal) x0 i = ((val_main_v6 (F := Ideal) x0 i).toReal : EReal) := by rw [val_main_v6_apply]; rw [val_main_v5_apply]; rw [val_main_v1_apply]; exact H.h0 _
  rw [e]; exact congrArg (fun j => (((val_main_v6 (F := Ideal) x0 j).toReal : ℝ) : EReal)) (eq_ix3 i)

theorem st8 (i : S4x4096x64.Idx) : val_main_v8 (F := Ideal) x0 i = (((arr x0 x1 x2 x3 x4 x5).v (i 0) (i 1) (i 2) : ℝ) : EReal) :=
  by
  have e : val_main_v8 (F := Ideal) x0 i = ((val_main_v8 (F := Ideal) x0 i).toReal : EReal) := by rw [val_main_v8_apply]; rw [val_main_v7_apply]; rw [val_main_v2_apply]; exact H.h0 _
  rw [e]; exact congrArg (fun j => (((val_main_v8 (F := Ideal) x0 j).toReal : ℝ) : EReal)) (eq_ix3 i)

theorem st96 (i : S4x4096x64.Idx) : val_main_v96 (F := Ideal) x5 i = (((arr x0 x1 x2 x3 x4 x5).dO (i 0) (i 1) (i 2) : ℝ) : EReal) :=
  by
  have e : val_main_v96 (F := Ideal) x5 i = ((val_main_v96 (F := Ideal) x5 i).toReal : EReal) := by rw [val_main_v96_apply]; rw [val_main_v95_apply]; exact H.h5 _
  rw [e]; exact congrArg (fun j => (((val_main_v96 (F := Ideal) x5 j).toReal : ℝ) : EReal)) (eq_ix3 i)

theorem st24 (i : S4x4096x4096.Idx) : val_main_v24 (F := Ideal) x0 i = ((∑ e, (arr x0 x1 x2 x3 x4 x5).q (i 0) (i 1) e * (arr x0 x1 x2 x3 x4 x5).k (i 0) (i 2) e : ℝ) : EReal) :=
  by rw [val_main_v24_apply]; exact dot_r _ _ _ _ (fun k => st4 x0 x1 x2 x3 x4 x5 H _) (fun k => st6 x0 x1 x2 x3 x4 x5 H _)

theorem st25 (i : S4x4096x4096.Idx) : val_main_v25 (F := Ideal) i = ((1 / 8 : ℝ) : EReal) :=
  (val_main_v25_apply i).trans c_eighth

theorem st26 (i : S4x4096x4096.Idx) : val_main_v26 (F := Ideal) x0 i = (((arr x0 x1 x2 x3 x4 x5).s (i 0) (i 1) (i 2) : ℝ) : EReal) :=
  by rw [val_main_v26_apply, st24 x0 x1 x2 x3 x4 x5 H, st25 x0 x1 x2 x3 x4 x5 H]; exact mul_r _ _

theorem bit (i : S4x4096x4096.Idx) : val_main_v27_1 (F := Ideal) i = 1#1 ↔ reads (i 1) (i 2) := by
  rw [val_main_v27_1_apply]; exact mask_iff _

theorem st27 (i : S4x4096x4096.Idx) : val_main_v27_0 (F := Ideal) x0 i = (arr x0 x1 x2 x3 x4 x5).score (i 0) (i 1) (i 2) := by
  rw [val_main_v27_0_apply, st26 x0 x1 x2 x3 x4 x5 H]
  unfold Arr.score
  by_cases h : reads (i 1) (i 2)
  · rw [if_pos h]; exact if_pos ((bit x0 x1 x2 x3 x4 x5 H i).mpr h)
  · rw [if_neg h]
    refine (if_neg fun hb => h ((bit x0 x1 x2 x3 x4 x5 H i).mp hb)).trans ?_
    rw [val_main_call1_v2_apply]; exact c_bot

theorem at28 (h : Fin 4) (t : Fin 4096) : (arr x0 x1 x2 x3 x4 x5).m h t = (val_main_v28 (F := Ideal) x0 (ix2 h t)).toReal := by dsimp only [arr]

theorem fold28 (i : S4x4096.Idx) : val_main_v28 (F := Ideal) x0 i = (Finset.univ : Finset (Fin 4096)).fold max (FloatOps.ofBits (F := Ideal) .f32 0xFF800000#32)
    (val_main_v27_0 (F := Ideal) x0 ∘ (show S4x4096x4096.Reduces [2] S4x4096 by decide).lift i) := by
  unfold val_main_v28
  rw [Host.reduce_eq_fold_single FloatOps.maximumf _ _ _ (show S4x4096x4096.Reduces [2] S4x4096 by decide)]
  rfl

theorem st28 (i : S4x4096.Idx) : val_main_v28 (F := Ideal) x0 i = (((arr x0 x1 x2 x3 x4 x5).m (i 0) (i 1) : ℝ) : EReal) := by
  have e : val_main_v28 (F := Ideal) x0 i = ((val_main_v28 (F := Ideal) x0 i).toReal : EReal) := by
    rw [fold28 x0 x1 x2 x3 x4 x5 H]
    refine fold_max_real _ _ c_bot _ (fun k _ => ?_) (i 1) (Finset.mem_univ _) ?_
    · show val_main_v27_0 (F := Ideal) x0 _ ≠ ⊤
      rw [st27 x0 x1 x2 x3 x4 x5 H]
      exact Arr.score_ne_top _ _ _ _
    · show val_main_v27_0 (F := Ideal) x0 _ ≠ ⊥
      rw [st27 x0 x1 x2 x3 x4 x5 H]
      exact Arr.score_ne_bot _ _ _ _ (reads_self (i 1))
  exact e.trans (congrArg Real.toEReal ((congrArg (fun j => (val_main_v28 (F := Ideal) x0 j).toReal) (eq_ix2 i)).trans (at28 x0 x1 x2 x3 x4 x5 H (i 0) (i 1)).symm))

theorem st34 (i : S4x4096x1.Idx) : val_main_v34 (F := Ideal) x0 i = (((arr x0 x1 x2 x3 x4 x5).m (i 0) (i 1) : ℝ) : EReal) :=
  (val_main_v34_apply x0 i).trans (st28 x0 x1 x2 x3 x4 x5 H _)

theorem st35 (i : S4x4096x4096.Idx) : val_main_v35 (F := Ideal) x0 i = (((arr x0 x1 x2 x3 x4 x5).m (i 0) (i 1) : ℝ) : EReal) :=
  (val_main_v35_apply x0 i).trans (st34 x0 x1 x2 x3 x4 x5 H _)

theorem st37 (i : S4x4096x4096.Idx) : val_main_v37 (F := Ideal) x0 i = (((arr x0 x1 x2 x3 x4 x5).p (i 0) (i 1) (i 2) : ℝ) : EReal) := by
  rw [val_main_v37_apply, val_main_v36_apply, st35 x0 x1 x2 x3 x4 x5 H, st27 x0 x1 x2 x3 x4 x5 H]
  unfold Arr.p Arr.score
  by_cases h : reads (i 1) (i 2)
  · rw [if_pos h, if_pos h, sub_r]; exact exp_r _
  · rw [if_neg h, if_neg h]; exact Ideal.exp_bot

theorem st38 (i : S4x4096.Idx) : val_main_v38 (F := Ideal) x0 i = (((arr x0 x1 x2 x3 x4 x5).den (i 0) (i 1) : ℝ) : EReal) :=
  by rw [val_main_v38_apply]; exact zsum_r _ c_zero' _ _ fun k => st37 x0 x1 x2 x3 x4 x5 H _

theorem st39 (i : S4x4096x1.Idx) : val_main_v39 (F := Ideal) x0 i = (((arr x0 x1 x2 x3 x4 x5).den (i 0) (i 1) : ℝ) : EReal) :=
  (val_main_v39_apply x0 i).trans (st38 x0 x1 x2 x3 x4 x5 H _)

theorem st40 (i : S4x4096x64.Idx) : val_main_v40 (F := Ideal) x0 i = (((arr x0 x1 x2 x3 x4 x5).num (i 0) (i 1) (i 2) : ℝ) : EReal) :=
  by rw [val_main_v40_apply]; exact dot_r _ _ _ _ (fun k => st37 x0 x1 x2 x3 x4 x5 H _) (fun k => st8 x0 x1 x2 x3 x4 x5 H _)

theorem st41 (i : S4x4096x64.Idx) : val_main_v41 (F := Ideal) x0 i = (((arr x0 x1 x2 x3 x4 x5).den (i 0) (i 1) : ℝ) : EReal) :=
  (val_main_v41_apply x0 i).trans (st39 x0 x1 x2 x3 x4 x5 H _)

theorem st42 (i : S4x4096x64.Idx) : val_main_v42 (F := Ideal) x0 i = (((arr x0 x1 x2 x3 x4 x5).o (i 0) (i 1) (i 2) : ℝ) : EReal) :=
  by rw [val_main_v42_apply, st40 x0 x1 x2 x3 x4 x5 H, st41 x0 x1 x2 x3 x4 x5 H]; exact div_r _ _ (Arr.den_pos _ _ _).ne'

theorem st43 (i : S4x4096x1.Idx) : val_main_v43 (F := Ideal) x0 i = (((arr x0 x1 x2 x3 x4 x5).den (i 0) (i 1) * (arr x0 x1 x2 x3 x4 x5).den (i 0) (i 1) : ℝ) : EReal) :=
  by rw [val_main_v43_apply, st39 x0 x1 x2 x3 x4 x5 H]; exact mul_r _ _

theorem st44 (i : S4x4096x1.Idx) : val_main_v44 (F := Ideal) i = ((1 : ℝ) : EReal) :=
  (val_main_v44_apply i).trans c_one

theorem st45 (i : S4x4096x1.Idx) : val_main_v45 (F := Ideal) x0 i = ((1 / ((arr x0 x1 x2 x3 x4 x5).den (i 0) (i 1) * (arr x0 x1 x2 x3 x4 x5).den (i 0) (i 1)) : ℝ) : EReal) :=
  by
  rw [val_main_v45_apply, st44 x0 x1 x2 x3 x4 x5 H, st43 x0 x1 x2 x3 x4 x5 H]
  exact (div_r _ _ (mul_ne_zero (Arr.den_pos _ _ _).ne' (Arr.den_pos _ _ _).ne')).trans (congrArg _ (one_mul _))

theorem st46 (i : S4x4096x1.Idx) : val_main_v46 (F := Ideal) x0 i = ((Real.log ((arr x0 x1 x2 x3 x4 x5).den (i 0) (i 1)) : ℝ) : EReal) :=
  by rw [val_main_v46_apply, st39 x0 x1 x2 x3 x4 x5 H]; exact log_r _ (Arr.den_pos _ _ _)

theorem st47 (i : S4x4096x1.Idx) : val_main_v47 (F := Ideal) x0 i = (((arr x0 x1 x2 x3 x4 x5).l (i 0) (i 1) 1 : ℝ) : EReal) :=
  by rw [val_main_v47_apply, st34 x0 x1 x2 x3 x4 x5 H, st46 x0 x1 x2 x3 x4 x5 H]; exact add_r _ _

omit H in
theorem ix48 (i : S4x4096.Idx) : idx_main_v48 i = ix3 (i 0) (i 1) (0 : Fin 1) :=
  funext fun a => Fin.ext (match a with
    | ⟨0, _⟩ => by have h0 : (i 0).val < 4 := (i 0).isLt; have h1 : (i 1).val < 4096 := (i 1).isLt; show ((i 0).val * 4096 + (i 1).val) / 4096 = (i 0).val; omega
    | ⟨1, _⟩ => by have h0 : (i 0).val < 4 := (i 0).isLt; have h1 : (i 1).val < 4096 := (i 1).isLt; show ((i 0).val * 4096 + (i 1).val) / 1 % 4096 = (i 1).val; omega
    | ⟨2, _⟩ => by have h0 : (i 0).val < 4 := (i 0).isLt; have h1 : (i 1).val < 4096 := (i 1).isLt; show 0 = 0; omega)

theorem st48 (i : S4x4096.Idx) : val_main_v48 (F := Ideal) x0 i = (((arr x0 x1 x2 x3 x4 x5).l (i 0) (i 1) 1 : ℝ) : EReal) :=
  (val_main_v48_apply x0 i).trans ((congrArg _ (ix48 i)).trans (st47 x0 x1 x2 x3 x4 x5 H _))

theorem st50 (i : S1x4x4096.Idx) : val_main_v50 (F := Ideal) x0 i = (((arr x0 x1 x2 x3 x4 x5).l (i 1) (i 2) 1 : ℝ) : EReal) :=
  (val_main_v50_apply x0 i).trans (st48 x0 x1 x2 x3 x4 x5 H _)

theorem pick52_0 (i : S3x4x4096.Idx) (hg : (i 0).val = 0) : val_main_v52 (F := Ideal) x0 x2 x4 i = val_main_v49 (F := Ideal) x2 (ix3 (0 : Fin 1) (i 1) (i 2)) := by
  unfold val_main_v52
  exact concatenate_apply_piece 0 _ _ i 0 (by show 0 < 3; omega) S1x4x4096 _ rfl rfl 0 rfl _ (fun b hb => match b, hb with
    | ⟨0, _⟩, hb => absurd rfl hb
    | ⟨1, _⟩, hb => rfl
    | ⟨2, _⟩, hb => rfl)
    (by show 0 + 0 = (i 0).val; omega)

theorem pick52_1 (i : S3x4x4096.Idx) (hg : (i 0).val = 1) : val_main_v52 (F := Ideal) x0 x2 x4 i = val_main_v50 (F := Ideal) x0 (ix3 (0 : Fin 1) (i 1) (i 2)) := by
  unfold val_main_v52
  exact concatenate_apply_piece 0 _ _ i 1 (by show 1 < 3; omega) S1x4x4096 _ rfl rfl 1 rfl _ (fun b hb => match b, hb with
    | ⟨0, _⟩, hb => absurd rfl hb
    | ⟨1, _⟩, hb => rfl
    | ⟨2, _⟩, hb => rfl)
    (by show 1 + 0 = (i 0).val; omega)

theorem pick52_2 (i : S3x4x4096.Idx) (hg : (i 0).val = 2) : val_main_v52 (F := Ideal) x0 x2 x4 i = val_main_v51 (F := Ideal) x4 (ix3 (0 : Fin 1) (i 1) (i 2)) := by
  unfold val_main_v52
  exact concatenate_apply_piece 0 _ _ i 2 (by show 2 < 3; omega) S1x4x4096 _ rfl rfl 2 rfl _ (fun b hb => match b, hb with
    | ⟨0, _⟩, hb => absurd rfl hb
    | ⟨1, _⟩, hb => rfl
    | ⟨2, _⟩, hb => rfl)
    (by show 2 + 0 = (i 0).val; omega)

theorem st52 (i : S3x4x4096.Idx) : val_main_v52 (F := Ideal) x0 x2 x4 i = (((arr x0 x1 x2 x3 x4 x5).l (i 1) (i 2) (i 0) : ℝ) : EReal) :=
  by
  have hg : (i 0).val < 3 := (i 0).isLt
  rcases (by omega : (i 0).val = 0 ∨ (i 0).val = 1 ∨ (i 0).val = 2) with h | h | h
  · rw [pick52_0 x0 x1 x2 x3 x4 x5 H i h, val_main_v49_apply, H.h2, show i 0 = (0 : Fin 3) from Fin.ext h] <;> exact congrArg (fun j => (((x2 j).toReal : ℝ) : EReal)) (eq_ix2 _)
  · rw [pick52_1 x0 x1 x2 x3 x4 x5 H i h, st50 x0 x1 x2 x3 x4 x5 H, show i 0 = (1 : Fin 3) from Fin.ext h] <;> rfl
  · rw [pick52_2 x0 x1 x2 x3 x4 x5 H i h, val_main_v51_apply, H.h4, show i 0 = (2 : Fin 3) from Fin.ext h] <;> exact congrArg (fun j => (((x4 j).toReal : ℝ) : EReal)) (eq_ix2 _)

theorem at55 (h : Fin 4) (t : Fin 4096) : (arr x0 x1 x2 x3 x4 x5).M h t = (val_main_v55 (F := Ideal) x0 x2 x4 (ix2 h t)).toReal := by dsimp only [arr]

theorem fold55 (i : S4x4096.Idx) : val_main_v55 (F := Ideal) x0 x2 x4 i = (Finset.univ : Finset (Fin 3)).fold max (FloatOps.ofBits (F := Ideal) .f32 0xFF800000#32)
    (val_main_v52 (F := Ideal) x0 x2 x4 ∘ (show S3x4x4096.Reduces [0] S4x4096 by decide).lift i) := by
  unfold val_main_v55
  rw [Host.reduce_eq_fold_single FloatOps.maximumf _ _ _ (show S3x4x4096.Reduces [0] S4x4096 by decide)]
  rfl

theorem st55 (i : S4x4096.Idx) : val_main_v55 (F := Ideal) x0 x2 x4 i = (((arr x0 x1 x2 x3 x4 x5).M (i 0) (i 1) : ℝ) : EReal) := by
  have e : val_main_v55 (F := Ideal) x0 x2 x4 i = ((val_main_v55 (F := Ideal) x0 x2 x4 i).toReal : EReal) := by
    rw [fold55 x0 x1 x2 x3 x4 x5 H]
    refine fold_max_real _ _ c_bot _ (fun k _ => ?_) (0 : Fin 3) (Finset.mem_univ _) ?_
    · show val_main_v52 (F := Ideal) x0 x2 x4 _ ≠ ⊤
      rw [st52 x0 x1 x2 x3 x4 x5 H]; exact EReal.coe_ne_top _
    · show val_main_v52 (F := Ideal) x0 x2 x4 _ ≠ ⊥
      rw [st52 x0 x1 x2 x3 x4 x5 H]; exact EReal.coe_ne_bot _
  exact e.trans (congrArg Real.toEReal ((congrArg (fun j => (val_main_v55 (F := Ideal) x0 x2 x4 j).toReal) (eq_ix2 i)).trans (at55 x0 x1 x2 x3 x4 x5 H (i 0) (i 1)).symm))

theorem st62 (i : S4x4096.Idx) : val_main_v62 (F := Ideal) x0 x2 x4 i = (((arr x0 x1 x2 x3 x4 x5).M (i 0) (i 1) : ℝ) : EReal) :=
  by
  rw [val_main_v62_apply, val_main_v61_apply, st55 x0 x1 x2 x3 x4 x5 H]
  show max (FloatOps.ofBits (F := Ideal) .f32 0xFF800000#32) _ = _
  rw [c_bot, bot_sup_eq]

theorem st72 (i : S1x4x4096.Idx) : val_main_v72 (F := Ideal) x0 x2 x4 i = (((arr x0 x1 x2 x3 x4 x5).M (i 1) (i 2) : ℝ) : EReal) :=
  (val_main_v72_apply x0 x2 x4 i).trans (st62 x0 x1 x2 x3 x4 x5 H _)

theorem st73 (i : S3x4x4096.Idx) : val_main_v73 (F := Ideal) x0 x2 x4 i = (((arr x0 x1 x2 x3 x4 x5).M (i 1) (i 2) : ℝ) : EReal) :=
  (val_main_v73_apply x0 x2 x4 i).trans (st72 x0 x1 x2 x3 x4 x5 H _)

theorem st74 (i : S3x4x4096.Idx) : val_main_v74 (F := Ideal) x0 x2 x4 i = (((arr x0 x1 x2 x3 x4 x5).l (i 1) (i 2) (i 0) - (arr x0 x1 x2 x3 x4 x5).M (i 1) (i 2) : ℝ) : EReal) :=
  by rw [val_main_v74_apply, st52 x0 x1 x2 x3 x4 x5 H, st73 x0 x1 x2 x3 x4 x5 H]; exact sub_r _ _

theorem st75 (i : S3x4x4096.Idx) : val_main_v75 (F := Ideal) x0 x2 x4 i = (((arr x0 x1 x2 x3 x4 x5).E (i 1) (i 2) (i 0) : ℝ) : EReal) :=
  by rw [val_main_v75_apply, st74 x0 x1 x2 x3 x4 x5 H]; exact exp_r _

theorem st76 (i : S4x4096.Idx) : val_main_v76 (F := Ideal) x0 x2 x4 i = (((arr x0 x1 x2 x3 x4 x5).Z (i 0) (i 1) : ℝ) : EReal) :=
  by rw [val_main_v76_apply]; exact zsum_r _ c_zero' _ _ fun k => st75 x0 x1 x2 x3 x4 x5 H _

theorem st77 (i : S1x4x4096.Idx) : val_main_v77 (F := Ideal) x0 x2 x4 i = (((arr x0 x1 x2 x3 x4 x5).Z (i 1) (i 2) : ℝ) : EReal) :=
  (val_main_v77_apply x0 x2 x4 i).trans (st76 x0 x1 x2 x3 x4 x5 H _)

theorem st78 (i : S3x4x4096.Idx) : val_main_v78 (F := Ideal) x0 x2 x4 i = (((arr x0 x1 x2 x3 x4 x5).Z (i 1) (i 2) : ℝ) : EReal) :=
  (val_main_v78_apply x0 x2 x4 i).trans (st77 x0 x1 x2 x3 x4 x5 H _)

theorem st79 (i : S3x4x4096.Idx) : val_main_v79 (F := Ideal) x0 x2 x4 i = (((arr x0 x1 x2 x3 x4 x5).w (i 1) (i 2) (i 0) : ℝ) : EReal) :=
  by rw [val_main_v79_apply, st75 x0 x1 x2 x3 x4 x5 H, st78 x0 x1 x2 x3 x4 x5 H]; exact div_r _ _ (Arr.Z_pos _ _ _).ne'

theorem st80 (i : S1x4x4096.Idx) : val_main_v80 (F := Ideal) x0 x2 x4 i = (((arr x0 x1 x2 x3 x4 x5).Z (i 1) (i 2) * (arr x0 x1 x2 x3 x4 x5).Z (i 1) (i 2) : ℝ) : EReal) :=
  by rw [val_main_v80_apply, st77 x0 x1 x2 x3 x4 x5 H]; exact mul_r _ _

theorem st81 (i : S1x4x4096.Idx) : val_main_v81 (F := Ideal) i = ((1 : ℝ) : EReal) :=
  (val_main_v81_apply i).trans c_one

theorem st82 (i : S1x4x4096.Idx) : val_main_v82 (F := Ideal) x0 x2 x4 i = ((1 / ((arr x0 x1 x2 x3 x4 x5).Z (i 1) (i 2) * (arr x0 x1 x2 x3 x4 x5).Z (i 1) (i 2)) : ℝ) : EReal) :=
  by
  rw [val_main_v82_apply, st81 x0 x1 x2 x3 x4 x5 H, st80 x0 x1 x2 x3 x4 x5 H]
  exact (div_r _ _ (mul_ne_zero (Arr.Z_pos _ _ _).ne' (Arr.Z_pos _ _ _).ne')).trans (congrArg _ (one_mul _))

theorem st83 (i : S3x4x4096x1.Idx) : val_main_v83 (F := Ideal) x0 x2 x4 i = (((arr x0 x1 x2 x3 x4 x5).w (i 1) (i 2) (i 0) : ℝ) : EReal) :=
  (val_main_v83_apply x0 x2 x4 i).trans (st79 x0 x1 x2 x3 x4 x5 H _)

theorem st85 (i : S1x4x4096x64.Idx) : val_main_v85 (F := Ideal) x0 i = (((arr x0 x1 x2 x3 x4 x5).o (i 1) (i 2) (i 3) : ℝ) : EReal) :=
  (val_main_v85_apply x0 i).trans (st42 x0 x1 x2 x3 x4 x5 H _)

theorem pick87_0 (i : S3x4x4096x64.Idx) (hg : (i 0).val = 0) : val_main_v87 (F := Ideal) x0 x1 x3 i = val_main_v84 (F := Ideal) x1 (ix4 (0 : Fin 1) (i 1) (i 2) (i 3)) := by
  unfold val_main_v87
  exact concatenate_apply_piece 0 _ _ i 0 (by show 0 < 3; omega) S1x4x4096x64 _ rfl rfl 0 rfl _ (fun b hb => match b, hb with
    | ⟨0, _⟩, hb => absurd rfl hb
    | ⟨1, _⟩, hb => rfl
    | ⟨2, _⟩, hb => rfl
    | ⟨3, _⟩, hb => rfl)
    (by show 0 + 0 = (i 0).val; omega)

theorem pick87_1 (i : S3x4x4096x64.Idx) (hg : (i 0).val = 1) : val_main_v87 (F := Ideal) x0 x1 x3 i = val_main_v85 (F := Ideal) x0 (ix4 (0 : Fin 1) (i 1) (i 2) (i 3)) := by
  unfold val_main_v87
  exact concatenate_apply_piece 0 _ _ i 1 (by show 1 < 3; omega) S1x4x4096x64 _ rfl rfl 1 rfl _ (fun b hb => match b, hb with
    | ⟨0, _⟩, hb => absurd rfl hb
    | ⟨1, _⟩, hb => rfl
    | ⟨2, _⟩, hb => rfl
    | ⟨3, _⟩, hb => rfl)
    (by show 1 + 0 = (i 0).val; omega)

theorem pick87_2 (i : S3x4x4096x64.Idx) (hg : (i 0).val = 2) : val_main_v87 (F := Ideal) x0 x1 x3 i = val_main_v86 (F := Ideal) x3 (ix4 (0 : Fin 1) (i 1) (i 2) (i 3)) := by
  unfold val_main_v87
  exact concatenate_apply_piece 0 _ _ i 2 (by show 2 < 3; omega) S1x4x4096x64 _ rfl rfl 2 rfl _ (fun b hb => match b, hb with
    | ⟨0, _⟩, hb => absurd rfl hb
    | ⟨1, _⟩, hb => rfl
    | ⟨2, _⟩, hb => rfl
    | ⟨3, _⟩, hb => rfl)
    (by show 2 + 0 = (i 0).val; omega)

theorem st87 (i : S3x4x4096x64.Idx) : val_main_v87 (F := Ideal) x0 x1 x3 i = (((arr x0 x1 x2 x3 x4 x5).og (i 1) (i 2) (i 3) (i 0) : ℝ) : EReal) :=
  by
  have hg : (i 0).val < 3 := (i 0).isLt
  rcases (by omega : (i 0).val = 0 ∨ (i 0).val = 1 ∨ (i 0).val = 2) with h | h | h
  · rw [pick87_0 x0 x1 x2 x3 x4 x5 H i h, val_main_v84_apply, H.h1, show i 0 = (0 : Fin 3) from Fin.ext h] <;> exact congrArg (fun j => (((x1 j).toReal : ℝ) : EReal)) (eq_ix3 _)
  · rw [pick87_1 x0 x1 x2 x3 x4 x5 H i h, st85 x0 x1 x2 x3 x4 x5 H, show i 0 = (1 : Fin 3) from Fin.ext h] <;> rfl
  · rw [pick87_2 x0 x1 x2 x3 x4 x5 H i h, val_main_v86_apply, H.h3, show i 0 = (2 : Fin 3) from Fin.ext h] <;> exact congrArg (fun j => (((x3 j).toReal : ℝ) : EReal)) (eq_ix3 _)

theorem st90 (i : S3x4x4096x64.Idx) : val_main_v90 (F := Ideal) x0 x2 x4 i = (((arr x0 x1 x2 x3 x4 x5).w (i 1) (i 2) (i 0) : ℝ) : EReal) :=
  (val_main_v90_apply x0 x2 x4 i).trans (st83 x0 x1 x2 x3 x4 x5 H _)

theorem st91 (i : S3x4x4096x64.Idx) : val_main_v91 (F := Ideal) x0 x1 x2 x3 x4 i = (((arr x0 x1 x2 x3 x4 x5).w (i 1) (i 2) (i 0) * (arr x0 x1 x2 x3 x4 x5).og (i 1) (i 2) (i 3) (i 0) : ℝ) : EReal) :=
  by rw [val_main_v91_apply, st90 x0 x1 x2 x3 x4 x5 H, st87 x0 x1 x2 x3 x4 x5 H]; exact mul_r _ _

theorem st92 (i : S4x4096x64.Idx) : val_main_v92 (F := Ideal) x0 x1 x2 x3 x4 i = (((arr x0 x1 x2 x3 x4 x5).odil (i 0) (i 1) (i 2) : ℝ) : EReal) :=
  by rw [val_main_v92_apply]; exact zsum_r _ c_zero' _ _ fun k => st91 x0 x1 x2 x3 x4 x5 H _

theorem st93 (i : S4096x4x64.Idx) : val_main_v93 (F := Ideal) x0 x1 x2 x3 x4 i = (((arr x0 x1 x2 x3 x4 x5).odil (i 1) (i 0) (i 2) : ℝ) : EReal) :=
  (val_main_v93_apply x0 x1 x2 x3 x4 i).trans (st92 x0 x1 x2 x3 x4 x5 H _)

theorem st97 (i : S3x4x4096x64.Idx) : val_main_v97 (F := Ideal) x5 i = (((arr x0 x1 x2 x3 x4 x5).dO (i 1) (i 2) (i 3) : ℝ) : EReal) :=
  (val_main_v97_apply x5 i).trans (st96 x0 x1 x2 x3 x4 x5 H _)

theorem st98 (i : S3x4x4096x64.Idx) : val_main_v98 (F := Ideal) x0 x2 x4 i = (((arr x0 x1 x2 x3 x4 x5).w (i 1) (i 2) (i 0) : ℝ) : EReal) :=
  (val_main_v98_apply x0 x2 x4 i).trans (st83 x0 x1 x2 x3 x4 x5 H _)

theorem st99 (i : S3x4x4096x64.Idx) : val_main_v99 (F := Ideal) x0 x2 x4 x5 i = (((arr x0 x1 x2 x3 x4 x5).w (i 1) (i 2) (i 0) * (arr x0 x1 x2 x3 x4 x5).dO (i 1) (i 2) (i 3) : ℝ) : EReal) :=
  by rw [val_main_v99_apply, st98 x0 x1 x2 x3 x4 x5 H, st97 x0 x1 x2 x3 x4 x5 H]; exact mul_r _ _

theorem st100 (i : S3x4x4096x64.Idx) : val_main_v100 (F := Ideal) x0 x1 x3 x5 i = (((arr x0 x1 x2 x3 x4 x5).dO (i 1) (i 2) (i 3) * (arr x0 x1 x2 x3 x4 x5).og (i 1) (i 2) (i 3) (i 0) : ℝ) : EReal) :=
  by rw [val_main_v100_apply, st97 x0 x1 x2 x3 x4 x5 H, st87 x0 x1 x2 x3 x4 x5 H]; exact mul_r _ _

theorem st101 (i : S3x4x4096.Idx) : val_main_v101 (F := Ideal) x0 x1 x3 x5 i = (((arr x0 x1 x2 x3 x4 x5).D (i 1) (i 2) (i 0) : ℝ) : EReal) :=
  by rw [val_main_v101_apply]; exact zsum_r _ c_zero' _ _ fun k => st100 x0 x1 x2 x3 x4 x5 H _

omit H in
theorem ix102 (i : S3x4x4096x1.Idx) : idx_main_v102 i = ix3 (i 0) (i 1) (i 2) :=
  funext fun a => Fin.ext (match a with
    | ⟨0, _⟩ => by have h0 : (i 0).val < 3 := (i 0).isLt; have h1 : (i 1).val < 4 := (i 1).isLt; have h2 : (i 2).val < 4096 := (i 2).isLt; have h3 : (i 3).val < 1 := (i 3).isLt; show ((((i 0).val * 4 + (i 1).val) * 4096 + (i 2).val) * 1 + (i 3).val) / 16384 = (i 0).val; omega
    | ⟨1, _⟩ => by have h0 : (i 0).val < 3 := (i 0).isLt; have h1 : (i 1).val < 4 := (i 1).isLt; have h2 : (i 2).val < 4096 := (i 2).isLt; have h3 : (i 3).val < 1 := (i 3).isLt; show ((((i 0).val * 4 + (i 1).val) * 4096 + (i 2).val) * 1 + (i 3).val) / 4096 % 4 = (i 1).val; omega
    | ⟨2, _⟩ => by have h0 : (i 0).val < 3 := (i 0).isLt; have h1 : (i 1).val < 4 := (i 1).isLt; have h2 : (i 2).val < 4096 := (i 2).isLt; have h3 : (i 3).val < 1 := (i 3).isLt; show ((((i 0).val * 4 + (i 1).val) * 4096 + (i 2).val) * 1 + (i 3).val) % 4096 = (i 2).val; omega)

theorem st102 (i : S3x4x4096x1.Idx) : val_main_v102 (F := Ideal) x0 x1 x3 x5 i = (((arr x0 x1 x2 x3 x4 x5).D (i 1) (i 2) (i 0) : ℝ) : EReal) :=
  (val_main_v102_apply x0 x1 x3 x5 i).trans ((congrArg _ (ix102 i)).trans (st101 x0 x1 x2 x3 x4 x5 H _))

theorem st109 (i : S3x4x4096.Idx) : val_main_v109 (F := Ideal) x0 x1 x3 x5 i = (((arr x0 x1 x2 x3 x4 x5).D (i 1) (i 2) (i 0) : ℝ) : EReal) :=
  by rw [val_main_v109_apply]; exact (zsum_r _ c_zero' _ _ fun k => st102 x0 x1 x2 x3 x4 x5 H _).trans (congrArg _ sum_one)

theorem st110 (i : S3x4x4096.Idx) : val_main_v110 (F := Ideal) x0 x2 x4 i = ((1 / ((arr x0 x1 x2 x3 x4 x5).Z (i 1) (i 2) * (arr x0 x1 x2 x3 x4 x5).Z (i 1) (i 2)) : ℝ) : EReal) :=
  (val_main_v110_apply x0 x2 x4 i).trans (st82 x0 x1 x2 x3 x4 x5 H _)

theorem st111 (i : S3x4x4096.Idx) : val_main_v111 (F := Ideal) x0 x1 x2 x3 x4 x5 i = (((arr x0 x1 x2 x3 x4 x5).D (i 1) (i 2) (i 0) * (1 / ((arr x0 x1 x2 x3 x4 x5).Z (i 1) (i 2) * (arr x0 x1 x2 x3 x4 x5).Z (i 1) (i 2))) : ℝ) : EReal) :=
  by rw [val_main_v111_apply, st109 x0 x1 x2 x3 x4 x5 H, st110 x0 x1 x2 x3 x4 x5 H]; exact mul_r _ _

theorem st112 (i : S3x4x4096.Idx) : val_main_v112 (F := Ideal) x0 x1 x2 x3 x4 x5 i = (((arr x0 x1 x2 x3 x4 x5).D (i 1) (i 2) (i 0) * (1 / ((arr x0 x1 x2 x3 x4 x5).Z (i 1) (i 2) * (arr x0 x1 x2 x3 x4 x5).Z (i 1) (i 2))) * (arr x0 x1 x2 x3 x4 x5).E (i 1) (i 2) (i 0) : ℝ) : EReal) :=
  by rw [val_main_v112_apply, st111 x0 x1 x2 x3 x4 x5 H, st75 x0 x1 x2 x3 x4 x5 H]; exact mul_r _ _

theorem st113 (i : S4x4096.Idx) : val_main_v113 (F := Ideal) x0 x1 x2 x3 x4 x5 i = ((∑ g, (arr x0 x1 x2 x3 x4 x5).D (i 0) (i 1) g * (1 / ((arr x0 x1 x2 x3 x4 x5).Z (i 0) (i 1) * (arr x0 x1 x2 x3 x4 x5).Z (i 0) (i 1))) * (arr x0 x1 x2 x3 x4 x5).E (i 0) (i 1) g : ℝ) : EReal) :=
  by rw [val_main_v113_apply]; exact zsum_r _ c_zero' _ _ fun k => st112 x0 x1 x2 x3 x4 x5 H _

omit H in
theorem ix114 (i : S1x4x4096.Idx) : idx_main_v114 i = ix2 (i 1) (i 2) :=
  funext fun a => Fin.ext (match a with
    | ⟨0, _⟩ => by have h0 : (i 0).val < 1 := (i 0).isLt; have h1 : (i 1).val < 4 := (i 1).isLt; have h2 : (i 2).val < 4096 := (i 2).isLt; show (((i 0).val * 4 + (i 1).val) * 4096 + (i 2).val) / 4096 = (i 1).val; omega
    | ⟨1, _⟩ => by have h0 : (i 0).val < 1 := (i 0).isLt; have h1 : (i 1).val < 4 := (i 1).isLt; have h2 : (i 2).val < 4096 := (i 2).isLt; show (((i 0).val * 4 + (i 1).val) * 4096 + (i 2).val) % 4096 = (i 2).val; omega)

theorem st114 (i : S1x4x4096.Idx) : val_main_v114 (F := Ideal) x0 x1 x2 x3 x4 x5 i = ((∑ g, (arr x0 x1 x2 x3 x4 x5).D (i 1) (i 2) g * (1 / ((arr x0 x1 x2 x3 x4 x5).Z (i 1) (i 2) * (arr x0 x1 x2 x3 x4 x5).Z (i 1) (i 2))) * (arr x0 x1 x2 x3 x4 x5).E (i 1) (i 2) g : ℝ) : EReal) :=
  (val_main_v114_apply x0 x1 x2 x3 x4 x5 i).trans ((congrArg _ (ix114 i)).trans (st113 x0 x1 x2 x3 x4 x5 H _))

theorem st115 (i : S1x4x4096.Idx) : val_main_v115 (F := Ideal) x0 x1 x2 x3 x4 x5 i = ((-(∑ g, (arr x0 x1 x2 x3 x4 x5).D (i 1) (i 2) g * (1 / ((arr x0 x1 x2 x3 x4 x5).Z (i 1) (i 2) * (arr x0 x1 x2 x3 x4 x5).Z (i 1) (i 2))) * (arr x0 x1 x2 x3 x4 x5).E (i 1) (i 2) g) : ℝ) : EReal) :=
  by rw [val_main_v115_apply, st114 x0 x1 x2 x3 x4 x5 H]; exact neg_r _

theorem st116 (i : S3x4x4096.Idx) : val_main_v116 (F := Ideal) x0 x2 x4 i = (((arr x0 x1 x2 x3 x4 x5).Z (i 1) (i 2) : ℝ) : EReal) :=
  (val_main_v116_apply x0 x2 x4 i).trans (st77 x0 x1 x2 x3 x4 x5 H _)

theorem st117 (i : S3x4x4096.Idx) : val_main_v117 (F := Ideal) x0 x1 x2 x3 x4 x5 i = (((arr x0 x1 x2 x3 x4 x5).D (i 1) (i 2) (i 0) * (1 / (arr x0 x1 x2 x3 x4 x5).Z (i 1) (i 2)) : ℝ) : EReal) :=
  by rw [val_main_v117_apply, st109 x0 x1 x2 x3 x4 x5 H, st116 x0 x1 x2 x3 x4 x5 H]; exact div_r _ _ (Arr.Z_pos _ _ _).ne'

theorem st118 (i : S4x4096.Idx) : val_main_v118 (F := Ideal) x0 x1 x2 x3 x4 x5 i = ((-(∑ g, (arr x0 x1 x2 x3 x4 x5).D (i 0) (i 1) g * (1 / ((arr x0 x1 x2 x3 x4 x5).Z (i 0) (i 1) * (arr x0 x1 x2 x3 x4 x5).Z (i 0) (i 1))) * (arr x0 x1 x2 x3 x4 x5).E (i 0) (i 1) g) : ℝ) : EReal) :=
  by rw [val_main_v118_apply]; exact (zsum_r _ c_zero' _ _ fun k => st115 x0 x1 x2 x3 x4 x5 H _).trans (congrArg _ sum_one)

theorem st119 (i : S3x4x4096.Idx) : val_main_v119 (F := Ideal) x0 x1 x2 x3 x4 x5 i = ((-(∑ g, (arr x0 x1 x2 x3 x4 x5).D (i 1) (i 2) g * (1 / ((arr x0 x1 x2 x3 x4 x5).Z (i 1) (i 2) * (arr x0 x1 x2 x3 x4 x5).Z (i 1) (i 2))) * (arr x0 x1 x2 x3 x4 x5).E (i 1) (i 2) g) : ℝ) : EReal) :=
  (val_main_v119_apply x0 x1 x2 x3 x4 x5 i).trans (st118 x0 x1 x2 x3 x4 x5 H _)

theorem st120 (i : S3x4x4096.Idx) : val_main_v120 (F := Ideal) x0 x1 x2 x3 x4 x5 i = (((arr x0 x1 x2 x3 x4 x5).D (i 1) (i 2) (i 0) * (1 / (arr x0 x1 x2 x3 x4 x5).Z (i 1) (i 2)) + -(∑ g, (arr x0 x1 x2 x3 x4 x5).D (i 1) (i 2) g * (1 / ((arr x0 x1 x2 x3 x4 x5).Z (i 1) (i 2) * (arr x0 x1 x2 x3 x4 x5).Z (i 1) (i 2))) * (arr x0 x1 x2 x3 x4 x5).E (i 1) (i 2) g) : ℝ) : EReal) :=
  by rw [val_main_v120_apply, st117 x0 x1 x2 x3 x4 x5 H, st119 x0 x1 x2 x3 x4 x5 H]; exact add_r _ _

theorem st121 (i : S3x4x4096.Idx) : val_main_v121 (F := Ideal) x0 x1 x2 x3 x4 x5 i = ((((arr x0 x1 x2 x3 x4 x5).D (i 1) (i 2) (i 0) * (1 / (arr x0 x1 x2 x3 x4 x5).Z (i 1) (i 2)) + -(∑ g, (arr x0 x1 x2 x3 x4 x5).D (i 1) (i 2) g * (1 / ((arr x0 x1 x2 x3 x4 x5).Z (i 1) (i 2) * (arr x0 x1 x2 x3 x4 x5).Z (i 1) (i 2))) * (arr x0 x1 x2 x3 x4 x5).E (i 1) (i 2) g)) * (arr x0 x1 x2 x3 x4 x5).E (i 1) (i 2) (i 0) : ℝ) : EReal) :=
  by rw [val_main_v121_apply, st120 x0 x1 x2 x3 x4 x5 H, st75 x0 x1 x2 x3 x4 x5 H]; exact mul_r _ _

omit H in
theorem ix124 (i : S1x4x4096.Idx) : idx_main_v124 i = ix3 (1 : Fin 3) (i 1) (i 2) :=
  funext fun a => Fin.ext (match a with
    | ⟨0, _⟩ => by have h0 : (i 0).val < 1 := (i 0).isLt; have h1 : (i 1).val < 4 := (i 1).isLt; have h2 : (i 2).val < 4096 := (i 2).isLt; show 1 + (i 0).val = 1; omega
    | ⟨1, _⟩ => by have h0 : (i 0).val < 1 := (i 0).isLt; have h1 : (i 1).val < 4 := (i 1).isLt; have h2 : (i 2).val < 4096 := (i 2).isLt; show (i 1).val = (i 1).val; omega
    | ⟨2, _⟩ => by have h0 : (i 0).val < 1 := (i 0).isLt; have h1 : (i 1).val < 4 := (i 1).isLt; have h2 : (i 2).val < 4096 := (i 2).isLt; show (i 2).val = (i 2).val; omega)

theorem st124 (i : S1x4x4096.Idx) : val_main_v124 (F := Ideal) x0 x1 x2 x3 x4 x5 i = (((arr x0 x1 x2 x3 x4 x5).dl (i 1) (i 2) : ℝ) : EReal) :=
  (val_main_v124_apply x0 x1 x2 x3 x4 x5 i).trans ((congrArg _ (ix124 i)).trans (st121 x0 x1 x2 x3 x4 x5 H _))

omit H in
theorem ix125 (i : S4x4096.Idx) : idx_main_v125 i = ix3 (0 : Fin 1) (i 0) (i 1) :=
  funext fun a => Fin.ext (match a with
    | ⟨0, _⟩ => by have h0 : (i 0).val < 4 := (i 0).isLt; have h1 : (i 1).val < 4096 := (i 1).isLt; show 0 = 0; omega
    | ⟨1, _⟩ => by have h0 : (i 0).val < 4 := (i 0).isLt; have h1 : (i 1).val < 4096 := (i 1).isLt; show ((i 0).val * 4096 + (i 1).val) / 4096 % 4 = (i 0).val; omega
    | ⟨2, _⟩ => by have h0 : (i 0).val < 4 := (i 0).isLt; have h1 : (i 1).val < 4096 := (i 1).isLt; show ((i 0).val * 4096 + (i 1).val) % 4096 = (i 1).val; omega)

theorem st125 (i : S4x4096.Idx) : val_main_v125 (F := Ideal) x0 x1 x2 x3 x4 x5 i = (((arr x0 x1 x2 x3 x4 x5).dl (i 0) (i 1) : ℝ) : EReal) :=
  (val_main_v125_apply x0 x1 x2 x3 x4 x5 i).trans ((congrArg _ (ix125 i)).trans (st124 x0 x1 x2 x3 x4 x5 H _))

theorem st128 (i : S4x4096x1.Idx) : val_main_v128 (F := Ideal) x0 x1 x2 x3 x4 x5 i = (((arr x0 x1 x2 x3 x4 x5).dl (i 0) (i 1) : ℝ) : EReal) :=
  (val_main_v128_apply x0 x1 x2 x3 x4 x5 i).trans (st125 x0 x1 x2 x3 x4 x5 H _)

theorem st129 (i : S4x4096x1.Idx) : val_main_v129 (F := Ideal) x0 x1 x2 x3 x4 x5 i = (((arr x0 x1 x2 x3 x4 x5).dl (i 0) (i 1) * (1 / (arr x0 x1 x2 x3 x4 x5).den (i 0) (i 1)) : ℝ) : EReal) :=
  by rw [val_main_v129_apply, st128 x0 x1 x2 x3 x4 x5 H, st39 x0 x1 x2 x3 x4 x5 H]; exact div_r _ _ (Arr.den_pos _ _ _).ne'

omit H in
theorem ix105 (i : S1x4x4096x64.Idx) : idx_main_v105 i = ix4 (1 : Fin 3) (i 1) (i 2) (i 3) :=
  funext fun a => Fin.ext (match a with
    | ⟨0, _⟩ => by have h0 : (i 0).val < 1 := (i 0).isLt; have h1 : (i 1).val < 4 := (i 1).isLt; have h2 : (i 2).val < 4096 := (i 2).isLt; have h3 : (i 3).val < 64 := (i 3).isLt; show 1 + (i 0).val = 1; omega
    | ⟨1, _⟩ => by have h0 : (i 0).val < 1 := (i 0).isLt; have h1 : (i 1).val < 4 := (i 1).isLt; have h2 : (i 2).val < 4096 := (i 2).isLt; have h3 : (i 3).val < 64 := (i 3).isLt; show (i 1).val = (i 1).val; omega
    | ⟨2, _⟩ => by have h0 : (i 0).val < 1 := (i 0).isLt; have h1 : (i 1).val < 4 := (i 1).isLt; have h2 : (i 2).val < 4096 := (i 2).isLt; have h3 : (i 3).val < 64 := (i 3).isLt; show (i 2).val = (i 2).val; omega
    | ⟨3, _⟩ => by have h0 : (i 0).val < 1 := (i 0).isLt; have h1 : (i 1).val < 4 := (i 1).isLt; have h2 : (i 2).val < 4096 := (i 2).isLt; have h3 : (i 3).val < 64 := (i 3).isLt; show (i 3).val = (i 3).val; omega)

theorem st105 (i : S1x4x4096x64.Idx) : val_main_v105 (F := Ideal) x0 x2 x4 x5 i = (((arr x0 x1 x2 x3 x4 x5).w (i 1) (i 2) 1 * (arr x0 x1 x2 x3 x4 x5).dO (i 1) (i 2) (i 3) : ℝ) : EReal) :=
  (val_main_v105_apply x0 x2 x4 x5 i).trans ((congrArg _ (ix105 i)).trans (st99 x0 x1 x2 x3 x4 x5 H _))

omit H in
theorem ix106 (i : S4x4096x64.Idx) : idx_main_v106 i = ix4 (0 : Fin 1) (i 0) (i 1) (i 2) :=
  funext fun a => Fin.ext (match a with
    | ⟨0, _⟩ => by have h0 : (i 0).val < 4 := (i 0).isLt; have h1 : (i 1).val < 4096 := (i 1).isLt; have h2 : (i 2).val < 64 := (i 2).isLt; show 0 = 0; omega
    | ⟨1, _⟩ => by have h0 : (i 0).val < 4 := (i 0).isLt; have h1 : (i 1).val < 4096 := (i 1).isLt; have h2 : (i 2).val < 64 := (i 2).isLt; show (((i 0).val * 4096 + (i 1).val) * 64 + (i 2).val) / 262144 % 4 = (i 0).val; omega
    | ⟨2, _⟩ => by have h0 : (i 0).val < 4 := (i 0).isLt; have h1 : (i 1).val < 4096 := (i 1).isLt; have h2 : (i 2).val < 64 := (i 2).isLt; show (((i 0).val * 4096 + (i 1).val) * 64 + (i 2).val) / 64 % 4096 = (i 1).val; omega
    | ⟨3, _⟩ => by have h0 : (i 0).val < 4 := (i 0).isLt; have h1 : (i 1).val < 4096 := (i 1).isLt; have h2 : (i 2).val < 64 := (i 2).isLt; show (((i 0).val * 4096 + (i 1).val) * 64 + (i 2).val) % 64 = (i 2).val; omega)

theorem st106 (i : S4x4096x64.Idx) : val_main_v106 (F := Ideal) x0 x2 x4 x5 i = (((arr x0 x1 x2 x3 x4 x5).w (i 0) (i 1) 1 * (arr x0 x1 x2 x3 x4 x5).dO (i 0) (i 1) (i 2) : ℝ) : EReal) :=
  (val_main_v106_apply x0 x2 x4 x5 i).trans ((congrArg _ (ix106 i)).trans (st105 x0 x1 x2 x3 x4 x5 H _))

theorem st130 (i : S4x4096x64.Idx) : val_main_v130 (F := Ideal) x0 i = ((1 / ((arr x0 x1 x2 x3 x4 x5).den (i 0) (i 1) * (arr x0 x1 x2 x3 x4 x5).den (i 0) (i 1)) : ℝ) : EReal) :=
  (val_main_v130_apply x0 i).trans (st45 x0 x1 x2 x3 x4 x5 H _)

theorem st131 (i : S4x4096x64.Idx) : val_main_v131 (F := Ideal) x0 x2 x4 x5 i = (((arr x0 x1 x2 x3 x4 x5).w (i 0) (i 1) 1 * (arr x0 x1 x2 x3 x4 x5).dO (i 0) (i 1) (i 2) * (1 / ((arr x0 x1 x2 x3 x4 x5).den (i 0) (i 1) * (arr x0 x1 x2 x3 x4 x5).den (i 0) (i 1))) : ℝ) : EReal) :=
  by rw [val_main_v131_apply, st106 x0 x1 x2 x3 x4 x5 H, st130 x0 x1 x2 x3 x4 x5 H]; exact mul_r _ _

theorem st132 (i : S4x4096x64.Idx) : val_main_v132 (F := Ideal) x0 x2 x4 x5 i = (((arr x0 x1 x2 x3 x4 x5).w (i 0) (i 1) 1 * (arr x0 x1 x2 x3 x4 x5).dO (i 0) (i 1) (i 2) * (1 / ((arr x0 x1 x2 x3 x4 x5).den (i 0) (i 1) * (arr x0 x1 x2 x3 x4 x5).den (i 0) (i 1))) * (arr x0 x1 x2 x3 x4 x5).num (i 0) (i 1) (i 2) : ℝ) : EReal) :=
  by rw [val_main_v132_apply, st131 x0 x1 x2 x3 x4 x5 H, st40 x0 x1 x2 x3 x4 x5 H]; exact mul_r _ _

theorem st133 (i : S4x4096.Idx) : val_main_v133 (F := Ideal) x0 x2 x4 x5 i = ((∑ e, (arr x0 x1 x2 x3 x4 x5).w (i 0) (i 1) 1 * (arr x0 x1 x2 x3 x4 x5).dO (i 0) (i 1) e * (1 / ((arr x0 x1 x2 x3 x4 x5).den (i 0) (i 1) * (arr x0 x1 x2 x3 x4 x5).den (i 0) (i 1))) * (arr x0 x1 x2 x3 x4 x5).num (i 0) (i 1) e : ℝ) : EReal) :=
  by rw [val_main_v133_apply]; exact zsum_r _ c_zero' _ _ fun k => st132 x0 x1 x2 x3 x4 x5 H _

omit H in
theorem ix134 (i : S4x4096x1.Idx) : idx_main_v134 i = ix2 (i 0) (i 1) :=
  funext fun a => Fin.ext (match a with
    | ⟨0, _⟩ => by have h0 : (i 0).val < 4 := (i 0).isLt; have h1 : (i 1).val < 4096 := (i 1).isLt; have h2 : (i 2).val < 1 := (i 2).isLt; show (((i 0).val * 4096 + (i 1).val) * 1 + (i 2).val) / 4096 = (i 0).val; omega
    | ⟨1, _⟩ => by have h0 : (i 0).val < 4 := (i 0).isLt; have h1 : (i 1).val < 4096 := (i 1).isLt; have h2 : (i 2).val < 1 := (i 2).isLt; show (((i 0).val * 4096 + (i 1).val) * 1 + (i 2).val) % 4096 = (i 1).val; omega)

theorem st134 (i : S4x4096x1.Idx) : val_main_v134 (F := Ideal) x0 x2 x4 x5 i = ((∑ e, (arr x0 x1 x2 x3 x4 x5).w (i 0) (i 1) 1 * (arr x0 x1 x2 x3 x4 x5).dO (i 0) (i 1) e * (1 / ((arr x0 x1 x2 x3 x4 x5).den (i 0) (i 1) * (arr x0 x1 x2 x3 x4 x5).den (i 0) (i 1))) * (arr x0 x1 x2 x3 x4 x5).num (i 0) (i 1) e : ℝ) : EReal) :=
  (val_main_v134_apply x0 x2 x4 x5 i).trans ((congrArg _ (ix134 i)).trans (st133 x0 x1 x2 x3 x4 x5 H _))

theorem st135 (i : S4x4096x1.Idx) : val_main_v135 (F := Ideal) x0 x2 x4 x5 i = ((-(∑ e, (arr x0 x1 x2 x3 x4 x5).w (i 0) (i 1) 1 * (arr x0 x1 x2 x3 x4 x5).dO (i 0) (i 1) e * (1 / ((arr x0 x1 x2 x3 x4 x5).den (i 0) (i 1) * (arr x0 x1 x2 x3 x4 x5).den (i 0) (i 1))) * (arr x0 x1 x2 x3 x4 x5).num (i 0) (i 1) e) : ℝ) : EReal) :=
  by rw [val_main_v135_apply, st134 x0 x1 x2 x3 x4 x5 H]; exact neg_r _

theorem st136 (i : S4x4096x1.Idx) : val_main_v136 (F := Ideal) x0 x1 x2 x3 x4 x5 i = (((arr x0 x1 x2 x3 x4 x5).cc (i 0) (i 1) : ℝ) : EReal) :=
  by rw [val_main_v136_apply, st129 x0 x1 x2 x3 x4 x5 H, st135 x0 x1 x2 x3 x4 x5 H]; exact add_r _ _

theorem st137 (i : S4x4096x64.Idx) : val_main_v137 (F := Ideal) x0 i = (((arr x0 x1 x2 x3 x4 x5).den (i 0) (i 1) : ℝ) : EReal) :=
  (val_main_v137_apply x0 i).trans (st39 x0 x1 x2 x3 x4 x5 H _)

theorem st138 (i : S4x4096x64.Idx) : val_main_v138 (F := Ideal) x0 x2 x4 x5 i = (((arr x0 x1 x2 x3 x4 x5).w (i 0) (i 1) 1 * (arr x0 x1 x2 x3 x4 x5).dO (i 0) (i 1) (i 2) * (1 / (arr x0 x1 x2 x3 x4 x5).den (i 0) (i 1)) : ℝ) : EReal) :=
  by rw [val_main_v138_apply, st106 x0 x1 x2 x3 x4 x5 H, st137 x0 x1 x2 x3 x4 x5 H]; exact div_r _ _ (Arr.den_pos _ _ _).ne'

theorem st139 (i : S4x64x4096.Idx) : val_main_v139 (F := Ideal) x0 x2 x4 x5 i = ((∑ t, (arr x0 x1 x2 x3 x4 x5).w (i 0) t 1 * (arr x0 x1 x2 x3 x4 x5).dO (i 0) t (i 1) * (1 / (arr x0 x1 x2 x3 x4 x5).den (i 0) t) * (arr x0 x1 x2 x3 x4 x5).p (i 0) t (i 2) : ℝ) : EReal) :=
  by rw [val_main_v139_apply]; exact dot_r _ _ _ _ (fun k => st138 x0 x1 x2 x3 x4 x5 H _) (fun k => st37 x0 x1 x2 x3 x4 x5 H _)

theorem st140 (i : S4x4096x64.Idx) : val_main_v140 (F := Ideal) x0 x2 x4 x5 i = ((∑ t, (arr x0 x1 x2 x3 x4 x5).w (i 0) t 1 * (arr x0 x1 x2 x3 x4 x5).dO (i 0) t (i 2) * (1 / (arr x0 x1 x2 x3 x4 x5).den (i 0) t) * (arr x0 x1 x2 x3 x4 x5).p (i 0) t (i 1) : ℝ) : EReal) :=
  (val_main_v140_apply x0 x2 x4 x5 i).trans (st139 x0 x1 x2 x3 x4 x5 H _)

theorem st141 (i : S4x4096x4096.Idx) : val_main_v141 (F := Ideal) x0 x2 x4 x5 i = ((∑ e, (arr x0 x1 x2 x3 x4 x5).w (i 0) (i 1) 1 * (arr x0 x1 x2 x3 x4 x5).dO (i 0) (i 1) e * (1 / (arr x0 x1 x2 x3 x4 x5).den (i 0) (i 1)) * (arr x0 x1 x2 x3 x4 x5).v (i 0) (i 2) e : ℝ) : EReal) :=
  by rw [val_main_v141_apply]; exact dot_r _ _ _ _ (fun k => st138 x0 x1 x2 x3 x4 x5 H _) (fun k => st8 x0 x1 x2 x3 x4 x5 H _)

theorem st142 (i : S4x4096.Idx) : val_main_v142 (F := Ideal) x0 x1 x2 x3 x4 x5 i = (((arr x0 x1 x2 x3 x4 x5).cc (i 0) (i 1) : ℝ) : EReal) :=
  by rw [val_main_v142_apply]; exact (zsum_r _ c_zero' _ _ fun k => st136 x0 x1 x2 x3 x4 x5 H _).trans (congrArg _ sum_one)

theorem st143 (i : S4x4096x4096.Idx) : val_main_v143 (F := Ideal) x0 x1 x2 x3 x4 x5 i = (((arr x0 x1 x2 x3 x4 x5).cc (i 0) (i 1) : ℝ) : EReal) :=
  (val_main_v143_apply x0 x1 x2 x3 x4 x5 i).trans (st142 x0 x1 x2 x3 x4 x5 H _)

theorem st144 (i : S4x4096x4096.Idx) : val_main_v144 (F := Ideal) x0 x1 x2 x3 x4 x5 i = (((∑ e, (arr x0 x1 x2 x3 x4 x5).w (i 0) (i 1) 1 * (arr x0 x1 x2 x3 x4 x5).dO (i 0) (i 1) e * (1 / (arr x0 x1 x2 x3 x4 x5).den (i 0) (i 1)) * (arr x0 x1 x2 x3 x4 x5).v (i 0) (i 2) e) + (arr x0 x1 x2 x3 x4 x5).cc (i 0) (i 1) : ℝ) : EReal) :=
  by rw [val_main_v144_apply, st141 x0 x1 x2 x3 x4 x5 H, st143 x0 x1 x2 x3 x4 x5 H]; exact add_r _ _

theorem st145 (i : S4x4096x4096.Idx) : val_main_v145 (F := Ideal) x0 x1 x2 x3 x4 x5 i = (((arr x0 x1 x2 x3 x4 x5).ds0 (i 0) (i 1) (i 2) : ℝ) : EReal) :=
  by rw [val_main_v145_apply, st144 x0 x1 x2 x3 x4 x5 H, st37 x0 x1 x2 x3 x4 x5 H]; exact mul_r _ _

theorem st146 (i : S4x4096x4096.Idx) : val_main_v146 (F := Ideal) x0 x1 x2 x3 x4 x5 i = ((-(arr x0 x1 x2 x3 x4 x5).ds0 (i 0) (i 1) (i 2) : ℝ) : EReal) :=
  by rw [val_main_v146_apply, st145 x0 x1 x2 x3 x4 x5 H]; exact neg_r _

theorem st147 (i : S4x4096.Idx) : val_main_v147 (F := Ideal) x0 x1 x2 x3 x4 x5 i = ((∑ u, -(arr x0 x1 x2 x3 x4 x5).ds0 (i 0) (i 1) u : ℝ) : EReal) :=
  by rw [val_main_v147_apply]; exact zsum_r _ c_zero' _ _ fun k => st146 x0 x1 x2 x3 x4 x5 H _

omit H in
theorem ix148 (i : S4x4096x1.Idx) : idx_main_v148 i = ix2 (i 0) (i 1) :=
  funext fun a => Fin.ext (match a with
    | ⟨0, _⟩ => by have h0 : (i 0).val < 4 := (i 0).isLt; have h1 : (i 1).val < 4096 := (i 1).isLt; have h2 : (i 2).val < 1 := (i 2).isLt; show (((i 0).val * 4096 + (i 1).val) * 1 + (i 2).val) / 4096 = (i 0).val; omega
    | ⟨1, _⟩ => by have h0 : (i 0).val < 4 := (i 0).isLt; have h1 : (i 1).val < 4096 := (i 1).isLt; have h2 : (i 2).val < 1 := (i 2).isLt; show (((i 0).val * 4096 + (i 1).val) * 1 + (i 2).val) % 4096 = (i 1).val; omega)

theorem st148 (i : S4x4096x1.Idx) : val_main_v148 (F := Ideal) x0 x1 x2 x3 x4 x5 i = ((∑ u, -(arr x0 x1 x2 x3 x4 x5).ds0 (i 0) (i 1) u : ℝ) : EReal) :=
  (val_main_v148_apply x0 x1 x2 x3 x4 x5 i).trans ((congrArg _ (ix148 i)).trans (st147 x0 x1 x2 x3 x4 x5 H _))

theorem st149 (i : S4x4096x1.Idx) : val_main_v149 (F := Ideal) x0 x1 x2 x3 x4 x5 i = (((arr x0 x1 x2 x3 x4 x5).X (i 0) (i 1) : ℝ) : EReal) :=
  by rw [val_main_v149_apply, st128 x0 x1 x2 x3 x4 x5 H, st148 x0 x1 x2 x3 x4 x5 H]; exact add_r _ _

theorem st149' (i : S4x4096x1.Idx) : val_main_v149 (F := Ideal) x0 x1 x2 x3 x4 x5 i = ((0 : ℝ) : EReal) := (st149 x0 x1 x2 x3 x4 x5 H i).trans (congrArg _ (Arr.X_eq _ _ _))

theorem st150 (i : S4x4096.Idx) : val_main_v150 (F := Ideal) x0 x1 x2 x3 x4 x5 i = ((0 : ℝ) : EReal) :=
  by rw [val_main_v150_apply]; exact (zsum_r _ c_zero' _ _ fun k => st149' x0 x1 x2 x3 x4 x5 H _).trans (congrArg _ sum_one)

theorem st153 (i : S4x4096x4096.Idx) : val_main_v153 (F := Ideal) x0 x1 x2 x3 x4 x5 i = ((0 : ℝ) : EReal) := by
  have hu : i = idx_main_v33 (idx_main_v152 i) (i 2) := funext fun a => match a with
    | ⟨0, _⟩ => rfl
    | ⟨1, _⟩ => rfl
    | ⟨2, _⟩ => rfl
  rw [val_main_v153_apply, val_main_v152_apply, val_main_v151_apply, st150 x0 x1 x2 x3 x4 x5 H, val_main_v33_apply, val_main_v32_apply]
  generalize hj : idx_main_v152 i = j at hu
  exact share_of (fun k => val_main_v31 (F := Ideal) x0 (idx_main_v33 j k)) _ c_zero' (i 2) _ (fun k => val_main_v32_apply x0 _) _
    (congrArg (fun a => FloatOps.uitofp (F := Ideal) .f32 (val_main_v31 (F := Ideal) x0 a)) hu)

theorem st154 (i : S4x4096x4096.Idx) : val_main_v154 (F := Ideal) x0 x1 x2 x3 x4 x5 i = (((arr x0 x1 x2 x3 x4 x5).dS (i 0) (i 1) (i 2) : ℝ) : EReal) :=
  by rw [val_main_v154_apply, st145 x0 x1 x2 x3 x4 x5 H, st153 x0 x1 x2 x3 x4 x5 H]; exact (add_r _ _).trans (congrArg _ ((add_zero _).trans (Arr.ds0_eq _ _ _ _)))

theorem st155 (i : S4x4096x4096.Idx) : val_main_v155 (F := Ideal) x0 x1 x2 x3 x4 x5 i = (((arr x0 x1 x2 x3 x4 x5).dS (i 0) (i 1) (i 2) : ℝ) : EReal) := by
  rw [val_main_v155_apply, st154 x0 x1 x2 x3 x4 x5 H]
  by_cases h : reads (i 1) (i 2)
  · exact if_pos ((bit x0 x1 x2 x3 x4 x5 H i).mpr h)
  · refine (if_neg fun hb => h ((bit x0 x1 x2 x3 x4 x5 H i).mp hb)).trans ?_
    exact (val_main_call2_v0_apply _).trans (c_zero.trans (congrArg _ (Arr.ds0_reads _ _ _ _ h).symm))

theorem st156 (i : S4x4096x4096.Idx) : val_main_v156 (F := Ideal) i = ((1 / 8 : ℝ) : EReal) :=
  (val_main_v156_apply i).trans c_eighth

theorem st157 (i : S4x4096x4096.Idx) : val_main_v157 (F := Ideal) x0 x1 x2 x3 x4 x5 i = (((arr x0 x1 x2 x3 x4 x5).dS (i 0) (i 1) (i 2) * (1 / 8) : ℝ) : EReal) :=
  by rw [val_main_v157_apply, st155 x0 x1 x2 x3 x4 x5 H, st156 x0 x1 x2 x3 x4 x5 H]; exact mul_r _ _

theorem st158 (i : S4x4096x64.Idx) : val_main_v158 (F := Ideal) x0 x1 x2 x3 x4 x5 i = (((arr x0 x1 x2 x3 x4 x5).dk (i 0) (i 1) (i 2) : ℝ) : EReal) :=
  by rw [val_main_v158_apply]; exact dot_r _ _ _ _ (fun k => st157 x0 x1 x2 x3 x4 x5 H _) (fun k => st4 x0 x1 x2 x3 x4 x5 H _)

theorem st159 (i : S4x4096x64.Idx) : val_main_v159 (F := Ideal) x0 x1 x2 x3 x4 x5 i = (((arr x0 x1 x2 x3 x4 x5).dq (i 0) (i 1) (i 2) : ℝ) : EReal) :=
  by rw [val_main_v159_apply]; exact dot_r _ _ _ _ (fun k => st157 x0 x1 x2 x3 x4 x5 H _) (fun k => st6 x0 x1 x2 x3 x4 x5 H _)

theorem st140' (i : S4x4096x64.Idx) : val_main_v140 (F := Ideal) x0 x2 x4 x5 i = (((arr x0 x1 x2 x3 x4 x5).dv (i 0) (i 1) (i 2) : ℝ) : EReal) :=
  (st140 x0 x1 x2 x3 x4 x5 H i).trans (congrArg _ (Arr.dv_eq _ _ _ _))

theorem st160 (i : S4096x4x64.Idx) : val_main_v160 (F := Ideal) x0 x2 x4 x5 i = (((arr x0 x1 x2 x3 x4 x5).dv (i 1) (i 0) (i 2) : ℝ) : EReal) :=
  (val_main_v160_apply x0 x2 x4 x5 i).trans (st140' x0 x1 x2 x3 x4 x5 H _)

theorem st162 (i : S4096x4x64.Idx) : val_main_v162 (F := Ideal) x0 x1 x2 x3 x4 x5 i = (((arr x0 x1 x2 x3 x4 x5).dk (i 1) (i 0) (i 2) : ℝ) : EReal) :=
  (val_main_v162_apply x0 x1 x2 x3 x4 x5 i).trans (st158 x0 x1 x2 x3 x4 x5 H _)

theorem st164 (i : S4096x4x64.Idx) : val_main_v164 (F := Ideal) x0 x1 x2 x3 x4 x5 i = (((arr x0 x1 x2 x3 x4 x5).dq (i 1) (i 0) (i 2) : ℝ) : EReal) :=
  (val_main_v164_apply x0 x1 x2 x3 x4 x5 i).trans (st159 x0 x1 x2 x3 x4 x5 H _)

omit H

/-- The head and the lane of a column. -/
def hd (c : Fin 256) : Fin 4 := ⟨c.val / 64, by omega⟩
def ln (c : Fin 256) : Fin 64 := ⟨c.val % 64, by omega⟩

theorem flat (i : S4096x256.Idx) : idx_main_v94 i = ix3 (i 0) (hd (i 1)) (ln (i 1)) :=
  funext fun a => Fin.ext (match a with
    | ⟨0, _⟩ => by have h0 : (i 0).val < 4096 := (i 0).isLt; have h1 : (i 1).val < 256 := (i 1).isLt; show ((i 0).val * 256 + (i 1).val) / 256 = (i 0).val; omega
    | ⟨1, _⟩ => by have h0 : (i 0).val < 4096 := (i 0).isLt; have h1 : (i 1).val < 256 := (i 1).isLt; show ((i 0).val * 256 + (i 1).val) / 64 % 4 = (i 1).val / 64; omega
    | ⟨2, _⟩ => by have h0 : (i 0).val < 4096 := (i 0).isLt; have h1 : (i 1).val < 256 := (i 1).isLt; show ((i 0).val * 256 + (i 1).val) % 64 = (i 1).val % 64; omega)

include H

theorem st94 (i : S4096x256.Idx) : val_main_v94 (F := Ideal) x0 x1 x2 x3 x4 i = (((arr x0 x1 x2 x3 x4 x5).odil (hd (i 1)) (i 0) (ln (i 1)) : ℝ) : EReal) :=
  (val_main_v94_apply x0 x1 x2 x3 x4 i).trans ((congrArg _ (flat i)).trans (st93 x0 x1 x2 x3 x4 x5 H _))

theorem st161 (i : S4096x256.Idx) : val_main_v161 (F := Ideal) x0 x2 x4 x5 i = (((arr x0 x1 x2 x3 x4 x5).dv (hd (i 1)) (i 0) (ln (i 1)) : ℝ) : EReal) :=
  (val_main_v161_apply x0 x2 x4 x5 i).trans ((congrArg _ (flat i)).trans (st160 x0 x1 x2 x3 x4 x5 H _))

theorem st163 (i : S4096x256.Idx) : val_main_v163 (F := Ideal) x0 x1 x2 x3 x4 x5 i = (((arr x0 x1 x2 x3 x4 x5).dk (hd (i 1)) (i 0) (ln (i 1)) : ℝ) : EReal) :=
  (val_main_v163_apply x0 x1 x2 x3 x4 x5 i).trans ((congrArg _ (flat i)).trans (st162 x0 x1 x2 x3 x4 x5 H _))

theorem st165 (i : S4096x256.Idx) : val_main_v165 (F := Ideal) x0 x1 x2 x3 x4 x5 i = (((arr x0 x1 x2 x3 x4 x5).dq (hd (i 1)) (i 0) (ln (i 1)) : ℝ) : EReal) :=
  (val_main_v165_apply x0 x1 x2 x3 x4 x5 i).trans ((congrArg _ (flat i)).trans (st164 x0 x1 x2 x3 x4 x5 H _))

end Cert.Dil

end
-- ==== Proof.Finite.lean ====
module

public import proofs.«01_k».proof.Defs
public import proofs.«01_k».proof.Proof.Ref
public import proofs.«01_k».proof.Proof.Gen.Pre_finite
public import Idealize.ShloMosaic.Lib.ReduceAll

/-! The precondition, read back: every element of the six arguments is a finite number. -/

@[expose] public section

set_option maxRecDepth 16384

noncomputable section

namespace Cert.Dil

open Idealize.ShloMosaic

/-- An element whose absolute value is below infinity is a finite number. -/
theorem real_of_lt {s : Shape} (x : FVec Ideal s .f32) (hb : Cert.Pre_finite.S_.BroadcastsInDim s (![] : Fin 0 → Fin s.rank)) (i : s.Idx)
    (h : cmpf .olt (Host.absf x) (broadcastInDim s ![] hb (constant (F := Ideal) Cert.Pre_finite.S_ .f32 0x7F800000#32)) i = 1#1) :
    x i = ((x i).toReal : EReal) := by
  have e : max (x i) (-(x i)) < (⊤ : EReal) := by
    have h' : BitVec.ofBool (decide (max (x i) (-(x i)) < FloatOps.ofBits (F := Ideal) .f32 0x7F800000#32)) = 1#1 := h
    have t : FloatOps.ofBits (F := Ideal) .f32 0x7F800000#32 = (⊤ : EReal) := by simp [Ideal.ofBits, Ideal.ieee]
    by_contra hn
    rw [t, decide_eq_false hn] at h'
    exact absurd h' (by decide)
  have a := lt_of_le_of_lt (le_max_left _ _) e
  have b := lt_of_le_of_lt (le_max_right _ _) e
  refine (EReal.coe_toReal (ne_of_lt a) ?_).symm
  intro hx
  rw [hx, EReal.neg_bot] at b
  exact lt_irrefl _ b

instance : Subsingleton Cert.Pre_finite.S_.Idx := ⟨fun a b => funext fun k => k.elim0⟩

variable (x0 : FVec Ideal Cert.Pre_finite.S4096x5120 .f32) (x1 : FVec Ideal Cert.Pre_finite.S4x4096x64 .f32) (x2 : FVec Ideal Cert.Pre_finite.S4x4096 .f32)
  (x3 : FVec Ideal Cert.Pre_finite.S4x4096x64 .f32) (x4 : FVec Ideal Cert.Pre_finite.S4x4096 .f32) (x5 : FVec Ideal Cert.Pre_finite.S4096x256 .f32)

theorem finite_of (h : Cert.Pre_finite.fn (F := Ideal) x0 x1 x2 x3 x4 x5 = fun _ => 1#1) : Finite x0 x1 x2 x3 x4 x5 := by
  have e := congrFun h (fun k => k.elim0)
  unfold Cert.Pre_finite.fn Cert.Pre_finite.fn_part1 at e
  dsimp only at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact
    { h0 := fun i => real_of_lt x0 _ i (Host.reduce_andi_all _ _ _ _ _ e0 i)
      h1 := fun i => real_of_lt x1 _ i (Host.reduce_andi_all _ _ _ _ _ e1 i)
      h2 := fun i => real_of_lt x2 _ i (Host.reduce_andi_all _ _ _ _ _ e2 i)
      h3 := fun i => real_of_lt x3 _ i (Host.reduce_andi_all _ _ _ _ _ e3 i)
      h4 := fun i => real_of_lt x4 _ i (Host.reduce_andi_all _ _ _ _ _ e4 i)
      h5 := fun i => real_of_lt x5 _ i (Host.reduce_andi_all _ _ _ _ _ e5 i) }

end Cert.Dil
-- ==== Proof.Entry.lean ====
module

public import proofs.«01_k».proof.Proof.Run
public import proofs.«01_k».proof.Proof.Gen.ReferenceIdeal.Read
public import Idealize.ShloMosaic.Lib.Claim

/-! What the host lines before the grid leave in the buffers the grid reads: the attention output and the broadcast
log-sum-exp, each as the reference's own stage of the six arguments. The line is read in short windows; after each window
the buffers that a later window reads hold stages of the reference. -/

@[expose] public section

set_option maxRecDepth 16384
set_option maxHeartbeats 2000000

noncomputable section

namespace Cert.KernelIdeal.Dil

open Cert.KernelIdeal Cert.KernelIdeal.Gen
open Idealize.ShloMosaic Idealize.ShloMosaic.TcCoe Idealize.SL.Sem Idealize.ShloMosaic.StableHlo
open Cert.ReferenceIdeal.Read

variable {F : FTy → Type} [FloatOps F] [Named F]

/-- Two lines one after the other. -/
theorem after_two (a b : List (HloOp τ sig (Elt F))) (σ : Valuation τ sig (Elt F)) : after (a ++ b) σ = after b (after a σ) := by
  induction a generalizing σ with
  | nil => rfl
  | cons op l ih => exact ih _

section Windows

variable (σ : Valuation τ sig (Elt F))
variable (x0 : (⟨S4096x5120, .f32⟩ : BufTy).Contents (Elt F)) (x1 x3 : (⟨S4x4096x64, .f32⟩ : BufTy).Contents (Elt F)) (x2 x4 : (⟨S4x4096, .f32⟩ : BufTy).Contents (Elt F))

/-- The long last line in six pieces: up to the three log-sum-exps, their stacking, the weights and the three outputs,
    their stacking, the attention output, the log-sum-exp. -/
abbrev l4 : List (HloOp τ sig (Elt F)) := (hostOps0_4 (F := F)).take 18
@[inherit_doc l4] abbrev l5 : List (HloOp τ sig (Elt F)) := ((hostOps0_4 (F := F)).drop 18).take 1
@[inherit_doc l4] abbrev l6 : List (HloOp τ sig (Elt F)) := ((hostOps0_4 (F := F)).drop 19).take 18
@[inherit_doc l4] abbrev l7 : List (HloOp τ sig (Elt F)) := ((hostOps0_4 (F := F)).drop 37).take 1
@[inherit_doc l4] abbrev l8 : List (HloOp τ sig (Elt F)) := ((hostOps0_4 (F := F)).drop 38).take 6
@[inherit_doc l4] abbrev l9 : List (HloOp τ sig (Elt F)) := (hostOps0_4 (F := F)).drop 44
theorem w0_v4 (h_arg0 : σ (Proc.devRef .tc main_arg0) = x0) : after hostOps0 σ (Proc.devRef .tc main_v4) = val_main_v4 (F := F) x0 := by
  simp only [hostOps0, TRef.binary, TRef.nullary, TRef.ternary, TRef.unary, TRef.toBuf, TRef.ofBuf, cast_eq, List.take_succ_cons, List.take_zero, List.drop_succ_cons, List.drop_zero]
  after_results_simp
  simp only [h_arg0] <;> rfl
theorem w0_v6 (h_arg0 : σ (Proc.devRef .tc main_arg0) = x0) : after hostOps0 σ (Proc.devRef .tc main_v6) = val_main_v6 (F := F) x0 := by
  simp only [hostOps0, TRef.binary, TRef.nullary, TRef.ternary, TRef.unary, TRef.toBuf, TRef.ofBuf, cast_eq, List.take_succ_cons, List.take_zero, List.drop_succ_cons, List.drop_zero]
  after_results_simp
  simp only [h_arg0] <;> rfl
theorem w0_v8 (h_arg0 : σ (Proc.devRef .tc main_arg0) = x0) : after hostOps0 σ (Proc.devRef .tc main_v8) = val_main_v8 (F := F) x0 := by
  simp only [hostOps0, TRef.binary, TRef.nullary, TRef.ternary, TRef.unary, TRef.toBuf, TRef.ofBuf, cast_eq, List.take_succ_cons, List.take_zero, List.drop_succ_cons, List.drop_zero]
  after_results_simp
  simp only [h_arg0] <;> rfl
theorem w0_v14  : after hostOps0 σ (Proc.devRef .tc main_v14) = val_main_v14 (F := F) := by
  simp only [hostOps0, TRef.binary, TRef.nullary, TRef.ternary, TRef.unary, TRef.toBuf, TRef.ofBuf, cast_eq, List.take_succ_cons, List.take_zero, List.drop_succ_cons, List.drop_zero]
  after_results_simp
  all_goals rfl
theorem w0_v19  : after hostOps0 σ (Proc.devRef .tc main_v19) = val_main_v19 (F := F) := by
  simp only [hostOps0, TRef.binary, TRef.nullary, TRef.ternary, TRef.unary, TRef.toBuf, TRef.ofBuf, cast_eq, List.take_succ_cons, List.take_zero, List.drop_succ_cons, List.drop_zero]
  after_results_simp
  all_goals rfl
theorem w0_c_1  : after hostOps0 σ (Proc.devRef .tc main_c_1) = val_main_c_1 (F := F) := by
  simp only [hostOps0, TRef.binary, TRef.nullary, TRef.ternary, TRef.unary, TRef.toBuf, TRef.ofBuf, cast_eq, List.take_succ_cons, List.take_zero, List.drop_succ_cons, List.drop_zero]
  after_results_simp
  all_goals rfl
theorem w1_v20 (h_v14 : σ (Proc.devRef .tc main_v14) = val_main_v14 (F := F)) (h_c_1 : σ (Proc.devRef .tc main_c_1) = val_main_c_1 (F := F)) : after hostOps0_1 σ (Proc.devRef .tc main_v20) = val_main_v20 (F := F) := by
  simp only [hostOps0_1, TRef.binary, TRef.nullary, TRef.ternary, TRef.unary, TRef.toBuf, TRef.ofBuf, cast_eq, List.take_succ_cons, List.take_zero, List.drop_succ_cons, List.drop_zero]
  after_results_simp
  simp only [h_v14, h_c_1] <;> rfl
theorem w2_v23 (h_v19 : σ (Proc.devRef .tc main_v19) = val_main_v19 (F := F)) (h_v20 : σ (Proc.devRef .tc main_v20) = val_main_v20 (F := F)) : after hostOps0_2 σ (Proc.devRef .tc main_v23) = val_main_v23 (F := F) := by
  simp only [hostOps0_2, TRef.binary, TRef.nullary, TRef.ternary, TRef.unary, TRef.toBuf, TRef.ofBuf, cast_eq, List.take_succ_cons, List.take_zero, List.drop_succ_cons, List.drop_zero]
  after_results_simp
  simp only [h_v19, h_v20] <;> rfl
theorem w2_v26 (h_v4 : σ (Proc.devRef .tc main_v4) = val_main_v4 (F := F) x0) (h_v6 : σ (Proc.devRef .tc main_v6) = val_main_v6 (F := F) x0) : after hostOps0_2 σ (Proc.devRef .tc main_v26) = val_main_v26 (F := F) x0 := by
  simp only [hostOps0_2, TRef.binary, TRef.nullary, TRef.ternary, TRef.unary, TRef.toBuf, TRef.ofBuf, cast_eq, List.take_succ_cons, List.take_zero, List.drop_succ_cons, List.drop_zero]
  after_results_simp
  simp only [h_v4, h_v6] <;> rfl
theorem w2_cst_3  : after hostOps0_2 σ (Proc.devRef .tc main_cst_3) = val_main_cst_3 (F := F) := by
  simp only [hostOps0_2, TRef.binary, TRef.nullary, TRef.ternary, TRef.unary, TRef.toBuf, TRef.ofBuf, cast_eq, List.take_succ_cons, List.take_zero, List.drop_succ_cons, List.drop_zero]
  after_results_simp
  all_goals rfl
theorem w3_v27 (h_v23 : σ (Proc.devRef .tc main_v23) = val_main_v23 (F := F)) (h_v26 : σ (Proc.devRef .tc main_v26) = val_main_v26 (F := F) x0) (h_cst_3 : σ (Proc.devRef .tc main_cst_3) = val_main_cst_3 (F := F)) : after hostOps0_3 σ (Proc.devRef .tc main_v27) = val_main_v27_0 (F := F) x0 := by
  simp only [hostOps0_3, TRef.binary, TRef.nullary, TRef.ternary, TRef.unary, TRef.toBuf, TRef.ofBuf, cast_eq, List.take_succ_cons, List.take_zero, List.drop_succ_cons, List.drop_zero]
  after_results_simp
  simp only [h_v23, h_v26, h_cst_3] <;> rfl
theorem w4_v37 (h_v27 : σ (Proc.devRef .tc main_v27) = val_main_v27_0 (F := F) x0) (h_v8 : σ (Proc.devRef .tc main_v8) = val_main_v8 (F := F) x0) : after l4 σ (Proc.devRef .tc main_v37) = val_main_v42 (F := F) x0 := by
  simp only [l4, hostOps0_4, TRef.binary, TRef.nullary, TRef.ternary, TRef.unary, TRef.toBuf, TRef.ofBuf, cast_eq, List.take_succ_cons, List.take_zero, List.drop_succ_cons, List.drop_zero]
  after_results_simp
  simp only [h_v27, h_v8] <;> rfl
theorem w4_v41 (h_arg2 : σ (Proc.devRef .tc main_arg2) = x2) : after l4 σ (Proc.devRef .tc main_v41) = val_main_v49 (F := F) x2 := by
  simp only [l4, hostOps0_4, TRef.binary, TRef.nullary, TRef.ternary, TRef.unary, TRef.toBuf, TRef.ofBuf, cast_eq, List.take_succ_cons, List.take_zero, List.drop_succ_cons, List.drop_zero]
  after_results_simp
  simp only [h_arg2] <;> rfl
theorem w4_v42 (h_v27 : σ (Proc.devRef .tc main_v27) = val_main_v27_0 (F := F) x0) : after l4 σ (Proc.devRef .tc main_v42) = val_main_v50 (F := F) x0 := by
  simp only [l4, hostOps0_4, TRef.binary, TRef.nullary, TRef.ternary, TRef.unary, TRef.toBuf, TRef.ofBuf, cast_eq, List.take_succ_cons, List.take_zero, List.drop_succ_cons, List.drop_zero]
  after_results_simp
  simp only [h_v27] <;> rfl
theorem w4_v43 (h_arg4 : σ (Proc.devRef .tc main_arg4) = x4) : after l4 σ (Proc.devRef .tc main_v43) = val_main_v51 (F := F) x4 := by
  simp only [l4, hostOps0_4, TRef.binary, TRef.nullary, TRef.ternary, TRef.unary, TRef.toBuf, TRef.ofBuf, cast_eq, List.take_succ_cons, List.take_zero, List.drop_succ_cons, List.drop_zero]
  after_results_simp
  simp only [h_arg4] <;> rfl
theorem w6_v56 (h_v44 : σ (Proc.devRef .tc main_v44) = val_main_v52 (F := F) x0 x2 x4) : after l6 σ (Proc.devRef .tc main_v56) = val_main_v83 (F := F) x0 x2 x4 := by
  simp only [l6, hostOps0_4, TRef.binary, TRef.nullary, TRef.ternary, TRef.unary, TRef.toBuf, TRef.ofBuf, cast_eq, List.take_succ_cons, List.take_zero, List.drop_succ_cons, List.drop_zero]
  after_results_simp
  simp only [h_v44] <;> rfl
theorem w6_v57 (h_arg1 : σ (Proc.devRef .tc main_arg1) = x1) : after l6 σ (Proc.devRef .tc main_v57) = val_main_v84 (F := F) x1 := by
  simp only [l6, hostOps0_4, TRef.binary, TRef.nullary, TRef.ternary, TRef.unary, TRef.toBuf, TRef.ofBuf, cast_eq, List.take_succ_cons, List.take_zero, List.drop_succ_cons, List.drop_zero]
  after_results_simp
  simp only [h_arg1] <;> rfl
theorem w6_v58 (h_v37 : σ (Proc.devRef .tc main_v37) = val_main_v42 (F := F) x0) : after l6 σ (Proc.devRef .tc main_v58) = val_main_v85 (F := F) x0 := by
  simp only [l6, hostOps0_4, TRef.binary, TRef.nullary, TRef.ternary, TRef.unary, TRef.toBuf, TRef.ofBuf, cast_eq, List.take_succ_cons, List.take_zero, List.drop_succ_cons, List.drop_zero]
  after_results_simp
  simp only [h_v37] <;> rfl
theorem w6_v59 (h_arg3 : σ (Proc.devRef .tc main_arg3) = x3) : after l6 σ (Proc.devRef .tc main_v59) = val_main_v86 (F := F) x3 := by
  simp only [l6, hostOps0_4, TRef.binary, TRef.nullary, TRef.ternary, TRef.unary, TRef.toBuf, TRef.ofBuf, cast_eq, List.take_succ_cons, List.take_zero, List.drop_succ_cons, List.drop_zero]
  after_results_simp
  simp only [h_arg3] <;> rfl
theorem w8_v65 (h_v56 : σ (Proc.devRef .tc main_v56) = val_main_v83 (F := F) x0 x2 x4) (h_v60 : σ (Proc.devRef .tc main_v60) = val_main_v87 (F := F) x0 x1 x3) : after l8 σ (Proc.devRef .tc main_v65) = val_main_v94 (F := F) x0 x1 x2 x3 x4 := by
  simp only [l8, hostOps0_4, TRef.binary, TRef.nullary, TRef.ternary, TRef.unary, TRef.toBuf, TRef.ofBuf, cast_eq, List.take_succ_cons, List.take_zero, List.drop_succ_cons, List.drop_zero]
  after_results_simp
  simp only [h_v56, h_v60] <;> rfl

/-- Three log-sum-exps stacked. -/
def cat3 (a b d : (⟨S1x4x4096, .f32⟩ : BufTy).Contents (Elt F)) : (⟨S3x4x4096, .f32⟩ : BufTy).Contents (Elt F) :=
  concatenate S3x4x4096 0 [⟨S1x4x4096, a⟩, ⟨S1x4x4096, b⟩, ⟨S1x4x4096, d⟩] concatenates_S1x4x4096_S1x4x4096_S1x4x4096_S3x4x4096_d0
/-- Three outputs stacked. -/
def cat3o (a b d : (⟨S1x4x4096x64, .f32⟩ : BufTy).Contents (Elt F)) : (⟨S3x4x4096x64, .f32⟩ : BufTy).Contents (Elt F) :=
  concatenate S3x4x4096x64 0 [⟨S1x4x4096x64, a⟩, ⟨S1x4x4096x64, b⟩, ⟨S1x4x4096x64, d⟩] concatenates_S1x4x4096x64_S1x4x4096x64_S1x4x4096x64_S3x4x4096x64_d0

theorem w5_v44 (h_v41 : σ (Proc.devRef .tc main_v41) = val_main_v49 (F := F) x2) (h_v42 : σ (Proc.devRef .tc main_v42) = val_main_v50 (F := F) x0) (h_v43 : σ (Proc.devRef .tc main_v43) = val_main_v51 (F := F) x4) : after l5 σ (Proc.devRef .tc main_v44) = val_main_v52 (F := F) x0 x2 x4 := by
  have e : after l5 σ (Proc.devRef .tc main_v44) = cat3 (F := F) (σ (Proc.devRef .tc main_v41)) (σ (Proc.devRef .tc main_v42)) (σ (Proc.devRef .tc main_v43)) := by
    simp only [l5, hostOps0_4, List.take_succ_cons, List.take_zero, List.drop_succ_cons, List.drop_zero, after_cons, after_nil]
    rw [nary_result]; rfl
  rw [e, h_v41, h_v42, h_v43]; rfl
theorem w7_v60 (h_v57 : σ (Proc.devRef .tc main_v57) = val_main_v84 (F := F) x1) (h_v58 : σ (Proc.devRef .tc main_v58) = val_main_v85 (F := F) x0) (h_v59 : σ (Proc.devRef .tc main_v59) = val_main_v86 (F := F) x3) : after l7 σ (Proc.devRef .tc main_v60) = val_main_v87 (F := F) x0 x1 x3 := by
  have e : after l7 σ (Proc.devRef .tc main_v60) = cat3o (F := F) (σ (Proc.devRef .tc main_v57)) (σ (Proc.devRef .tc main_v58)) (σ (Proc.devRef .tc main_v59)) := by
    simp only [l7, hostOps0_4, List.take_succ_cons, List.take_zero, List.drop_succ_cons, List.drop_zero, after_cons, after_nil]
    rw [nary_result]; rfl
  rw [e, h_v57, h_v58, h_v59]; rfl

/-- The log-sum-exp from the stacked three and their largest, repeated over a head's sixty-four columns. -/
def lseOf (a : (⟨S4x4096, .f32⟩ : BufTy).Contents (Elt F)) (z : (⟨S4x4096, .f32⟩ : BufTy).Contents (Elt F)) : (⟨S4096x256, .f32⟩ : BufTy).Contents (Elt F) :=
  shapeCast _ (broadcastInDim S4096x4x64 ![0, 1, 2] bcast_S4096x4x1_S4096x4x64_0_1_2 (broadcastInDim S4096x4x1 ![0, 1] bcast_S4096x4_S4096x4x1_0_1
    (transpose S4096x4 [1, 0] (addf a (Host.log z)) transposes_S4x4096_S4096x4_1_0))) shapeCasts_S4096x4x64_S4096x256

/-- The sum of exponentials below the largest. -/
def zOf (s : (⟨S3x4x4096, .f32⟩ : BufTy).Contents (Elt F)) (a : (⟨S4x4096, .f32⟩ : BufTy).Contents (Elt F)) : (⟨S4x4096, .f32⟩ : BufTy).Contents (Elt F) :=
  Host.reduceAdd (Host.exp (subf s (broadcastInDim S3x4x4096 ![0, 1, 2] bcast_S1x4x4096_S3x4x4096_0_1_2 (broadcastInDim S1x4x4096 ![1, 2] bcast_S4x4096_S1x4x4096_1_2 a))))
    (constant S_ .f32 0x00000000#32) reducesTo_S3x4x4096_S4x4096_d0 h_S_

theorem w9_v77 (h_v44 : σ (Proc.devRef .tc main_v44) = val_main_v52 (F := F) x0 x2 x4) : after l9 σ (Proc.devRef .tc main_v77) = lseOf (F := F) (val_main_v55 (F := F) x0 x2 x4) (zOf (val_main_v52 (F := F) x0 x2 x4) (val_main_v55 (F := F) x0 x2 x4)) := by
  simp only [l9, hostOps0_4, TRef.binary, TRef.nullary, TRef.ternary, TRef.unary, TRef.toBuf, TRef.ofBuf, cast_eq, List.take_succ_cons, List.take_zero, List.drop_succ_cons, List.drop_zero]
  after_results_simp
  simp only [h_v44] <;> rfl
theorem k1_v4 : after hostOps0_1 σ (Proc.devRef .tc main_v4) = σ (Proc.devRef .tc main_v4) := by
  simp only [hostOps0_1, TRef.binary, TRef.nullary, TRef.ternary, TRef.unary, TRef.toBuf, TRef.ofBuf, cast_eq, List.take_succ_cons, List.take_zero, List.drop_succ_cons, List.drop_zero]
  after_results_simp
theorem k1_v6 : after hostOps0_1 σ (Proc.devRef .tc main_v6) = σ (Proc.devRef .tc main_v6) := by
  simp only [hostOps0_1, TRef.binary, TRef.nullary, TRef.ternary, TRef.unary, TRef.toBuf, TRef.ofBuf, cast_eq, List.take_succ_cons, List.take_zero, List.drop_succ_cons, List.drop_zero]
  after_results_simp
theorem k1_v8 : after hostOps0_1 σ (Proc.devRef .tc main_v8) = σ (Proc.devRef .tc main_v8) := by
  simp only [hostOps0_1, TRef.binary, TRef.nullary, TRef.ternary, TRef.unary, TRef.toBuf, TRef.ofBuf, cast_eq, List.take_succ_cons, List.take_zero, List.drop_succ_cons, List.drop_zero]
  after_results_simp
theorem k1_v19 : after hostOps0_1 σ (Proc.devRef .tc main_v19) = σ (Proc.devRef .tc main_v19) := by
  simp only [hostOps0_1, TRef.binary, TRef.nullary, TRef.ternary, TRef.unary, TRef.toBuf, TRef.ofBuf, cast_eq, List.take_succ_cons, List.take_zero, List.drop_succ_cons, List.drop_zero]
  after_results_simp
theorem k1_arg1 : after hostOps0_1 σ (Proc.devRef .tc main_arg1) = σ (Proc.devRef .tc main_arg1) := by
  simp only [hostOps0_1, TRef.binary, TRef.nullary, TRef.ternary, TRef.unary, TRef.toBuf, TRef.ofBuf, cast_eq, List.take_succ_cons, List.take_zero, List.drop_succ_cons, List.drop_zero]
  after_results_simp
theorem k1_arg2 : after hostOps0_1 σ (Proc.devRef .tc main_arg2) = σ (Proc.devRef .tc main_arg2) := by
  simp only [hostOps0_1, TRef.binary, TRef.nullary, TRef.ternary, TRef.unary, TRef.toBuf, TRef.ofBuf, cast_eq, List.take_succ_cons, List.take_zero, List.drop_succ_cons, List.drop_zero]
  after_results_simp
theorem k1_arg3 : after hostOps0_1 σ (Proc.devRef .tc main_arg3) = σ (Proc.devRef .tc main_arg3) := by
  simp only [hostOps0_1, TRef.binary, TRef.nullary, TRef.ternary, TRef.unary, TRef.toBuf, TRef.ofBuf, cast_eq, List.take_succ_cons, List.take_zero, List.drop_succ_cons, List.drop_zero]
  after_results_simp
theorem k1_arg4 : after hostOps0_1 σ (Proc.devRef .tc main_arg4) = σ (Proc.devRef .tc main_arg4) := by
  simp only [hostOps0_1, TRef.binary, TRef.nullary, TRef.ternary, TRef.unary, TRef.toBuf, TRef.ofBuf, cast_eq, List.take_succ_cons, List.take_zero, List.drop_succ_cons, List.drop_zero]
  after_results_simp
theorem k0_arg1 : after hostOps0 σ (Proc.devRef .tc main_arg1) = σ (Proc.devRef .tc main_arg1) := by
  simp only [hostOps0, TRef.binary, TRef.nullary, TRef.ternary, TRef.unary, TRef.toBuf, TRef.ofBuf, cast_eq, List.take_succ_cons, List.take_zero, List.drop_succ_cons, List.drop_zero]
  after_results_simp
theorem k0_arg2 : after hostOps0 σ (Proc.devRef .tc main_arg2) = σ (Proc.devRef .tc main_arg2) := by
  simp only [hostOps0, TRef.binary, TRef.nullary, TRef.ternary, TRef.unary, TRef.toBuf, TRef.ofBuf, cast_eq, List.take_succ_cons, List.take_zero, List.drop_succ_cons, List.drop_zero]
  after_results_simp
theorem k0_arg3 : after hostOps0 σ (Proc.devRef .tc main_arg3) = σ (Proc.devRef .tc main_arg3) := by
  simp only [hostOps0, TRef.binary, TRef.nullary, TRef.ternary, TRef.unary, TRef.toBuf, TRef.ofBuf, cast_eq, List.take_succ_cons, List.take_zero, List.drop_succ_cons, List.drop_zero]
  after_results_simp
theorem k0_arg4 : after hostOps0 σ (Proc.devRef .tc main_arg4) = σ (Proc.devRef .tc main_arg4) := by
  simp only [hostOps0, TRef.binary, TRef.nullary, TRef.ternary, TRef.unary, TRef.toBuf, TRef.ofBuf, cast_eq, List.take_succ_cons, List.take_zero, List.drop_succ_cons, List.drop_zero]
  after_results_simp
theorem k2_v8 : after hostOps0_2 σ (Proc.devRef .tc main_v8) = σ (Proc.devRef .tc main_v8) := by
  simp only [hostOps0_2, TRef.binary, TRef.nullary, TRef.ternary, TRef.unary, TRef.toBuf, TRef.ofBuf, cast_eq, List.take_succ_cons, List.take_zero, List.drop_succ_cons, List.drop_zero]
  after_results_simp
theorem k2_arg1 : after hostOps0_2 σ (Proc.devRef .tc main_arg1) = σ (Proc.devRef .tc main_arg1) := by
  simp only [hostOps0_2, TRef.binary, TRef.nullary, TRef.ternary, TRef.unary, TRef.toBuf, TRef.ofBuf, cast_eq, List.take_succ_cons, List.take_zero, List.drop_succ_cons, List.drop_zero]
  after_results_simp
theorem k2_arg2 : after hostOps0_2 σ (Proc.devRef .tc main_arg2) = σ (Proc.devRef .tc main_arg2) := by
  simp only [hostOps0_2, TRef.binary, TRef.nullary, TRef.ternary, TRef.unary, TRef.toBuf, TRef.ofBuf, cast_eq, List.take_succ_cons, List.take_zero, List.drop_succ_cons, List.drop_zero]
  after_results_simp
theorem k2_arg3 : after hostOps0_2 σ (Proc.devRef .tc main_arg3) = σ (Proc.devRef .tc main_arg3) := by
  simp only [hostOps0_2, TRef.binary, TRef.nullary, TRef.ternary, TRef.unary, TRef.toBuf, TRef.ofBuf, cast_eq, List.take_succ_cons, List.take_zero, List.drop_succ_cons, List.drop_zero]
  after_results_simp
theorem k2_arg4 : after hostOps0_2 σ (Proc.devRef .tc main_arg4) = σ (Proc.devRef .tc main_arg4) := by
  simp only [hostOps0_2, TRef.binary, TRef.nullary, TRef.ternary, TRef.unary, TRef.toBuf, TRef.ofBuf, cast_eq, List.take_succ_cons, List.take_zero, List.drop_succ_cons, List.drop_zero]
  after_results_simp
theorem k3_v8 : after hostOps0_3 σ (Proc.devRef .tc main_v8) = σ (Proc.devRef .tc main_v8) := by
  simp only [hostOps0_3, TRef.binary, TRef.nullary, TRef.ternary, TRef.unary, TRef.toBuf, TRef.ofBuf, cast_eq, List.take_succ_cons, List.take_zero, List.drop_succ_cons, List.drop_zero]
  after_results_simp
theorem k3_arg1 : after hostOps0_3 σ (Proc.devRef .tc main_arg1) = σ (Proc.devRef .tc main_arg1) := by
  simp only [hostOps0_3, TRef.binary, TRef.nullary, TRef.ternary, TRef.unary, TRef.toBuf, TRef.ofBuf, cast_eq, List.take_succ_cons, List.take_zero, List.drop_succ_cons, List.drop_zero]
  after_results_simp
theorem k3_arg2 : after hostOps0_3 σ (Proc.devRef .tc main_arg2) = σ (Proc.devRef .tc main_arg2) := by
  simp only [hostOps0_3, TRef.binary, TRef.nullary, TRef.ternary, TRef.unary, TRef.toBuf, TRef.ofBuf, cast_eq, List.take_succ_cons, List.take_zero, List.drop_succ_cons, List.drop_zero]
  after_results_simp
theorem k3_arg3 : after hostOps0_3 σ (Proc.devRef .tc main_arg3) = σ (Proc.devRef .tc main_arg3) := by
  simp only [hostOps0_3, TRef.binary, TRef.nullary, TRef.ternary, TRef.unary, TRef.toBuf, TRef.ofBuf, cast_eq, List.take_succ_cons, List.take_zero, List.drop_succ_cons, List.drop_zero]
  after_results_simp
theorem k3_arg4 : after hostOps0_3 σ (Proc.devRef .tc main_arg4) = σ (Proc.devRef .tc main_arg4) := by
  simp only [hostOps0_3, TRef.binary, TRef.nullary, TRef.ternary, TRef.unary, TRef.toBuf, TRef.ofBuf, cast_eq, List.take_succ_cons, List.take_zero, List.drop_succ_cons, List.drop_zero]
  after_results_simp
theorem k4_arg1 : after l4 σ (Proc.devRef .tc main_arg1) = σ (Proc.devRef .tc main_arg1) := by
  simp only [l4, hostOps0_4, TRef.binary, TRef.nullary, TRef.ternary, TRef.unary, TRef.toBuf, TRef.ofBuf, cast_eq, List.take_succ_cons, List.take_zero, List.drop_succ_cons, List.drop_zero]
  after_results_simp
theorem k4_arg3 : after l4 σ (Proc.devRef .tc main_arg3) = σ (Proc.devRef .tc main_arg3) := by
  simp only [l4, hostOps0_4, TRef.binary, TRef.nullary, TRef.ternary, TRef.unary, TRef.toBuf, TRef.ofBuf, cast_eq, List.take_succ_cons, List.take_zero, List.drop_succ_cons, List.drop_zero]
  after_results_simp
theorem k5_v37 : after l5 σ (Proc.devRef .tc main_v37) = σ (Proc.devRef .tc main_v37) := by
  simp only [l5, hostOps0_4, TRef.binary, TRef.nullary, TRef.ternary, TRef.unary, TRef.toBuf, TRef.ofBuf, cast_eq, List.take_succ_cons, List.take_zero, List.drop_succ_cons, List.drop_zero]
  after_results_simp
theorem k5_arg1 : after l5 σ (Proc.devRef .tc main_arg1) = σ (Proc.devRef .tc main_arg1) := by
  simp only [l5, hostOps0_4, TRef.binary, TRef.nullary, TRef.ternary, TRef.unary, TRef.toBuf, TRef.ofBuf, cast_eq, List.take_succ_cons, List.take_zero, List.drop_succ_cons, List.drop_zero]
  after_results_simp
theorem k5_arg3 : after l5 σ (Proc.devRef .tc main_arg3) = σ (Proc.devRef .tc main_arg3) := by
  simp only [l5, hostOps0_4, TRef.binary, TRef.nullary, TRef.ternary, TRef.unary, TRef.toBuf, TRef.ofBuf, cast_eq, List.take_succ_cons, List.take_zero, List.drop_succ_cons, List.drop_zero]
  after_results_simp
theorem k6_v44 : after l6 σ (Proc.devRef .tc main_v44) = σ (Proc.devRef .tc main_v44) := by
  simp only [l6, hostOps0_4, TRef.binary, TRef.nullary, TRef.ternary, TRef.unary, TRef.toBuf, TRef.ofBuf, cast_eq, List.take_succ_cons, List.take_zero, List.drop_succ_cons, List.drop_zero]
  after_results_simp
theorem k7_v56 : after l7 σ (Proc.devRef .tc main_v56) = σ (Proc.devRef .tc main_v56) := by
  simp only [l7, hostOps0_4, TRef.binary, TRef.nullary, TRef.ternary, TRef.unary, TRef.toBuf, TRef.ofBuf, cast_eq, List.take_succ_cons, List.take_zero, List.drop_succ_cons, List.drop_zero]
  after_results_simp
theorem k7_v44 : after l7 σ (Proc.devRef .tc main_v44) = σ (Proc.devRef .tc main_v44) := by
  simp only [l7, hostOps0_4, TRef.binary, TRef.nullary, TRef.ternary, TRef.unary, TRef.toBuf, TRef.ofBuf, cast_eq, List.take_succ_cons, List.take_zero, List.drop_succ_cons, List.drop_zero]
  after_results_simp
theorem k8_v44 : after l8 σ (Proc.devRef .tc main_v44) = σ (Proc.devRef .tc main_v44) := by
  simp only [l8, hostOps0_4, TRef.binary, TRef.nullary, TRef.ternary, TRef.unary, TRef.toBuf, TRef.ofBuf, cast_eq, List.take_succ_cons, List.take_zero, List.drop_succ_cons, List.drop_zero]
  after_results_simp
theorem k9_v65 : after l9 σ (Proc.devRef .tc main_v65) = σ (Proc.devRef .tc main_v65) := by
  simp only [l9, hostOps0_4, TRef.binary, TRef.nullary, TRef.ternary, TRef.unary, TRef.toBuf, TRef.ofBuf, cast_eq, List.take_succ_cons, List.take_zero, List.drop_succ_cons, List.drop_zero]
  after_results_simp

end Windows

theorem pieces : (hostOps0_4 (F := F)) = l4 ++ (l5 ++ (l6 ++ (l7 ++ (l8 ++ l9)))) := rfl

section Chain

variable (σ : Valuation τ sig (Elt F))
variable (x0 : (⟨S4096x5120, .f32⟩ : BufTy).Contents (Elt F)) (x1 x3 : (⟨S4x4096x64, .f32⟩ : BufTy).Contents (Elt F)) (x2 x4 : (⟨S4x4096, .f32⟩ : BufTy).Contents (Elt F))

theorem chain (h_arg0 : σ (Proc.devRef .tc main_arg0) = x0) (h_arg1 : σ (Proc.devRef .tc main_arg1) = x1) (h_arg2 : σ (Proc.devRef .tc main_arg2) = x2) (h_arg3 : σ (Proc.devRef .tc main_arg3) = x3) (h_arg4 : σ (Proc.devRef .tc main_arg4) = x4) :
    (after l9 (after l8 (after l7 (after l6 (after l5 (after l4 (after hostOps0_3 (after hostOps0_2 (after hostOps0_1 (after hostOps0 σ)))))))))) (Proc.devRef .tc main_v65) = val_main_v94 (F := F) x0 x1 x2 x3 x4
    ∧ (after l9 (after l8 (after l7 (after l6 (after l5 (after l4 (after hostOps0_3 (after hostOps0_2 (after hostOps0_1 (after hostOps0 σ)))))))))) (Proc.devRef .tc main_v77) = lseOf (F := F) (val_main_v55 (F := F) x0 x2 x4) (zOf (val_main_v52 (F := F) x0 x2 x4) (val_main_v55 (F := F) x0 x2 x4)) := by
  have s0_v4 := w0_v4 (F := F) σ x0 h_arg0
  have s0_v6 := w0_v6 (F := F) σ x0 h_arg0
  have s0_v8 := w0_v8 (F := F) σ x0 h_arg0
  have s0_v14 := w0_v14 (F := F) σ
  have s0_v19 := w0_v19 (F := F) σ
  have s0_c_1 := w0_c_1 (F := F) σ
  have s0_arg1 := (k0_arg1 (F := F) σ).trans h_arg1
  have s0_arg2 := (k0_arg2 (F := F) σ).trans h_arg2
  have s0_arg3 := (k0_arg3 (F := F) σ).trans h_arg3
  have s0_arg4 := (k0_arg4 (F := F) σ).trans h_arg4
  have s1_v20 := w1_v20 (F := F) (after hostOps0 σ)  s0_v14 s0_c_1
  have s1_v4 := (k1_v4 (F := F) (after hostOps0 σ)).trans s0_v4
  have s1_v6 := (k1_v6 (F := F) (after hostOps0 σ)).trans s0_v6
  have s1_v8 := (k1_v8 (F := F) (after hostOps0 σ)).trans s0_v8
  have s1_v19 := (k1_v19 (F := F) (after hostOps0 σ)).trans s0_v19
  have s1_arg1 := (k1_arg1 (F := F) (after hostOps0 σ)).trans s0_arg1
  have s1_arg2 := (k1_arg2 (F := F) (after hostOps0 σ)).trans s0_arg2
  have s1_arg3 := (k1_arg3 (F := F) (after hostOps0 σ)).trans s0_arg3
  have s1_arg4 := (k1_arg4 (F := F) (after hostOps0 σ)).trans s0_arg4
  have s2_v23 := w2_v23 (F := F) (after hostOps0_1 (after hostOps0 σ))  s1_v19 s1_v20
  have s2_v26 := w2_v26 (F := F) (after hostOps0_1 (after hostOps0 σ)) x0 s1_v4 s1_v6
  have s2_cst_3 := w2_cst_3 (F := F) (after hostOps0_1 (after hostOps0 σ))
  have s2_v8 := (k2_v8 (F := F) (after hostOps0_1 (after hostOps0 σ))).trans s1_v8
  have s2_arg1 := (k2_arg1 (F := F) (after hostOps0_1 (after hostOps0 σ))).trans s1_arg1
  have s2_arg2 := (k2_arg2 (F := F) (after hostOps0_1 (after hostOps0 σ))).trans s1_arg2
  have s2_arg3 := (k2_arg3 (F := F) (after hostOps0_1 (after hostOps0 σ))).trans s1_arg3
  have s2_arg4 := (k2_arg4 (F := F) (after hostOps0_1 (after hostOps0 σ))).trans s1_arg4
  have s3_v27 := w3_v27 (F := F) (after hostOps0_2 (after hostOps0_1 (after hostOps0 σ))) x0 s2_v23 s2_v26 s2_cst_3
  have s3_v8 := (k3_v8 (F := F) (after hostOps0_2 (after hostOps0_1 (after hostOps0 σ)))).trans s2_v8
  have s3_arg1 := (k3_arg1 (F := F) (after hostOps0_2 (after hostOps0_1 (after hostOps0 σ)))).trans s2_arg1
  have s3_arg2 := (k3_arg2 (F := F) (after hostOps0_2 (after hostOps0_1 (after hostOps0 σ)))).trans s2_arg2
  have s3_arg3 := (k3_arg3 (F := F) (after hostOps0_2 (after hostOps0_1 (after hostOps0 σ)))).trans s2_arg3
  have s3_arg4 := (k3_arg4 (F := F) (after hostOps0_2 (after hostOps0_1 (after hostOps0 σ)))).trans s2_arg4
  have s4_v37 := w4_v37 (F := F) (after hostOps0_3 (after hostOps0_2 (after hostOps0_1 (after hostOps0 σ)))) x0 s3_v27 s3_v8
  have s4_v41 := w4_v41 (F := F) (after hostOps0_3 (after hostOps0_2 (after hostOps0_1 (after hostOps0 σ)))) x2 s3_arg2
  have s4_v42 := w4_v42 (F := F) (after hostOps0_3 (after hostOps0_2 (after hostOps0_1 (after hostOps0 σ)))) x0 s3_v27
  have s4_v43 := w4_v43 (F := F) (after hostOps0_3 (after hostOps0_2 (after hostOps0_1 (after hostOps0 σ)))) x4 s3_arg4
  have s4_arg1 := (k4_arg1 (F := F) (after hostOps0_3 (after hostOps0_2 (after hostOps0_1 (after hostOps0 σ))))).trans s3_arg1
  have s4_arg3 := (k4_arg3 (F := F) (after hostOps0_3 (after hostOps0_2 (after hostOps0_1 (after hostOps0 σ))))).trans s3_arg3
  have s5_v44 := w5_v44 (F := F) (after l4 (after hostOps0_3 (after hostOps0_2 (after hostOps0_1 (after hostOps0 σ))))) x0 x2 x4 s4_v41 s4_v42 s4_v43
  have s5_v37 := (k5_v37 (F := F) (after l4 (after hostOps0_3 (after hostOps0_2 (after hostOps0_1 (after hostOps0 σ)))))).trans s4_v37
  have s5_arg1 := (k5_arg1 (F := F) (after l4 (after hostOps0_3 (after hostOps0_2 (after hostOps0_1 (after hostOps0 σ)))))).trans s4_arg1
  have s5_arg3 := (k5_arg3 (F := F) (after l4 (after hostOps0_3 (after hostOps0_2 (after hostOps0_1 (after hostOps0 σ)))))).trans s4_arg3
  have s6_v56 := w6_v56 (F := F) (after l5 (after l4 (after hostOps0_3 (after hostOps0_2 (after hostOps0_1 (after hostOps0 σ)))))) x0 x2 x4 s5_v44
  have s6_v57 := w6_v57 (F := F) (after l5 (after l4 (after hostOps0_3 (after hostOps0_2 (after hostOps0_1 (after hostOps0 σ)))))) x1 s5_arg1
  have s6_v58 := w6_v58 (F := F) (after l5 (after l4 (after hostOps0_3 (after hostOps0_2 (after hostOps0_1 (after hostOps0 σ)))))) x0 s5_v37
  have s6_v59 := w6_v59 (F := F) (after l5 (after l4 (after hostOps0_3 (after hostOps0_2 (after hostOps0_1 (after hostOps0 σ)))))) x3 s5_arg3
  have s6_v44 := (k6_v44 (F := F) (after l5 (after l4 (after hostOps0_3 (after hostOps0_2 (after hostOps0_1 (after hostOps0 σ))))))).trans s5_v44
  have s7_v60 := w7_v60 (F := F) (after l6 (after l5 (after l4 (after hostOps0_3 (after hostOps0_2 (after hostOps0_1 (after hostOps0 σ))))))) x0 x1 x3 s6_v57 s6_v58 s6_v59
  have s7_v56 := (k7_v56 (F := F) (after l6 (after l5 (after l4 (after hostOps0_3 (after hostOps0_2 (after hostOps0_1 (after hostOps0 σ)))))))).trans s6_v56
  have s7_v44 := (k7_v44 (F := F) (after l6 (after l5 (after l4 (after hostOps0_3 (after hostOps0_2 (after hostOps0_1 (after hostOps0 σ)))))))).trans s6_v44
  have s8_v65 := w8_v65 (F := F) (after l7 (after l6 (after l5 (after l4 (after hostOps0_3 (after hostOps0_2 (after hostOps0_1 (after hostOps0 σ)))))))) x0 x1 x3 x2 x4 s7_v56 s7_v60
  have s8_v44 := (k8_v44 (F := F) (after l7 (after l6 (after l5 (after l4 (after hostOps0_3 (after hostOps0_2 (after hostOps0_1 (after hostOps0 σ))))))))).trans s7_v44
  have s9_v65 := (k9_v65 (F := F) (after l8 (after l7 (after l6 (after l5 (after l4 (after hostOps0_3 (after hostOps0_2 (after hostOps0_1 (after hostOps0 σ)))))))))).trans s8_v65
  have s9_v77 := w9_v77 (F := F) (after l8 (after l7 (after l6 (after l5 (after l4 (after hostOps0_3 (after hostOps0_2 (after hostOps0_1 (after hostOps0 σ))))))))) x0 x2 x4 s8_v44
  exact ⟨s9_v65, s9_v77⟩

end Chain

section Launch

variable (m : (ℓ : Loc nD τ sig) → Buf (Elt F) ℓ) (c : Dev nD)

theorem V_split (b : Ref sig .tc) : V m c b = (after l9 (after l8 (after l7 (after l6 (after l5 (after l4 (after hostOps0_3 (after hostOps0_2 (after hostOps0_1 (after hostOps0 (fun b => m (c, b))))))))))))  (Proc.devRef .tc b) := by
  show after (List.flatten [hostOps0, hostOps0_1, hostOps0_2, hostOps0_3, hostOps0_4]) (fun b => m (c, b)) (Proc.devRef .tc b) = _
  rw [pieces]
  simp only [List.flatten_cons, List.flatten_nil, List.append_nil, after_two]

/-- The attention output the grid reads is the reference's. -/
theorem V_o : V m c main_v65 = val_main_v94 (F := F) (m ((c : Thread nD τ).loc main_arg0)) (m ((c : Thread nD τ).loc main_arg1)) (m ((c : Thread nD τ).loc main_arg2)) (m ((c : Thread nD τ).loc main_arg3)) (m ((c : Thread nD τ).loc main_arg4)) :=
  (V_split m c main_v65).trans (chain (F := F) (fun b => m (c, b)) _ _ _ _ _ rfl rfl rfl rfl rfl).1

/-- The log-sum-exp the grid reads, over the reference's stages. -/
theorem V_l : V m c main_v77 = lseOf (F := F) (val_main_v55 (F := F) (m ((c : Thread nD τ).loc main_arg0)) (m ((c : Thread nD τ).loc main_arg2)) (m ((c : Thread nD τ).loc main_arg4)))
    (zOf (val_main_v52 (F := F) (m ((c : Thread nD τ).loc main_arg0)) (m ((c : Thread nD τ).loc main_arg2)) (m ((c : Thread nD τ).loc main_arg4))) (val_main_v55 (F := F) (m ((c : Thread nD τ).loc main_arg0)) (m ((c : Thread nD τ).loc main_arg2)) (m ((c : Thread nD τ).loc main_arg4)))) :=
  (V_split m c main_v77).trans (chain (F := F) (fun b => m (c, b)) _ (m ((c : Thread nD τ).loc main_arg1)) (m ((c : Thread nD τ).loc main_arg3)) _ _ rfl rfl rfl rfl rfl).2

end Launch

end Cert.KernelIdeal.Dil
-- ==== Proof.Count.lean ====
module

public import proofs.«01_k».proof.Proof.Model

@[expose] public section

noncomputable section

namespace Cert.Dil

/-! # Rows and keys by blocks

The 4096 rows in 32 blocks of 128: block `n` holds the rows `512 (n / 4) + n % 4 + 4 j`. A block's queries read its own
keys up to their own place and, from the fifth block on, the keys of the block four before it from their own place on. -/

/-- Row `j` of block `n`. -/
def tm (n : Fin 32) (j : Fin 128) : Fin 4096 := ⟨n.val / 4 * 512 + n.val % 4 + 4 * j.val, by omega⟩

/-- The block whose keys are read before the block's own; for the first four it is the block itself, and none are read. -/
def pb (n : Fin 32) : Fin 32 := ⟨if n.val < 4 then n.val else n.val - 4, by split <;> omega⟩

/-- The block four on. -/
def nb (n : Fin 32) (h : n.val < 28) : Fin 32 := ⟨n.val + 4, by omega⟩

/-- The block of a row. -/
def bk (t : Fin 4096) : ℕ := t.val / 512 * 4 + t.val % 4

/-- A row's place in its block. -/
def pl (t : Fin 4096) : Fin 128 := ⟨t.val % 512 / 4, by omega⟩

theorem bk_tm (n : Fin 32) (j : Fin 128) : bk (tm n j) = n.val := by
  show (n.val / 4 * 512 + n.val % 4 + 4 * j.val) / 512 * 4 + (n.val / 4 * 512 + n.val % 4 + 4 * j.val) % 4 = n.val
  omega

theorem pl_tm (n : Fin 32) (j : Fin 128) : pl (tm n j) = j := by
  apply Fin.ext
  show (n.val / 4 * 512 + n.val % 4 + 4 * j.val) % 512 / 4 = j.val
  omega

theorem tm_pl (n : Fin 32) (t : Fin 4096) (h : bk t = n.val) : tm n (pl t) = t := by
  apply Fin.ext
  have h' : t.val / 512 * 4 + t.val % 4 = n.val := h
  show n.val / 4 * 512 + n.val % 4 + 4 * (t.val % 512 / 4) = t.val
  omega

/-- A sum over the rows of one block. -/
theorem blk_sum (n : Fin 32) (f : Fin 4096 → ℝ) : (∑ t, if bk t = n.val then f t else 0) = ∑ j, f (tm n j) := by
  rw [← Finset.sum_filter]
  exact Finset.sum_nbij' pl (tm n) (fun _ _ => Finset.mem_univ _) (fun j _ => Finset.mem_filter.mpr ⟨Finset.mem_univ _, bk_tm n j⟩)
    (fun t ht => tm_pl n t (Finset.mem_filter.mp ht).2) (fun j _ => pl_tm n j) (fun t ht => by rw [tm_pl n t (Finset.mem_filter.mp ht).2])

theorem reads_own (n : Fin 32) (j c : Fin 128) : reads (tm n j) (tm n c) ↔ c.val ≤ j.val := by
  show (n.val / 4 * 512 + n.val % 4 + 4 * c.val ≤ n.val / 4 * 512 + n.val % 4 + 4 * j.val
    ∧ (n.val / 4 * 512 + n.val % 4 + 4 * j.val) - (n.val / 4 * 512 + n.val % 4 + 4 * c.val) ≤ 512
    ∧ ((n.val / 4 * 512 + n.val % 4 + 4 * j.val) - (n.val / 4 * 512 + n.val % 4 + 4 * c.val)) % 4 = 0) ↔ _
  omega

theorem reads_prev (n : Fin 32) (h4 : 4 ≤ n.val) (j c : Fin 128) : reads (tm n j) (tm (pb n) c) ↔ j.val ≤ c.val := by
  have e : (pb n).val = n.val - 4 := if_neg (by omega)
  show ((pb n).val / 4 * 512 + (pb n).val % 4 + 4 * c.val ≤ n.val / 4 * 512 + n.val % 4 + 4 * j.val
    ∧ (n.val / 4 * 512 + n.val % 4 + 4 * j.val) - ((pb n).val / 4 * 512 + (pb n).val % 4 + 4 * c.val) ≤ 512
    ∧ ((n.val / 4 * 512 + n.val % 4 + 4 * j.val) - ((pb n).val / 4 * 512 + (pb n).val % 4 + 4 * c.val)) % 4 = 0) ↔ _
  rw [e]
  omega

/-- A query reads keys of its own block and of the block four before it only. -/
theorem reads_bk (t u : Fin 4096) (h : reads t u) : bk u = bk t ∨ (bk u + 4 = bk t) := by
  obtain ⟨h1, h2, h3⟩ := h
  unfold bk
  omega

/-- Column `c` of a block's 256 keys: the block before's, then its own. -/
def keyT (n : Fin 32) (c : Fin 256) : Fin 4096 := if h : c.val < 128 then tm (pb n) ⟨c.val, h⟩ else tm n ⟨c.val - 128, by omega⟩

/-- Query `j` of block `n` takes column `c`. -/
def vis (n : Fin 32) (j : Fin 128) (c : Fin 256) : Prop := (c.val < 128 ∧ 4 ≤ n.val ∧ j.val ≤ c.val) ∨ (128 ≤ c.val ∧ c.val - 128 ≤ j.val)

instance (n : Fin 32) (j : Fin 128) (c : Fin 256) : Decidable (vis n j c) := by unfold vis; infer_instance

theorem vis_reads (n : Fin 32) (j : Fin 128) (c : Fin 256) (h : vis n j c) : reads (tm n j) (keyT n c) := by
  unfold keyT
  rcases h with ⟨h1, h2, h3⟩ | ⟨h1, h2⟩
  · rw [dif_pos h1]; exact (reads_prev n h2 j _).mpr h3
  · rw [dif_neg (by omega)]; exact (reads_own n j _).mpr h2

/-- The two halves of a block's columns. -/
def lo (c : Fin 128) : Fin 256 := ⟨c.val, by omega⟩
def hi (c : Fin 128) : Fin 256 := ⟨c.val + 128, by omega⟩

theorem keyT_lo (n : Fin 32) (c : Fin 128) : keyT n (lo c) = tm (pb n) c := dif_pos (show c.val < 128 from c.isLt)
theorem keyT_hi (n : Fin 32) (c : Fin 128) : keyT n (hi c) = tm n c := by
  unfold keyT
  refine (dif_neg (show ¬ c.val + 128 < 128 by omega)).trans ?_
  exact congrArg _ (Fin.ext (show c.val + 128 - 128 = c.val by omega))
theorem vis_lo (n : Fin 32) (j c : Fin 128) : vis n j (lo c) ↔ 4 ≤ n.val ∧ j.val ≤ c.val := by
  show ((c.val < 128 ∧ 4 ≤ n.val ∧ j.val ≤ c.val) ∨ (128 ≤ c.val ∧ c.val - 128 ≤ j.val)) ↔ _
  omega
theorem vis_hi (n : Fin 32) (j c : Fin 128) : vis n j (hi c) ↔ c.val ≤ j.val := by
  show ((c.val + 128 < 128 ∧ 4 ≤ n.val ∧ j.val ≤ c.val + 128) ∨ (128 ≤ c.val + 128 ∧ c.val + 128 - 128 ≤ j.val)) ↔ _
  omega

theorem sum_halves (f : Fin 256 → ℝ) : ∑ c, f c = ∑ c, f (lo c) + ∑ c, f (hi c) := by
  have := Fin.sum_univ_add (a := 128) (b := 128) (show Fin (128 + 128) → ℝ from f)
  refine this.trans (congrArg₂ (· + ·) (Finset.sum_congr rfl fun c _ => congrArg f (Fin.ext rfl)) (Finset.sum_congr rfl fun c _ => congrArg f (Fin.ext ?_)))
  show 128 + c.val = c.val + 128
  omega

/-- A query's sum over the keys it reads, by its block's columns. -/
theorem row_count (n : Fin 32) (j : Fin 128) (f : Fin 4096 → ℝ) (hf : ∀ u, ¬ reads (tm n j) u → f u = 0) :
    ∑ u, f u = ∑ c, if vis n j c then f (keyT n c) else 0 := by
  have e1 : ∀ c : Fin 128, (if vis n j (hi c) then f (keyT n (hi c)) else 0) = f (tm n c) := fun c => by
    rw [keyT_hi]
    by_cases h : vis n j (hi c)
    · rw [if_pos h]
    · rw [if_neg h, hf _ fun hr => h ((vis_hi n j c).mpr ((reads_own n j c).mp hr))]
  rw [sum_halves, Finset.sum_congr rfl fun c _ => e1 c, ← blk_sum n f]
  by_cases h4 : 4 ≤ n.val
  · have e2 : ∀ c : Fin 128, (if vis n j (lo c) then f (keyT n (lo c)) else 0) = f (tm (pb n) c) := fun c => by
      rw [keyT_lo]
      by_cases h : vis n j (lo c)
      · rw [if_pos h]
      · rw [if_neg h, hf _ fun hr => h ((vis_lo n j c).mpr ⟨h4, (reads_prev n h4 j c).mp hr⟩)]
    rw [Finset.sum_congr rfl fun c _ => e2 c, ← blk_sum (pb n) f, ← Finset.sum_add_distrib]
    refine Finset.sum_congr rfl fun u _ => ?_
    have e : (pb n).val = n.val - 4 := if_neg (by omega)
    rw [e]
    by_cases h1 : bk u = n.val
    · rw [if_neg (by omega), if_pos h1, zero_add]
    · by_cases h2 : bk u = n.val - 4
      · rw [if_pos h2, if_neg h1, add_zero]
      · rw [if_neg h2, if_neg h1, add_zero]
        refine hf u fun hr => ?_
        rcases reads_bk _ _ hr with h | h <;> rw [bk_tm] at h <;> omega
  · have e2 : ∀ c : Fin 128, (if vis n j (lo c) then f (keyT n (lo c)) else 0) = 0 := fun c =>
      if_neg fun h => h4 ((vis_lo n j c).mp h).1
    rw [Finset.sum_congr rfl fun c _ => e2 c, Finset.sum_const_zero, zero_add]
    refine Finset.sum_congr rfl fun u _ => ?_
    by_cases h1 : bk u = n.val
    · rw [if_pos h1]
    · rw [if_neg h1]
      refine hf u fun hr => ?_
      rcases reads_bk _ _ hr with h | h <;> rw [bk_tm] at h <;> omega

/-- A key's sum over the queries that read it, by its own block's and the next block's queries. -/
theorem col_count (n : Fin 32) (c : Fin 128) (g : Fin 4096 → ℝ) (hg : ∀ t, ¬ reads t (tm n c) → g t = 0) :
    ∑ t, g t = (∑ j, if vis n j (hi c) then g (tm n j) else 0)
      + (if h : n.val < 28 then ∑ j, (if vis (nb n h) j (lo c) then g (tm (nb n h) j) else 0) else 0) := by
  have e1 : ∀ j : Fin 128, (if vis n j (hi c) then g (tm n j) else 0) = g (tm n j) := fun j => by
    by_cases h : vis n j (hi c)
    · rw [if_pos h]
    · rw [if_neg h, hg _ fun hr => h ((vis_hi n j c).mpr ((reads_own n j c).mp hr))]
  rw [Finset.sum_congr rfl fun c _ => e1 c, ← blk_sum n g]
  by_cases h28 : n.val < 28
  · have hp : pb (nb n h28) = n := Fin.ext (by
      show (if n.val + 4 < 4 then n.val + 4 else n.val + 4 - 4) = n.val
      rw [if_neg (by omega)]; omega)
    have e2 : ∀ j : Fin 128, (if vis (nb n h28) j (lo c) then g (tm (nb n h28) j) else 0) = g (tm (nb n h28) j) := fun j => by
      by_cases h : vis (nb n h28) j (lo c)
      · rw [if_pos h]
      · rw [if_neg h, hg _ fun hr => h ((vis_lo _ j c).mpr ⟨show 4 ≤ n.val + 4 by omega, (reads_prev (nb n h28) (show 4 ≤ n.val + 4 by omega) j c).mp (by rw [hp]; exact hr)⟩)]
    rw [dif_pos h28, Finset.sum_congr rfl fun c _ => e2 c, ← blk_sum (nb n h28) g, ← Finset.sum_add_distrib]
    refine Finset.sum_congr rfl fun u _ => ?_
    have e : (nb n h28).val = n.val + 4 := rfl
    rw [e]
    by_cases h1 : bk u = n.val
    · rw [if_pos h1, if_neg (by omega), add_zero]
    · by_cases h2 : bk u = n.val + 4
      · rw [if_pos h2, if_neg h1, zero_add]
      · rw [if_neg h2, if_neg h1, add_zero]
        refine hg u fun hr => ?_
        rcases reads_bk _ _ hr with h | h <;> rw [bk_tm] at h <;> omega
  · rw [dif_neg h28, add_zero]
    refine Finset.sum_congr rfl fun u _ => ?_
    by_cases h1 : bk u = n.val
    · rw [if_pos h1]
    · rw [if_neg h1]
      refine hg u fun hr => ?_
      have : u.val < 4096 := u.isLt
      have hb : bk u < 32 := by unfold bk; omega
      rcases reads_bk _ _ hr with h | h <;> rw [bk_tm] at h <;> omega

/-- Lane `64 a + e` and row `128 a + j`. -/
def la (a : Fin 2) (e : Fin 64) : Fin 128 := ⟨a.val * 64 + e.val, by omega⟩
def ra (a : Fin 2) (j : Fin 128) : Fin 256 := ⟨a.val * 128 + j.val, by omega⟩

theorem lane_sum (a : Fin 2) (f : Fin 128 → ℝ) : (∑ l : Fin 128, if l.val / 64 = a.val then f l else 0) = ∑ e, f (la a e) := by
  rw [← Finset.sum_filter]
  exact Finset.sum_nbij' (fun l => ⟨l.val % 64, by omega⟩) (la a) (fun _ _ => Finset.mem_univ _)
    (fun e _ => Finset.mem_filter.mpr ⟨Finset.mem_univ _, by show (a.val * 64 + e.val) / 64 = a.val; omega⟩)
    (fun l hl => Fin.ext (by have := (Finset.mem_filter.mp hl).2; show a.val * 64 + l.val % 64 = l.val; omega))
    (fun e _ => Fin.ext (by show (a.val * 64 + e.val) % 64 = e.val; omega))
    (fun l hl => congrArg f (Fin.ext (by have := (Finset.mem_filter.mp hl).2; show l.val = a.val * 64 + l.val % 64; omega)))

theorem rows_sum (a : Fin 2) (f : Fin 256 → ℝ) : (∑ r : Fin 256, if r.val / 128 = a.val then f r else 0) = ∑ j, f (ra a j) := by
  rw [← Finset.sum_filter]
  exact Finset.sum_nbij' (fun r => ⟨r.val % 128, by omega⟩) (ra a) (fun _ _ => Finset.mem_univ _)
    (fun j _ => Finset.mem_filter.mpr ⟨Finset.mem_univ _, by show (a.val * 128 + j.val) / 128 = a.val; omega⟩)
    (fun r hr => Fin.ext (by have := (Finset.mem_filter.mp hr).2; show a.val * 128 + r.val % 128 = r.val; omega))
    (fun j _ => Fin.ext (by show (a.val * 128 + j.val) % 128 = j.val; omega))
    (fun r hr => congrArg f (Fin.ext (by have := (Finset.mem_filter.mp hr).2; show r.val = a.val * 128 + r.val % 128; omega)))

end Cert.Dil

end
-- ==== Proof.Tile.lean ====
module

public import proofs.«01_k».proof.Proof.Count
public import proofs.«01_k».proof.Proof.Arith
public import proofs.«01_k».proof.Proof.Acc
public import Idealize.ShloMosaic.Lib.ValueIdx
public import Idealize.ShloMosaic.Lib.WordCmp

@[expose] public section

set_option maxRecDepth 16384

noncomputable section

namespace Cert.Dil

open Cert.KernelIdeal Cert.KernelIdeal.Gen Cert.KernelIdeal.Dil Idealize.ShloMosaic Idealize.ShloMosaic.ValueIdx Idealize.ShloMosaic.WordCmp

/-! # One block of the kernel on finite values

A block stacks the rows of its two heads, each with the other head's lanes cleared, so that one product serves both. -/

/-- The place in its block of a stacked row. -/
def rj (r : Fin 256) : Fin 128 := ⟨r.val % 128, by omega⟩
/-- The head of a stacked row, and the head and the place in it of a lane, in the pair `p`. -/
def hr (p : Fin 2) (r : Fin 256) : Fin 4 := ⟨2 * p.val + r.val / 128, by omega⟩
def hl (p : Fin 2) (e : Fin 128) : Fin 4 := ⟨2 * p.val + e.val / 64, by omega⟩
def le (e : Fin 128) : Fin 64 := ⟨e.val % 64, by omega⟩
/-- The half of a stacked row, and of a lane. -/
def ar (r : Fin 256) : Fin 2 := ⟨r.val / 128, by omega⟩
def al (e : Fin 128) : Fin 2 := ⟨e.val / 64, by omega⟩

theorem hl_la (p : Fin 2) (r : Fin 256) (e : Fin 64) : hl p (la (ar r) e) = hr p r :=
  Fin.ext (by show 2 * p.val + (r.val / 128 * 64 + e.val) / 64 = 2 * p.val + r.val / 128; omega)
theorem le_la (a : Fin 2) (e : Fin 64) : le (la a e) = e := Fin.ext (by show (a.val * 64 + e.val) % 64 = e.val; omega)
theorem hr_ra (p : Fin 2) (e : Fin 128) (j : Fin 128) : hr p (ra (al e) j) = hl p e :=
  Fin.ext (by show 2 * p.val + (e.val / 64 * 128 + j.val) / 128 = 2 * p.val + e.val / 64; omega)
theorem rj_ra (a : Fin 2) (j : Fin 128) : rj (ra a j) = j := Fin.ext (by show (a.val * 128 + j.val) % 128 = j.val; omega)

theorem half_dot (r : Fin 256) (f : Fin 128 → ℝ) : (∑ e : Fin 128, if e.val / 64 = r.val / 128 then f e else 0) = ∑ e, f (la (ar r) e) := lane_sum (ar r) f
theorem half_rows (e : Fin 128) (f : Fin 256 → ℝ) : (∑ r : Fin 256, if e.val / 64 = r.val / 128 then f r else 0) = ∑ j, f (ra (al e) j) := by
  rw [← rows_sum (al e) f]
  exact Finset.sum_congr rfl fun r _ => if_congr ⟨Eq.symm, Eq.symm⟩ rfl rfl

/-! ## The layout operations -/

theorem stack {α : Type} (x y : S128x128.Idx → α) (h : Shape.Concatenates [S128x128, S128x128] S256x128 0) (r : Fin 256) (e : Fin 128) :
    concatenate S256x128 0 [⟨S128x128, x⟩, ⟨S128x128, y⟩] h (ix2 r e) = if r.val < 128 then x (ix2 (rj r) e) else y (ix2 (rj r) e) := by
  by_cases hlt : r.val < 128
  · rw [if_pos hlt]
    exact concatenate_pair_apply_left 0 x y h (ix2 r e) rfl (ix2 (rj r) e) fun b => match b with
      | ⟨0, _⟩ => by show r.val % 128 = r.val; omega
      | ⟨1, _⟩ => rfl
  · rw [if_neg hlt]
    exact concatenate_pair_apply_right 0 x y h (ix2 r e) rfl rfl (ix2 (rj r) e) (fun b hb => match b, hb with
      | ⟨0, _⟩, hb => absurd rfl hb
      | ⟨1, _⟩, hb => rfl) (by show r.val % 128 + 128 = r.val; have := r.isLt; omega)

theorem half0 (j e : Fin 128) : k0_pay1 (ix2 j e) = 1#1 ↔ e.val < 64 := by
  unfold k0_pay1
  show IntOp.cmpi .slt (iota .tc S128x128 32 [1] iota_S128x128_d1_w32 (ix2 j e)) (BitVec.ofNat 32 64) = 1#1 ↔ _
  rw [iota_single_apply]
  exact cmpi_slt_ofNat_eq_one_iff (by show e.val < 2 ^ 31; have := e.isLt; omega) (by decide)

theorem half1 (j e : Fin 128) : k0_pay2 (ix2 j e) = 1#1 ↔ 64 ≤ e.val := by
  unfold k0_pay2
  show IntOp.cmpi .sge (iota .tc S128x128 32 [1] iota_S128x128_d1_w32 (ix2 j e)) (BitVec.ofNat 32 64) = 1#1 ↔ _
  rw [iota_single_apply]
  exact cmpi_sge_ofNat_eq_one_iff (by show e.val < 2 ^ 31; have := e.isLt; omega) (by decide)

theorem half_mask (r : Fin 256) (e : Fin 128) : k0_pay3 (ix2 r e) = 1#1 ↔ e.val / 64 = r.val / 128 := by
  unfold k0_pay3
  show concatenate S256x128 0 [⟨S128x128, k0_pay1⟩, ⟨S128x128, k0_pay2⟩] _ (ix2 r e) = 1#1 ↔ _
  rw [stack]
  split
  · rw [half0]; omega
  · rw [half1]; omega

/-- The stack of an array's two halves of lanes. -/
theorem selstack (x : S128x128.Idx → EReal) (z : EReal) (h : Shape.Concatenates [S128x128, S128x128] S256x128 0) (r : Fin 256) (e : Fin 128) :
    concatenate S256x128 0 [⟨S128x128, select k0_pay1 x (broadcast S128x128 z)⟩, ⟨S128x128, select k0_pay2 x (broadcast S128x128 z)⟩] h (ix2 r e)
      = if e.val / 64 = r.val / 128 then x (ix2 (rj r) e) else z := by
  rw [stack]
  split
  · show (if k0_pay1 (ix2 (rj r) e) = 1#1 then _ else _) = _
    exact if_congr ((half0 _ _).trans (by omega)) rfl rfl
  · show (if k0_pay2 (ix2 (rj r) e) = 1#1 then _ else _) = _
    exact if_congr ((half1 _ _).trans (by omega)) rfl rfl

/-! ## The three products -/

theorem nt_sum (X Y : FVec Ideal S256x128 .bf16) (x y : Fin 256 → Fin 128 → ℝ) (hx : ∀ r e, X (ix2 r e) = ((x r e : ℝ) : EReal))
    (hy : ∀ r e, Y (ix2 r e) = ((y r e : ℝ) : EReal)) (r c : Fin 256) :
    matmul dot_S256x128_S256x128_S256x256_1_1_0_0_n_n none X Y (constant S256x256 .f32 0x00000000#32) (ix2 r c) = ((∑ e, x r e * y c e : ℝ) : EReal) := by
  refine (Ideal.matmul_constant_zero_apply _ none X Y (ix2 r c)).trans ?_
  rw [← Equiv.sum_comp (contrEquiv1 dot_S256x128_S256x128_S256x256_1_1_0_0_n_n 128 rfl rfl).symm]
  refine dot_r _ _ (fun e => x r e) (fun e => y c e) (fun k => ?_) (fun k => ?_)
  · rw [← hx]
    refine congrArg X (funext fun a => Fin.ext ?_)
    match a with
    | ⟨0, _⟩ => rfl
    | ⟨1, _⟩ => exact contrEquiv1_symm_val dot_S256x128_S256x128_S256x256_1_1_0_0_n_n 128 rfl rfl k
  · rw [← hy]
    refine congrArg Y (funext fun a => Fin.ext ?_)
    match a with
    | ⟨0, _⟩ => rfl
    | ⟨1, _⟩ => exact contrEquiv1_symm_val dot_S256x128_S256x128_S256x256_1_1_0_0_n_n 128 rfl rfl k

theorem nn_sum (X : FVec Ideal S256x256 .bf16) (Y : FVec Ideal S256x128 .bf16) (x : Fin 256 → Fin 256 → ℝ) (y : Fin 256 → Fin 128 → ℝ)
    (hx : ∀ r e, X (ix2 r e) = ((x r e : ℝ) : EReal)) (hy : ∀ r e, Y (ix2 r e) = ((y r e : ℝ) : EReal)) (r : Fin 256) (e : Fin 128) :
    matmul dot_S256x256_S256x128_S256x128_1_0_0_1_n_n none X Y (constant S256x128 .f32 0x00000000#32) (ix2 r e) = ((∑ c, x r c * y c e : ℝ) : EReal) := by
  refine (Ideal.matmul_constant_zero_apply _ none X Y (ix2 r e)).trans ?_
  rw [← Equiv.sum_comp (contrEquiv1 dot_S256x256_S256x128_S256x128_1_0_0_1_n_n 256 rfl rfl).symm]
  refine dot_r _ _ (fun c => x r c) (fun c => y c e) (fun k => ?_) (fun k => ?_)
  · rw [← hx]
    refine congrArg X (funext fun a => Fin.ext ?_)
    match a with
    | ⟨0, _⟩ => rfl
    | ⟨1, _⟩ => exact contrEquiv1_symm_val dot_S256x256_S256x128_S256x128_1_0_0_1_n_n 256 rfl rfl k
  · rw [← hy]
    refine congrArg Y (funext fun a => Fin.ext ?_)
    match a with
    | ⟨0, _⟩ => exact contrEquiv1_symm_val dot_S256x256_S256x128_S256x128_1_0_0_1_n_n 256 rfl rfl k
    | ⟨1, _⟩ => rfl

theorem tn_sum (X : FVec Ideal S256x256 .bf16) (Y : FVec Ideal S256x128 .bf16) (x : Fin 256 → Fin 256 → ℝ) (y : Fin 256 → Fin 128 → ℝ)
    (hx : ∀ r e, X (ix2 r e) = ((x r e : ℝ) : EReal)) (hy : ∀ r e, Y (ix2 r e) = ((y r e : ℝ) : EReal)) (c : Fin 256) (e : Fin 128) :
    matmul dot_S256x256_S256x128_S256x128_0_0_1_1_n_n none X Y (constant S256x128 .f32 0x00000000#32) (ix2 c e) = ((∑ r, x r c * y r e : ℝ) : EReal) := by
  refine (Ideal.matmul_constant_zero_apply _ none X Y (ix2 c e)).trans ?_
  rw [← Equiv.sum_comp (contrEquiv1 dot_S256x256_S256x128_S256x128_0_0_1_1_n_n 256 rfl rfl).symm]
  refine dot_r _ _ (fun r => x r c) (fun r => y r e) (fun k => ?_) (fun k => ?_)
  · rw [← hx]
    refine congrArg X (funext fun a => Fin.ext ?_)
    match a with
    | ⟨0, _⟩ => exact contrEquiv1_symm_val dot_S256x256_S256x128_S256x128_0_0_1_1_n_n 256 rfl rfl k
    | ⟨1, _⟩ => rfl
  · rw [← hy]
    refine congrArg Y (funext fun a => Fin.ext ?_)
    match a with
    | ⟨0, _⟩ => exact contrEquiv1_symm_val dot_S256x256_S256x128_S256x128_0_0_1_1_n_n 256 rfl rfl k
    | ⟨1, _⟩ => rfl

/-! ## The mask -/

theorem and_one (x y : BitVec 1) : IntOp.andi x y = 1#1 ↔ x = 1#1 ∧ y = 1#1 := by revert x y; decide
theorem or_one (x y : BitVec 1) : IntOp.ori x y = 1#1 ↔ x = 1#1 ∨ y = 1#1 := by revert x y; decide
theorem low7 : ∀ r : Fin 256, IntOp.andi (BitVec.ofNat 32 r.val) 127#32 = BitVec.ofNat 32 (r.val % 128) := by decide +kernel
theorem first : ∀ n : Fin 32, Scalar.select (Scalar.cmpi .sgt (BitVec.ofNat 32 (n.val / 4)) 0#32) 0#32 128#32 = BitVec.ofNat 32 (if 4 ≤ n.val then 0 else 128) := by decide +kernel

theorem mask_vis (n : Fin 32) (r c : Fin 256) : k0_pay26 (BitVec.ofNat 32 (n.val / 4)) (ix2 r c) = 1#1 ↔ vis n (rj r) c := by
  have hc := c.isLt
  have hr := r.isLt
  unfold k0_pay26
  show IntOp.ori (IntOp.andi (IntOp.cmpi .slt (iota .tc S256x256 32 [1] iota_S256x256_d1_w32 (ix2 r c)) (BitVec.ofNat 32 128))
      (IntOp.cmpi .sge (iota .tc S256x256 32 [1] iota_S256x256_d1_w32 (ix2 r c))
        (IntOp.addi (IntOp.andi (iota .tc S256x256 32 [0] iota_S256x256_d0_w32 (ix2 r c)) 127#32)
          (Scalar.select (Scalar.cmpi .sgt (BitVec.ofNat 32 (n.val / 4)) 0#32) 0#32 128#32))))
    (IntOp.andi (IntOp.cmpi .sge (iota .tc S256x256 32 [1] iota_S256x256_d1_w32 (ix2 r c)) (BitVec.ofNat 32 128))
      (IntOp.cmpi .sle (IntOp.subi (iota .tc S256x256 32 [1] iota_S256x256_d1_w32 (ix2 r c)) (BitVec.ofNat 32 128))
        (IntOp.andi (iota .tc S256x256 32 [0] iota_S256x256_d0_w32 (ix2 r c)) 127#32))) = 1#1 ↔ _
  rw [iota_single_apply, iota_single_apply]
  show IntOp.ori (IntOp.andi (IntOp.cmpi .slt (BitVec.ofNat 32 c.val) (BitVec.ofNat 32 128))
      (IntOp.cmpi .sge (BitVec.ofNat 32 c.val)
        (IntOp.addi (IntOp.andi (BitVec.ofNat 32 r.val) 127#32)
          (Scalar.select (Scalar.cmpi .sgt (BitVec.ofNat 32 (n.val / 4)) 0#32) 0#32 128#32))))
    (IntOp.andi (IntOp.cmpi .sge (BitVec.ofNat 32 c.val) (BitVec.ofNat 32 128))
      (IntOp.cmpi .sle (IntOp.subi (BitVec.ofNat 32 c.val) (BitVec.ofNat 32 128))
        (IntOp.andi (BitVec.ofNat 32 r.val) 127#32))) = 1#1 ↔ _
  have ha : IntOp.addi (BitVec.ofNat 32 (r.val % 128)) (BitVec.ofNat 32 (if 4 ≤ n.val then 0 else 128)) = BitVec.ofNat 32 (r.val % 128 + if 4 ≤ n.val then 0 else 128) :=
    (BitVec.ofNat_add _ _).symm
  have hb : (if 4 ≤ n.val then 0 else 128) ≤ 128 := by split <;> omega
  have c1 := cmpi_slt_ofNat_eq_one_iff (w := 32) (a := c.val) (b := 128) (by show c.val < 2 ^ 31; omega) (by decide)
  have c2 := cmpi_sge_ofNat_eq_one_iff (w := 32) (a := c.val) (b := 128) (by show c.val < 2 ^ 31; omega) (by decide)
  have c3 := cmpi_sge_ofNat_eq_one_iff (w := 32) (a := c.val) (b := r.val % 128 + if 4 ≤ n.val then 0 else 128) (by show c.val < 2 ^ 31; omega)
    (by show (r.val % 128 + if 4 ≤ n.val then 0 else 128) < 2 ^ 31; omega)
  rw [low7, first, ha, or_one, and_one, and_one, c1, c2, c3]
  show _ ↔ (c.val < 128 ∧ 4 ≤ n.val ∧ r.val % 128 ≤ c.val) ∨ (128 ≤ c.val ∧ c.val - 128 ≤ r.val % 128)
  refine or_congr ?_ (and_congr_right fun h => ?_)
  · split <;> omega
  · have hs : IntOp.subi (BitVec.ofNat 32 c.val) (BitVec.ofNat 32 128) = BitVec.ofNat 32 (c.val - 128) := by
      apply BitVec.eq_of_toNat_eq
      show (BitVec.ofNat 32 c.val - BitVec.ofNat 32 128).toNat = _
      simp only [BitVec.toNat_sub, BitVec.toNat_ofNat]
      omega
    rw [hs]
    exact cmpi_sle_ofNat_eq_one_iff (by show c.val - 128 < 2 ^ 31; omega) (by show r.val % 128 < 2 ^ 31; omega)

/-! ## Reductions along the lanes -/

theorem col_cast (x : FVec Ideal S256 .f32) (r c : Fin 256) :
    broadcastTo S256x256 (shapeCast S256x1 x shapeCasts_S256_S256x1) broadcasts_S256x1_S256x256 (ix2 r c) = x (ix1 r) := by
  rw [broadcastTo_apply _ broadcasts_S256x1_S256x256 (ix2 r c) (ix2 r (0 : Fin 1)) fun a => match a with
    | ⟨0, _⟩ => by show r.val = if (256 : ℕ) = 1 then 0 else r.val; rw [if_neg (by decide)]
    | ⟨1, _⟩ => by show 0 = if (1 : ℕ) = 1 then 0 else c.val; rw [if_pos rfl]]
  refine shapeCast_apply x _ _ (ix1 r) ?_
  rw [Shape.rowMajor_val_two, Shape.rowMajor_val_one]
  show r.val = r.val * 1 + 0
  omega

theorem lift_row (r : Fin 256) (e : Fin 128) : reduces_S256x128_S256.lift (ix1 r) e = ix2 r e :=
  funext fun a => Fin.ext (match a with
    | ⟨0, _⟩ => rfl
    | ⟨1, _⟩ => rfl)

theorem fold_pick (f : Fin 128 → EReal) (b v : EReal) (hb : b = ⊥) (hf : ∀ e, f e = v ∨ f e = ⊥) (e : Fin 128) (he : f e = v) :
    (Finset.univ : Finset (Fin 128)).fold max b f = v := by
  subst hb
  refine le_antisymm ((Finset.fold_max_le _).mpr ⟨bot_le, fun x _ => ?_⟩) ((Finset.le_fold_max _).mpr (Or.inr ⟨e, Finset.mem_univ _, he.ge⟩))
  rcases hf x with h | h <;> rw [h]
  exact bot_le

end Cert.Dil

end
-- ==== Proof.Block.lean ====
module

public import proofs.«01_k».proof.Proof.Tile

@[expose] public section

set_option maxRecDepth 16384

noncomputable section

namespace Cert.Dil

open Cert.KernelIdeal Cert.KernelIdeal.Gen Cert.KernelIdeal.Dil Idealize.ShloMosaic Idealize.ShloMosaic.ValueIdx

/-! # What one block of the kernel computes -/

/-- The arrays that block `n` of the head pair `p` reads, as numbers. -/
structure Tile (A : Arr) (p : Fin 2) (n : Fin 32) (q kp ko vp vo dO o l : S128x128.Idx → EReal) : Prop where
  q : ∀ j e, q (ix2 j e) = ((A.q (hl p e) (tm n j) (le e) : ℝ) : EReal)
  kp : ∀ j e, kp (ix2 j e) = ((A.k (hl p e) (tm (pb n) j) (le e) : ℝ) : EReal)
  ko : ∀ j e, ko (ix2 j e) = ((A.k (hl p e) (tm n j) (le e) : ℝ) : EReal)
  vp : ∀ j e, vp (ix2 j e) = ((A.v (hl p e) (tm (pb n) j) (le e) : ℝ) : EReal)
  vo : ∀ j e, vo (ix2 j e) = ((A.v (hl p e) (tm n j) (le e) : ℝ) : EReal)
  dO : ∀ j e, dO (ix2 j e) = ((A.dO (hl p e) (tm n j) (le e) : ℝ) : EReal)
  o : ∀ j e, o (ix2 j e) = ((A.odil (hl p e) (tm n j) (le e) : ℝ) : EReal)
  l : ∀ j e, l (ix2 j e) = ((A.L (hl p e) (tm n j) : ℝ) : EReal)

theorem keyT_prev (n : Fin 32) (c : Fin 256) (h : c.val < 128) : keyT n c = tm (pb n) (rj c) := by
  unfold keyT
  rw [dif_pos h]
  exact congrArg _ (Fin.ext (show c.val = c.val % 128 by omega))
theorem keyT_own (n : Fin 32) (c : Fin 256) (h : ¬ c.val < 128) : keyT n c = tm n (rj c) := by
  unfold keyT
  rw [dif_neg h]
  exact congrArg _ (Fin.ext (show c.val - 128 = c.val % 128 by have := c.isLt; omega))

section Vals

variable {A : Arr} {p : Fin 2} {n : Fin 32} {q kp ko vp vo dO o l : FVec Ideal S128x128 .f32} (T : Tile A p n q kp ko vp vo dO o l)

/-- The stacked queries, scaled; the keys and values; the stacked output gradient. -/
def qR (A : Arr) (p : Fin 2) (n : Fin 32) (r : Fin 256) (e : Fin 128) : ℝ := if e.val / 64 = r.val / 128 then A.q (hl p e) (tm n (rj r)) (le e) * (1 / 8) else 0
def kR (A : Arr) (p : Fin 2) (n : Fin 32) (c : Fin 256) (e : Fin 128) : ℝ := A.k (hl p e) (keyT n c) (le e)
def vR (A : Arr) (p : Fin 2) (n : Fin 32) (c : Fin 256) (e : Fin 128) : ℝ := A.v (hl p e) (keyT n c) (le e)
def dR (A : Arr) (p : Fin 2) (n : Fin 32) (r : Fin 256) (e : Fin 128) : ℝ := if e.val / 64 = r.val / 128 then A.dO (hl p e) (tm n (rj r)) (le e) else 0

include T

theorem q_val (r : Fin 256) (e : Fin 128) : k0_pay8 (F := Ideal) k0_pay1 k0_pay2 q (ix2 r e) = ((qR A p n r e : ℝ) : EReal) := by
  unfold k0_pay8 qR
  refine (selstack (mulf q (broadcast S128x128 (Scalar.ofBits .f32 0x3E000000#32))) (Scalar.ofBits (F := Ideal) .f32 0x00000000#32) concatenates_S128x128_S128x128_S256x128_d0 r e).trans ?_
  split
  · show FloatOps.mulf (q (ix2 (rj r) e)) (FloatOps.ofBits .f32 0x3E000000#32) = _
    rw [T.q, c_eighth, mul_r]
  · exact c_zero

theorem k_val (c : Fin 256) (e : Fin 128) : k0_pay10 (F := Ideal) kp ko (ix2 c e) = ((kR A p n c e : ℝ) : EReal) := by
  unfold k0_pay10 kR
  refine (stack kp ko concatenates_S128x128_S128x128_S256x128_d0 c e).trans ?_
  split
  · rename_i h
    rw [T.kp, keyT_prev n c h]
  · rename_i h
    rw [T.ko, keyT_own n c h]

theorem v_val (c : Fin 256) (e : Fin 128) : k0_pay12 (F := Ideal) vp vo (ix2 c e) = ((vR A p n c e : ℝ) : EReal) := by
  unfold k0_pay12 vR
  refine (stack vp vo concatenates_S128x128_S128x128_S256x128_d0 c e).trans ?_
  split
  · rename_i h
    rw [T.vp, keyT_prev n c h]
  · rename_i h
    rw [T.vo, keyT_own n c h]

theorem dO_val (r : Fin 256) (e : Fin 128) : k0_pay14 (F := Ideal) k0_pay1 k0_pay2 dO (ix2 r e) = ((dR A p n r e : ℝ) : EReal) := by
  unfold k0_pay14 dR
  refine (selstack dO (Scalar.ofBits (F := Ideal) .f32 0x00000000#32) concatenates_S128x128_S128x128_S256x128_d0 r e).trans ?_
  split
  · rw [T.dO]
  · exact c_zero

theorem s_val (r c : Fin 256) :
    k0_pay22 (F := Ideal) (k0_pay8 (F := Ideal) k0_pay1 k0_pay2 q) (k0_pay10 (F := Ideal) kp ko) (ix2 r c) = ((A.s (hr p r) (tm n (rj r)) (keyT n c) : ℝ) : EReal) := by
  unfold k0_pay22
  refine (nt_sum _ _ (qR A p n) (kR A p n) (q_val T) (k_val T) r c).trans (congrArg _ ?_)
  have : ∀ e, qR A p n r e * kR A p n c e = if e.val / 64 = r.val / 128 then A.q (hl p e) (tm n (rj r)) (le e) * (1 / 8) * A.k (hl p e) (keyT n c) (le e) else 0 := fun e => by
    unfold qR kR; split
    · rfl
    · rw [zero_mul]
  rw [Finset.sum_congr rfl fun e _ => this e, half_dot r fun e => A.q (hl p e) (tm n (rj r)) (le e) * (1 / 8) * A.k (hl p e) (keyT n c) (le e)]
  unfold Arr.s
  rw [Finset.sum_mul]
  refine Finset.sum_congr rfl fun e _ => ?_
  rw [hl_la, le_la]
  ring

theorem dv_val (r c : Fin 256) :
    k0_pay24 (F := Ideal) (k0_pay12 (F := Ideal) vp vo) (k0_pay16 (F := Ideal) k0_pay1 k0_pay2 dO) (ix2 r c) = ((∑ e, A.dO (hr p r) (tm n (rj r)) e * A.v (hr p r) (keyT n c) e : ℝ) : EReal) := by
  unfold k0_pay24
  refine (nt_sum _ _ (dR A p n) (vR A p n) (dO_val T) (v_val T) r c).trans (congrArg _ ?_)
  have : ∀ e, dR A p n r e * vR A p n c e = if e.val / 64 = r.val / 128 then A.dO (hl p e) (tm n (rj r)) (le e) * A.v (hl p e) (keyT n c) (le e) else 0 := fun e => by
    unfold dR vR; split
    · rfl
    · rw [zero_mul]
  rw [Finset.sum_congr rfl fun e _ => this e, half_dot r fun e => A.dO (hl p e) (tm n (rj r)) (le e) * A.v (hl p e) (keyT n c) (le e)]
  refine Finset.sum_congr rfl fun e _ => ?_
  rw [hl_la, le_la]

theorem delta_val (r c : Fin 256) :
    broadcastTo S256x256 (k0_pay18 (F := Ideal) k0_pay1 k0_pay2 dO o) broadcasts_S256x1_S256x256 (ix2 r c) = ((A.delta (hr p r) (tm n (rj r)) : ℝ) : EReal) := by
  unfold k0_pay18
  refine (col_cast _ r c).trans ?_
  refine (Ideal.multiReduction_add_single _ _ reduces_S256x128_S256 _ _ (ix1 r)).trans ?_
  have hk : ∀ e : Fin 128, mulf (k0_pay14 (F := Ideal) k0_pay1 k0_pay2 dO)
      (concatenate S256x128 0 [⟨S128x128, shapeCast S128x128 o shapeCasts_S128x128_S128x128⟩, ⟨S128x128, shapeCast S128x128 o shapeCasts_S128x128_S128x128⟩] concatenates_S128x128_S128x128_S256x128_d0)
      (reduces_S256x128_S256.lift (ix1 r) e)
      = (((if e.val / 64 = r.val / 128 then A.dO (hl p e) (tm n (rj r)) (le e) * A.odil (hl p e) (tm n (rj r)) (le e) else 0 : ℝ)) : EReal) := fun e => by
    rw [lift_row]
    show FloatOps.mulf (k0_pay14 (F := Ideal) k0_pay1 k0_pay2 dO (ix2 r e)) _ = _
    rw [shapeCast_self, dO_val T, stack, ite_self, T.o, mul_r]
    unfold dR
    split
    · rfl
    · rw [zero_mul]
  refine (sum_r _ _ hk).trans (congrArg _ ?_)
  rw [half_dot r fun e => A.dO (hl p e) (tm n (rj r)) (le e) * A.odil (hl p e) (tm n (rj r)) (le e)]
  unfold Arr.delta
  refine Finset.sum_congr rfl fun e _ => ?_
  rw [hl_la, le_la]

theorem L_val (r c : Fin 256) : k0_pay27 (F := Ideal) k0_pay3 l (ix2 r c) = ((A.L (hr p r) (tm n (rj r)) : ℝ) : EReal) := by
  unfold k0_pay27
  refine (col_cast _ r c).trans ?_
  refine (Ideal.multiReduction_maximumf_single _ _ reduces_S256x128_S256 _ _ (ix1 r)).trans ?_
  have hm : Named.named (F := Ideal) (φ := .f32) κ "mask" 0xF149F2CA#32 = (⊥ : EReal) := IdealRules.named_const.ideal_named_scalar (φ := .f32) κ "mask" 0xF149F2CA#32 ⊥ (by unfold κ; rfl)
  have hk : ∀ e : Fin 128, select k0_pay3
      (concatenate S256x128 0 [⟨S128x128, shapeCast S128x128 l shapeCasts_S128x128_S128x128⟩, ⟨S128x128, shapeCast S128x128 l shapeCasts_S128x128_S128x128⟩] concatenates_S128x128_S128x128_S256x128_d0)
      (broadcast S256x128 (Named.named (F := Ideal) (φ := .f32) κ "mask" 0xF149F2CA#32)) (reduces_S256x128_S256.lift (ix1 r) e)
      = if e.val / 64 = r.val / 128 then ((A.L (hr p r) (tm n (rj r)) : ℝ) : EReal) else ⊥ := fun e => by
    rw [lift_row, hm]
    show (if k0_pay3 (ix2 r e) = 1#1 then _ else _) = _
    refine (if_congr (half_mask r e) rfl rfl).trans ?_
    split
    · rename_i h
      rw [shapeCast_self, stack, ite_self, T.l]
      have : hl p e = hr p r := Fin.ext (by show 2 * p.val + e.val / 64 = 2 * p.val + r.val / 128; rw [h])
      rw [this]
    · rfl
  refine fold_pick _ _ _ c_bot (fun e => ?_) (la (ar r) 0) ?_
  · refine (em (e.val / 64 = r.val / 128)).imp (fun h => (hk e).trans (if_pos h)) fun h => (hk e).trans (if_neg h)
  · exact (hk _).trans (if_pos (by show (r.val / 128 * 64 + 0) / 64 = r.val / 128; omega))

theorem P_val (r c : Fin 256) : pB (F := Ideal) (BitVec.ofNat 32 (n.val / 4)) q kp ko l (ix2 r c)
    = ((if vis n (rj r) c then A.P (hr p r) (tm n (rj r)) (keyT n c) else 0 : ℝ) : EReal) := by
  unfold pB k0_pay28
  show (if k0_pay26 (BitVec.ofNat 32 (n.val / 4)) (ix2 r c) = 1#1 then
    FloatOps.exp (F := Ideal) (φ := .f32) (FloatOps.subf (k0_pay22 (F := Ideal) (k0_pay8 (F := Ideal) k0_pay1 k0_pay2 q) (k0_pay10 (F := Ideal) kp ko) (ix2 r c)) (k0_pay27 (F := Ideal) k0_pay3 l (ix2 r c)))
    else FloatOps.ofBits .f32 0x00000000#32) = _
  refine (if_congr (mask_vis n r c) rfl rfl).trans ?_
  split
  · rename_i h
    rw [s_val T, L_val T, sub_r]
    unfold Arr.P
    rw [if_pos (vis_reads n (rj r) c h)]
    exact Ideal.exp_coe _
  · exact c_zero

theorem dS_val (r c : Fin 256) : dsB (F := Ideal) (BitVec.ofNat 32 (n.val / 4)) q kp ko vp vo dO o l (ix2 r c)
    = ((if vis n (rj r) c then A.dS (hr p r) (tm n (rj r)) (keyT n c) else 0 : ℝ) : EReal) := by
  unfold dsB k0_pay30
  show FloatOps.mulf (F := Ideal) (φ := .f32) (pB (BitVec.ofNat 32 (n.val / 4)) q kp ko l (ix2 r c))
    (FloatOps.subf (k0_pay24 (F := Ideal) (k0_pay12 (F := Ideal) vp vo) (k0_pay16 (F := Ideal) k0_pay1 k0_pay2 dO) (ix2 r c))
      (broadcastTo S256x256 (k0_pay18 (F := Ideal) k0_pay1 k0_pay2 dO o) broadcasts_S256x1_S256x256 (ix2 r c))) = _
  rw [P_val T, dv_val T, delta_val T, sub_r, mul_r]
  refine congrArg _ ?_
  split
  · rfl
  · rw [zero_mul]

/-- Each query's gradient, whole in its own block. -/
theorem dq_val (j e : Fin 128) : dqB (F := Ideal) (BitVec.ofNat 32 (n.val / 4)) q kp ko vp vo dO o l (ix2 j e) = ((A.dq (hl p e) (tm n j) (le e) : ℝ) : EReal) := by
  have hm := fun r e => nn_sum _ _ (fun r c => if vis n (rj r) c then A.dS (hr p r) (tm n (rj r)) (keyT n c) else 0) (kR A p n) (dS_val T) (k_val T) r e
  unfold dqB k0_pay39
  generalize matmul dot_S256x256_S256x128_S256x128_1_0_0_1_n_n none (dsB (F := Ideal) (BitVec.ofNat 32 (n.val / 4)) q kp ko vp vo dO o l) (k0_pay10 (F := Ideal) kp ko) (constant S256x128 .f32 0x00000000#32) = M at hm ⊢
  have h0 : extractStridedSlice S128x128 ![0, 0] M slices_S256x128_o0_0_S128x128 (ix2 j e) = M (ix2 (ra 0 j) e) :=
    extractStridedSlice_apply _ _ _ _ _ fun a => match a with
      | ⟨0, _⟩ => by show 0 * 128 + j.val = 0 + j.val; omega
      | ⟨1, _⟩ => by show e.val = 0 + e.val; omega
  have h1 : extractStridedSlice S128x128 ![128, 0] M slices_S256x128_o128_0_S128x128 (ix2 j e) = M (ix2 (ra 1 j) e) :=
    extractStridedSlice_apply _ _ _ _ _ fun a => match a with
      | ⟨0, _⟩ => by show 1 * 128 + j.val = 128 + j.val; omega
      | ⟨1, _⟩ => by show e.val = 0 + e.val; omega
  show FloatOps.mulf (F := Ideal) (φ := .f32) (FloatOps.addf (if k0_pay1 (ix2 j e) = 1#1 then extractStridedSlice S128x128 ![0, 0] M slices_S256x128_o0_0_S128x128 (ix2 j e) else FloatOps.ofBits .f32 0x00000000#32)
    (if k0_pay2 (ix2 j e) = 1#1 then extractStridedSlice S128x128 ![128, 0] M slices_S256x128_o128_0_S128x128 (ix2 j e) else FloatOps.ofBits .f32 0x00000000#32)) (FloatOps.ofBits .f32 0x3E000000#32) = _
  have key : ∀ a : Fin 2, a.val = e.val / 64 → (∑ c, (if vis n (rj (ra a j)) c then A.dS (hr p (ra a j)) (tm n (rj (ra a j))) (keyT n c) else 0) * kR A p n c e) * (1 / 8) = A.dq (hl p e) (tm n j) (le e) := fun a ha => by
    have e1 : hr p (ra a j) = hl p e := Fin.ext (by show 2 * p.val + (a.val * 128 + j.val) / 128 = 2 * p.val + e.val / 64; omega)
    rw [rj_ra, e1]
    unfold Arr.dq
    rw [row_count n j (fun u => A.dS (hl p e) (tm n j) u * (1 / 8) * A.k (hl p e) u (le e)) fun u hu => by rw [A.ds0_reads _ _ _ hu]; ring, Finset.sum_mul]
    refine Finset.sum_congr rfl fun c _ => ?_
    unfold kR
    split <;> ring
  rw [h0, h1, hm, hm, c_zero, c_eighth]
  by_cases h : e.val < 64
  · rw [if_pos ((half0 j e).mpr h), if_neg (fun hh => absurd ((half1 j e).mp hh) (by omega)), add_r, mul_r, add_zero]
    exact congrArg _ (key 0 (by show 0 = e.val / 64; omega))
  · rw [if_neg (fun hh => h ((half0 j e).mp hh)), if_pos ((half1 j e).mpr (by omega)), add_r, mul_r, zero_add]
    exact congrArg _ (key 1 (by show 1 = e.val / 64; have := e.isLt; omega))

/-- A key's gradient from one block's queries. -/
theorem dk_val (c : Fin 256) (e : Fin 128) : dkB (F := Ideal) (BitVec.ofNat 32 (n.val / 4)) q kp ko vp vo dO o l (ix2 c e)
    = ((∑ j, if vis n j c then A.dS (hl p e) (tm n j) (keyT n c) * (1 / 8) * A.q (hl p e) (tm n j) (le e) else 0 : ℝ) : EReal) := by
  unfold dkB
  refine (tn_sum _ _ (fun r c => if vis n (rj r) c then A.dS (hr p r) (tm n (rj r)) (keyT n c) else 0) (qR A p n) (dS_val T) (q_val T) c e).trans (congrArg _ ?_)
  have : ∀ r, (if vis n (rj r) c then A.dS (hr p r) (tm n (rj r)) (keyT n c) else 0) * qR A p n r e
      = if e.val / 64 = r.val / 128 then (if vis n (rj r) c then A.dS (hr p r) (tm n (rj r)) (keyT n c) * (1 / 8) * A.q (hl p e) (tm n (rj r)) (le e) else 0) else 0 := fun r => by
    unfold qR
    split <;> split <;> ring
  rw [Finset.sum_congr rfl fun r _ => this r,
    half_rows e fun r => (if vis n (rj r) c then A.dS (hr p r) (tm n (rj r)) (keyT n c) * (1 / 8) * A.q (hl p e) (tm n (rj r)) (le e) else 0)]
  refine Finset.sum_congr rfl fun j _ => ?_
  rw [rj_ra, hr_ra]

/-- A value's gradient from one block's queries. -/
theorem dvv_val (c : Fin 256) (e : Fin 128) : dvB (F := Ideal) (BitVec.ofNat 32 (n.val / 4)) q kp ko dO l (ix2 c e)
    = ((∑ j, if vis n j c then A.P (hl p e) (tm n j) (keyT n c) * A.dO (hl p e) (tm n j) (le e) else 0 : ℝ) : EReal) := by
  unfold dvB
  refine (tn_sum _ _ (fun r c => if vis n (rj r) c then A.P (hr p r) (tm n (rj r)) (keyT n c) else 0) (dR A p n) (P_val T) (dO_val T) c e).trans (congrArg _ ?_)
  have : ∀ r, (if vis n (rj r) c then A.P (hr p r) (tm n (rj r)) (keyT n c) else 0) * dR A p n r e
      = if e.val / 64 = r.val / 128 then (if vis n (rj r) c then A.P (hr p r) (tm n (rj r)) (keyT n c) * A.dO (hl p e) (tm n (rj r)) (le e) else 0) else 0 := fun r => by
    unfold dR
    split <;> split <;> ring
  rw [Finset.sum_congr rfl fun r _ => this r,
    half_rows e fun r => (if vis n (rj r) c then A.P (hr p r) (tm n (rj r)) (keyT n c) * A.dO (hl p e) (tm n (rj r)) (le e) else 0)]
  refine Finset.sum_congr rfl fun j _ => ?_
  rw [rj_ra, hr_ra]

end Vals

/-- The own half of what a block adds, and the other half added. -/
theorem own_val (d : FVec Ideal S256x128 .f32) (j e : Fin 128) : ownHalf d (ix2 j e) = d (ix2 (hi j) e) :=
  extractStridedSlice_apply ![128, 0] d slices_S256x128_o128_0_S128x128 _ _ fun a => match a with
    | ⟨0, _⟩ => by show j.val + 128 = 128 + j.val; omega
    | ⟨1, _⟩ => by show e.val = 0 + e.val; omega

theorem plus_val (d : FVec Ideal S256x128 .f32) (j e : Fin 128) (v : EReal) : plusPrev (F := Ideal) d (ix2 j e) v = FloatOps.addf (F := Ideal) (φ := .f32) v (d (ix2 (lo j) e)) := by
  unfold plusPrev k0_pay42
  rw [shapeCast_self]
  refine congrArg (FloatOps.addf (F := Ideal) (φ := .f32) v) (extractStridedSlice_apply _ _ _ _ _ fun a => ?_)
  match a with
  | ⟨0, _⟩ => show j.val = 0 + j.val; omega
  | ⟨1, _⟩ => show e.val = 0 + e.val; omega

end Cert.Dil

end
-- ==== Proof.Rows.lean ====
module

public import proofs.«01_k».proof.Proof.Block

@[expose] public section

set_option maxRecDepth 16384

noncomputable section

namespace Cert.Dil

open Cert.KernelIdeal Cert.KernelIdeal.Gen Cert.KernelIdeal.Dil Idealize.ShloMosaic Idealize.ShloMosaic.ValueIdx

/-! # The kernel's three outputs, row by row -/

/-- What a head pair's six arrays hold. -/
structure Whole (A : Arr) (p : Fin 2) (x1 x2 x3 x4 x5 x6 : S4096x128.Idx → EReal) : Prop where
  q : ∀ t e, x1 (ix2 t e) = ((A.q (hl p e) t (le e) : ℝ) : EReal)
  k : ∀ t e, x2 (ix2 t e) = ((A.k (hl p e) t (le e) : ℝ) : EReal)
  v : ∀ t e, x3 (ix2 t e) = ((A.v (hl p e) t (le e) : ℝ) : EReal)
  dO : ∀ t e, x4 (ix2 t e) = ((A.dO (hl p e) t (le e) : ℝ) : EReal)
  o : ∀ t e, x5 (ix2 t e) = ((A.odil (hl p e) t (le e) : ℝ) : EReal)
  l : ∀ t e, x6 (ix2 t e) = ((A.L (hl p e) t : ℝ) : EReal)

/-- The two blocks of a trip. -/
def b0 (k : Fin k0_t1_loop.trips) : Fin 32 := ⟨2 * k.val + 0, by have : k.val < 16 := lt_of_lt_of_eq k.isLt trips_eq; omega⟩
def b1 (k : Fin k0_t1_loop.trips) : Fin 32 := ⟨2 * k.val + 1, by have : k.val < 16 := lt_of_lt_of_eq k.isLt trips_eq; omega⟩

theorem sub_val {off : Fin 2 → ℕ} (n : Fin 32) (ho : off = ![n.val / 4 * 512 + n.val % 4, 0])
    (h : ∀ a, S128x128.size a = 0 ∨ off a + (![4, 1] : Fin 2 → ℕ) a * (S128x128.size a - 1) < S4096x128.size a) (x : Vec Ideal S4096x128 .f32) (j e : Fin 128) :
    sub (F := Ideal) x off h (ix2 j e) = x (ix2 (tm n j) e) := by
  subst ho
  refine congrArg x (funext fun a => Fin.ext ?_)
  match a with
  | ⟨0, _⟩ => rfl
  | ⟨1, _⟩ => show 0 + 1 * e.val = e.val; omega

section Vals

variable {A : Arr} {p : Fin 2} {x1 x2 x3 x4 x5 x6 : Vec Ideal S4096x128 .f32} (W : Whole A p x1 x2 x3 x4 x5 x6) (k : Fin k0_t1_loop.trips)
include W

theorem tile0 : Tile A p (b0 k) (sub (F := Ideal) x1 _ (k0_off1_inb k 0)) (sub (F := Ideal) x2 _ (k0_off2_inb k 0)) (sub (F := Ideal) x2 _ (k0_off1_inb k 0))
    (sub (F := Ideal) x3 _ (k0_off2_inb k 0)) (sub (F := Ideal) x3 _ (k0_off1_inb k 0)) (sub (F := Ideal) x4 _ (k0_off1_inb k 0))
    (sub (F := Ideal) x5 _ (k0_off1_inb k 0)) (sub (F := Ideal) x6 _ (k0_off1_inb k 0)) where
  q j e := (sub_val (b0 k) (off_own0 k) _ x1 j e).trans (W.q _ e)
  kp j e := (sub_val (pb (b0 k)) (off_prev0 k) _ x2 j e).trans (W.k _ e)
  ko j e := (sub_val (b0 k) (off_own0 k) _ x2 j e).trans (W.k _ e)
  vp j e := (sub_val (pb (b0 k)) (off_prev0 k) _ x3 j e).trans (W.v _ e)
  vo j e := (sub_val (b0 k) (off_own0 k) _ x3 j e).trans (W.v _ e)
  dO j e := (sub_val (b0 k) (off_own0 k) _ x4 j e).trans (W.dO _ e)
  o j e := (sub_val (b0 k) (off_own0 k) _ x5 j e).trans (W.o _ e)
  l j e := (sub_val (b0 k) (off_own0 k) _ x6 j e).trans (W.l _ e)

theorem tile1 : Tile A p (b1 k) (sub (F := Ideal) x1 _ (k0_off1_inb k 1)) (sub (F := Ideal) x2 _ (k0_off2_inb k 1)) (sub (F := Ideal) x2 _ (k0_off1_inb k 1))
    (sub (F := Ideal) x3 _ (k0_off2_inb k 1)) (sub (F := Ideal) x3 _ (k0_off1_inb k 1)) (sub (F := Ideal) x4 _ (k0_off1_inb k 1))
    (sub (F := Ideal) x5 _ (k0_off1_inb k 1)) (sub (F := Ideal) x6 _ (k0_off1_inb k 1)) where
  q j e := (sub_val (b1 k) (off_own1 k) _ x1 j e).trans (W.q _ e)
  kp j e := (sub_val (pb (b1 k)) (off_prev1 k) _ x2 j e).trans (W.k _ e)
  ko j e := (sub_val (b1 k) (off_own1 k) _ x2 j e).trans (W.k _ e)
  vp j e := (sub_val (pb (b1 k)) (off_prev1 k) _ x3 j e).trans (W.v _ e)
  vo j e := (sub_val (b1 k) (off_own1 k) _ x3 j e).trans (W.v _ e)
  dO j e := (sub_val (b1 k) (off_own1 k) _ x4 j e).trans (W.dO _ e)
  o j e := (sub_val (b1 k) (off_own1 k) _ x5 j e).trans (W.o _ e)
  l j e := (sub_val (b1 k) (off_own1 k) _ x6 j e).trans (W.l _ e)

omit W in
theorem inBlk_ix2 (t : Fin 4096) (e : Fin 128) : inBlk (ix2 t e) = ix2 (pl t) e :=
  funext fun a => match a with
    | ⟨0, _⟩ => rfl
    | ⟨1, _⟩ => rfl

/-- The gradient of the queries. -/
theorem outQ_val (t : Fin 4096) (e : Fin 128) : outQ (F := Ideal) x1 x2 x3 x4 x5 x6 (ix2 t e) = ((A.dq (hl p e) t (le e) : ℝ) : EReal) := by
  unfold outQ
  rw [inBlk_ix2]
  show (if bk t % 2 = 0 then _ else _) = _
  split
  · rename_i h
    have hb : bk t = (b0 (tripOf (ix2 t e))).val := by show bk t = 2 * (bk t / 2) + 0; omega
    unfold dq0
    refine (dq_val (tile0 W (tripOf (ix2 t e))) (pl t) e).trans ?_
    rw [tm_pl _ t hb]
  · rename_i h
    have hb : bk t = (b1 (tripOf (ix2 t e))).val := by show bk t = 2 * (bk t / 2) + 1; omega
    unfold dq1
    refine (dq_val (tile1 W (tripOf (ix2 t e))) (pl t) e).trans ?_
    rw [tm_pl _ t hb]

omit W in
/-- An output gathered from the blocks' own and previous halves: the sum over all the queries. -/
theorem outA_val (d0 d1 : Fin k0_t1_loop.trips → FVec Ideal S256x128 .f32) (f : Fin 128 → Fin 4096 → Fin 4096 → ℝ)
    (hf : ∀ e t u, ¬ reads t u → f e t u = 0)
    (h0 : ∀ k c e, d0 k (ix2 c e) = ((∑ j, if vis (b0 k) j c then f e (tm (b0 k) j) (keyT (b0 k) c) else 0 : ℝ) : EReal))
    (h1 : ∀ k c e, d1 k (ix2 c e) = ((∑ j, if vis (b1 k) j c then f e (tm (b1 k) j) (keyT (b1 k) c) else 0 : ℝ) : EReal))
    (u : Fin 4096) (e : Fin 128) : outA (F := Ideal) d0 d1 (ix2 u e) = ((∑ t, f e t u : ℝ) : EReal) := by
  have hlt : bk u < 32 := by have := u.isLt; unfold bk; omega
  obtain ⟨n, hn⟩ : ∃ n : Fin 32, bk u = n.val := ⟨⟨bk u, hlt⟩, rfl⟩
  have par_val : ∀ (m : Fin 32) (k : Fin k0_t1_loop.trips) (i : ℕ), i % 2 = m.val % 2 → k.val = m.val / 2 → ∀ c,
      par i d0 d1 k (ix2 c e) = ((∑ j, if vis m j c then f e (tm m j) (keyT m c) else 0 : ℝ) : EReal) := fun m k i hi hk c => by
    unfold par
    split
    · have : b0 k = m := Fin.ext (by show 2 * k.val + 0 = m.val; omega)
      rw [h0, this]
    · have : b1 k = m := Fin.ext (by show 2 * k.val + 1 = m.val; omega)
      rw [h1, this]
  have htm : tm n (pl u) = u := tm_pl n u hn
  have hk : (tripOf (ix2 u e)).val = n.val / 2 := congrArg (· / 2) hn
  have own : rowOwn (F := Ideal) d0 d1 (ix2 u e) = ((∑ j, if vis n j (hi (pl u)) then f e (tm n j) u else 0 : ℝ) : EReal) := by
    have ho : ownHalf (par (bk u) d0 d1 (tripOf (ix2 u e))) (ix2 (pl u) e) = ((∑ j, if vis n j (hi (pl u)) then f e (tm n j) u else 0 : ℝ) : EReal) := by
      rw [own_val, par_val n _ _ (by rw [hn]) hk, keyT_hi, htm]
    unfold rowOwn
    rw [inBlk_ix2]
    show (if bk u < 4 then plusPrev (F := Ideal) (par (bk u) d0 d1 (tripOf (ix2 u e))) (ix2 (pl u) e) (ownHalf (par (bk u) d0 d1 (tripOf (ix2 u e))) (ix2 (pl u) e))
      else ownHalf (par (bk u) d0 d1 (tripOf (ix2 u e))) (ix2 (pl u) e)) = _
    split
    · rename_i h4
      rw [plus_val, ho, par_val n _ _ (by rw [hn]) hk, add_r]
      refine congrArg _ ?_
      have hz : (∑ j, if vis n j (lo (pl u)) then f e (tm n j) (keyT n (lo (pl u))) else 0) = 0 :=
        Finset.sum_eq_zero fun j _ => if_neg fun hv => by have := ((vis_lo n j (pl u)).mp hv).1; omega
      rw [hz, add_zero]
    · exact ho
  unfold outA
  rw [inBlk_ix2, own]
  refine Eq.trans ?_ (congrArg _ ((col_count n (pl u) (fun t => f e t u) fun t ht => hf e t u fun hr => ht (by rw [htm]; exact hr))).symm)
  show (if h : bk u < 28 then _ else _) = _
  by_cases h28 : n.val < 28
  · have h28' : bk u < 28 := hn ▸ h28
    rw [dif_pos h28', dif_pos h28, plus_val, par_val (nb n h28) _ _ (by show bk u % 2 = (n.val + 4) % 2; omega) (by show bk u / 2 + 2 = (n.val + 4) / 2; omega), add_r]
    have hp : pb (nb n h28) = n := Fin.ext (by
      show (if n.val + 4 < 4 then n.val + 4 else n.val + 4 - 4) = n.val
      rw [if_neg (by omega)]; omega)
    rw [keyT_lo, hp, htm]
  · have h28' : ¬ bk u < 28 := hn ▸ h28
    rw [dif_neg h28', dif_neg h28, add_zero]

theorem outK_val (u : Fin 4096) (e : Fin 128) :
    outA (F := Ideal) (fun k => dk0 k x1 x2 x3 x4 x5 x6) (fun k => dk1 k x1 x2 x3 x4 x5 x6) (ix2 u e) = ((A.dk (hl p e) u (le e) : ℝ) : EReal) :=
  outA_val _ _ (fun e t u => A.dS (hl p e) t u * (1 / 8) * A.q (hl p e) t (le e)) (fun e t u h => by rw [A.ds0_reads _ _ _ h]; ring)
    (fun k c e => dk_val (tile0 W k) c e) (fun k c e => dk_val (tile1 W k) c e) u e

theorem outV_val (u : Fin 4096) (e : Fin 128) :
    outA (F := Ideal) (fun k => dv0 k x1 x2 x4 x6) (fun k => dv1 k x1 x2 x4 x6) (ix2 u e) = ((A.dv (hl p e) u (le e) : ℝ) : EReal) :=
  outA_val _ _ (fun e t u => A.P (hl p e) t u * A.dO (hl p e) t (le e)) (fun e t u h => by unfold Arr.P; rw [if_neg h, zero_mul])
    (fun k c e => dvv_val (tile0 W k) c e) (fun k c e => dvv_val (tile1 W k) c e) u e

end Vals

end Cert.Dil

end
-- ==== Proof.Bridge.lean ====
module

public import proofs.«01_k».proof.Proof.Entry
public import proofs.«01_k».proof.Proof.Ref
public import proofs.«01_k».proof.Proof.Rows
public import Idealize.ShloMosaic.Lib.Pipeline.ValueKit

/-! The kernel's three result arrays are the reference's, on finite arguments. -/

@[expose] public section

set_option maxRecDepth 16384

noncomputable section

namespace Cert.Dil

open Idealize.ShloMosaic hiding ix2 ix3
open Cert.KernelIdeal Cert.KernelIdeal.Gen Cert.KernelIdeal.Dil Idealize.ShloMosaic.TcCoe Idealize.ShloMosaic.ValueIdx Idealize.SL.Sem
open Cert.ReferenceIdeal.Read
open Idealize.ShloMosaic.Pipeline (Dat)

/-! ## The broadcast log-sum-exp -/

section Lse

variable (x0 : (⟨S4096x5120, .f32⟩ : BufTy).Contents (Elt Ideal)) (x1 : (⟨S4x4096x64, .f32⟩ : BufTy).Contents (Elt Ideal))
  (x2 : (⟨S4x4096, .f32⟩ : BufTy).Contents (Elt Ideal)) (x3 : (⟨S4x4096x64, .f32⟩ : BufTy).Contents (Elt Ideal))
  (x4 : (⟨S4x4096, .f32⟩ : BufTy).Contents (Elt Ideal)) (x5 : (⟨S4096x256, .f32⟩ : BufTy).Contents (Elt Ideal))
variable (H : Finite x0 x1 x2 x3 x4 x5)
include H

theorem top_eq : val_main_v55 (F := Ideal) x0 x2 x4 = val_main_v62 (F := Ideal) x0 x2 x4 :=
  funext fun i => (st55 x0 x1 x2 x3 x4 x5 H i).trans (st62 x0 x1 x2 x3 x4 x5 H i).symm

theorem z_eq : zOf (F := Ideal) (val_main_v52 (F := Ideal) x0 x2 x4) (val_main_v55 (F := Ideal) x0 x2 x4) = val_main_v76 (F := Ideal) x0 x2 x4 := by
  rw [top_eq x0 x1 x2 x3 x4 x5 H]; rfl

omit H in
theorem lseOf_at (a z : FVec Ideal S4x4096 .f32) (t : Fin 4096) (c : Fin 256) :
    lseOf (F := Ideal) a z (ix2 t c) = FloatOps.addf (F := Ideal) (φ := .f32) (a (ix2 (hd c) t)) (FloatOps.hostUnary (F := Ideal) (φ := .f32) .log (z (ix2 (hd c) t))) := by
  unfold lseOf
  refine (shapeCast_apply _ shapeCasts_S4096x4x64_S4096x256 (ix2 t c) (ix3 t (hd c) (ln c)) ?_).trans ?_
  · rw [Shape.rowMajor_val_three, Shape.rowMajor_val_two]
    show (t.val * 4 + c.val / 64) * 64 + c.val % 64 = t.val * 256 + c.val
    omega
  · exact congrArg (addf a (Host.log z)) (funext fun k => by
      match k with
      | ⟨0, _⟩ => rfl
      | ⟨1, _⟩ => rfl)

theorem lse_at (t : Fin 4096) (c : Fin 256) :
    lseOf (F := Ideal) (val_main_v55 (F := Ideal) x0 x2 x4) (zOf (F := Ideal) (val_main_v52 (F := Ideal) x0 x2 x4) (val_main_v55 (F := Ideal) x0 x2 x4)) (ix2 t c)
      = (((arr x0 x1 x2 x3 x4 x5).L (hd c) t : ℝ) : EReal) := by
  rw [z_eq x0 x1 x2 x3 x4 x5 H, lseOf_at, st55 x0 x1 x2 x3 x4 x5 H, st76 x0 x1 x2 x3 x4 x5 H]
  have hz : 0 < (arr x0 x1 x2 x3 x4 x5).Z (hd c) t := Arr.Z_pos _ _ _
  exact (congrArg _ (log_r _ hz)).trans (add_r _ _)

end Lse

/-! ## The grid -/

theorem idx : ∀ t : Fin cfg0.N, (win0_0.index t = ![0, 2 + t.val] ∧ win0_1.index t = ![0, 8 + t.val] ∧ win0_2.index t = ![0, 14 + t.val] ∧ win0_3.index t = ![0, t.val]
    ∧ win0_4.index t = ![0, t.val] ∧ win0_5.index t = ![0, t.val]) ∧ (win0_6.index t = ![0, t.val] ∧ win0_7.index t = ![0, t.val] ∧ win0_8.index t = ![0, t.val]) :=
  (by decide +kernel : ∀ t : Fin grid0.N, _)

theorem two : ∀ t : Fin cfg0.N, t.val < 2 := (by decide +kernel : ∀ t : Fin grid0.N, _)

/-- The pair of heads of a grid point. -/
def pr (t : Fin cfg0.N) : Fin 2 := ⟨t.val, two t⟩

section Grid

variable (m : (ℓ : Loc nD τ sig) → Buf (Elt Ideal) ℓ) (c : Dev nD)

abbrev a0 : (⟨S4096x5120, .f32⟩ : BufTy).Contents (Elt Ideal) := m ((c : Thread nD τ).loc main_arg0)
abbrev a1 : (⟨S4x4096x64, .f32⟩ : BufTy).Contents (Elt Ideal) := m ((c : Thread nD τ).loc main_arg1)
abbrev a2 : (⟨S4x4096, .f32⟩ : BufTy).Contents (Elt Ideal) := m ((c : Thread nD τ).loc main_arg2)
abbrev a3 : (⟨S4x4096x64, .f32⟩ : BufTy).Contents (Elt Ideal) := m ((c : Thread nD τ).loc main_arg3)
abbrev a4 : (⟨S4x4096, .f32⟩ : BufTy).Contents (Elt Ideal) := m ((c : Thread nD τ).loc main_arg4)
abbrev a5 : (⟨S4096x256, .f32⟩ : BufTy).Contents (Elt Ideal) := m ((c : Thread nD τ).loc main_arg5)

/-- The column of the 256 that lane `e` of pair `p` is. -/
def cl (p : Fin 2) (e : Fin 128) : Fin 256 := ⟨128 * p.val + e.val, by omega⟩

theorem hd_cl (p : Fin 2) (e : Fin 128) : hd (cl p e) = hl p e := Fin.ext (by show (128 * p.val + e.val) / 64 = 2 * p.val + e.val / 64; omega)
theorem ln_cl (p : Fin 2) (e : Fin 128) : ln (cl p e) = le e := Fin.ext (by show (128 * p.val + e.val) % 64 = e.val % 64; omega)

/-- A column of the projection. -/
def pc (o : Fin 19) (p : Fin 2) (e : Fin 128) : Fin 5120 := ⟨(2 * o.val + p.val) * 128 + e.val, by omega⟩

theorem b_0 (t : Fin cfg0.N) (u : Fin 4096) (e : Fin 128) : iblk m c 0 t (ix2 u e) = a0 m c (ix2 u (pc 1 (pr t) e)) := by
  blk_ext [iblk, V, (idx t).1, pc, pr]
theorem b_1 (t : Fin cfg0.N) (u : Fin 4096) (e : Fin 128) : iblk m c 1 t (ix2 u e) = a0 m c (ix2 u (pc 4 (pr t) e)) := by
  blk_ext [iblk, V, (idx t).1, pc, pr]
  show (8 + t.val) * 128 + e.val = (2 * 4 + t.val) * 128 + e.val
  omega
theorem b_2 (t : Fin cfg0.N) (u : Fin 4096) (e : Fin 128) : iblk m c 2 t (ix2 u e) = a0 m c (ix2 u (pc 7 (pr t) e)) := by
  blk_ext [iblk, V, (idx t).1, pc, pr]
  show (14 + t.val) * 128 + e.val = (2 * 7 + t.val) * 128 + e.val
  omega
theorem b_3 (t : Fin cfg0.N) (u : Fin 4096) (e : Fin 128) : iblk m c 3 t (ix2 u e) = a5 m c (ix2 u (cl (pr t) e)) := by
  blk_ext [iblk, V, (idx t).1, cl, pr]
  show t.val * 128 + e.val = 128 * t.val + e.val
  omega
theorem b_4 (t : Fin cfg0.N) (u : Fin 4096) (e : Fin 128) : iblk m c 4 t (ix2 u e) = V m c main_v65 (ix2 u (cl (pr t) e)) := by
  show ((cfg0.win 4).blk t).view.read (Elt Ideal) (V m c main_v65) _ = _
  generalize V m c main_v65 = X
  blk_ext [(idx t).1, cl, pr]
  show t.val * 128 + e.val = 128 * t.val + e.val
  omega
theorem b_5 (t : Fin cfg0.N) (u : Fin 4096) (e : Fin 128) : iblk m c 5 t (ix2 u e) = V m c main_v77 (ix2 u (cl (pr t) e)) := by
  show ((cfg0.win 5).blk t).view.read (Elt Ideal) (V m c main_v77) _ = _
  generalize V m c main_v77 = X
  blk_ext [(idx t).1, cl, pr]
  show t.val * 128 + e.val = 128 * t.val + e.val
  omega

theorem r_q (p : Fin 2) (u : Fin 4096) (e : Fin 128) : val_main_v4 (F := Ideal) (a0 m c) (ix3 (hl p e) u (le e)) = a0 m c (ix2 u (pc 1 p e)) := by
  rw [val_main_v4_apply]; rw [val_main_v3_apply]; rw [val_main_v0_apply]
  refine congrArg (a0 m c) (funext fun a => Fin.ext ?_)
  match a with
  | ⟨0, _⟩ => show ((u.val * 4 + (2 * p.val + e.val / 64)) * 64 + e.val % 64) / 256 = u.val; omega
  | ⟨1, _⟩ => show 256 + ((u.val * 4 + (2 * p.val + e.val / 64)) * 64 + e.val % 64) % 256 = (2 * 1 + p.val) * 128 + e.val; omega
theorem r_k (p : Fin 2) (u : Fin 4096) (e : Fin 128) : val_main_v6 (F := Ideal) (a0 m c) (ix3 (hl p e) u (le e)) = a0 m c (ix2 u (pc 4 p e)) := by
  rw [val_main_v6_apply]; rw [val_main_v5_apply]; rw [val_main_v1_apply]
  refine congrArg (a0 m c) (funext fun a => Fin.ext ?_)
  match a with
  | ⟨0, _⟩ => show ((u.val * 4 + (2 * p.val + e.val / 64)) * 64 + e.val % 64) / 256 = u.val; omega
  | ⟨1, _⟩ => show 1024 + ((u.val * 4 + (2 * p.val + e.val / 64)) * 64 + e.val % 64) % 256 = (2 * 4 + p.val) * 128 + e.val; omega
theorem r_v (p : Fin 2) (u : Fin 4096) (e : Fin 128) : val_main_v8 (F := Ideal) (a0 m c) (ix3 (hl p e) u (le e)) = a0 m c (ix2 u (pc 7 p e)) := by
  rw [val_main_v8_apply]; rw [val_main_v7_apply]; rw [val_main_v2_apply]
  refine congrArg (a0 m c) (funext fun a => Fin.ext ?_)
  match a with
  | ⟨0, _⟩ => show ((u.val * 4 + (2 * p.val + e.val / 64)) * 64 + e.val % 64) / 256 = u.val; omega
  | ⟨1, _⟩ => show 1792 + ((u.val * 4 + (2 * p.val + e.val / 64)) * 64 + e.val % 64) % 256 = (2 * 7 + p.val) * 128 + e.val; omega
theorem r_dO (p : Fin 2) (u : Fin 4096) (e : Fin 128) : val_main_v96 (F := Ideal) (a5 m c) (ix3 (hl p e) u (le e)) = a5 m c (ix2 u (cl p e)) := by
  rw [val_main_v96_apply]; rw [val_main_v95_apply]
  refine congrArg (a5 m c) (funext fun a => Fin.ext ?_)
  match a with
  | ⟨0, _⟩ => show ((u.val * 4 + (2 * p.val + e.val / 64)) * 64 + e.val % 64) / 256 = u.val; omega
  | ⟨1, _⟩ => show ((u.val * 4 + (2 * p.val + e.val / 64)) * 64 + e.val % 64) % 256 = 128 * p.val + e.val; omega

variable (H : Finite (a0 m c) (a1 m c) (a2 m c) (a3 m c) (a4 m c) (a5 m c))

/-- The arguments as real numbers. -/
abbrev AA : Arr := arr (a0 m c) (a1 m c) (a2 m c) (a3 m c) (a4 m c) (a5 m c)

include H

theorem whole (t : Fin cfg0.N) : Whole (AA m c) (pr t) (iblk m c 0 t) (iblk m c 1 t) (iblk m c 2 t) (iblk m c 3 t) (iblk m c 4 t) (iblk m c 5 t) where
  q u e := (b_0 m c t u e).trans ((r_q m c (pr t) u e).symm.trans (st4 _ _ _ _ _ _ H _))
  k u e := (b_1 m c t u e).trans ((r_k m c (pr t) u e).symm.trans (st6 _ _ _ _ _ _ H _))
  v u e := (b_2 m c t u e).trans ((r_v m c (pr t) u e).symm.trans (st8 _ _ _ _ _ _ H _))
  dO u e := (b_3 m c t u e).trans ((r_dO m c (pr t) u e).symm.trans (st96 _ _ _ _ _ _ H _))
  o u e := (b_4 m c t u e).trans ((congrFun (V_o (F := Ideal) m c) _).trans ((st94 _ _ _ _ _ _ H _).trans
    (congrArg (fun x : ℝ => (x : EReal)) (congrArg₂ (fun h l => (AA m c).odil h u l) (hd_cl (pr t) e) (ln_cl (pr t) e)))))
  l u e := (b_5 m c t u e).trans ((congrFun (V_l (F := Ideal) m c) _).trans ((lse_at _ _ _ _ _ _ H u (cl (pr t) e)).trans
    (congrArg (fun x : ℝ => (x : EReal)) (congrArg (fun h => (AA m c).L h u) (hd_cl (pr t) e)))))

/-- The three result arrays. -/
theorem final_q : (dats m 0 c).arrAt 6 (cfgs 0).N = val_main_v165 (F := Ideal) (a0 m c) (a1 m c) (a2 m c) (a3 m c) (a4 m c) (a5 m c) := by
  refine (dats m 0 c).arrAt_eq_of_covers 6 _ (by decide +kernel) fun t _ y => ?_
  blk_simp
  rw [after0_6]
  have hy : ((cfg0.win 6).blk t).view.emb y = ix2 (y 0) (cl (pr t) (y 1)) := by blk_ext [(idx t).2, cl, pr]
  rw [hy]
  refine Eq.trans ?_ (st165 _ _ _ _ _ _ H _).symm
  refine (congrArg _ (ValueIdx.eq_ix2 y)).trans ((outQ_val (whole m c H t) (y 0) (y 1)).trans ?_)
  exact congrArg (fun x : ℝ => (x : EReal)) (congrArg₂ (fun h l => (AA m c).dq h (y 0) l) (hd_cl (pr t) (y 1)).symm (ln_cl (pr t) (y 1)).symm)

theorem final_k : (dats m 0 c).arrAt 7 (cfgs 0).N = val_main_v163 (F := Ideal) (a0 m c) (a1 m c) (a2 m c) (a3 m c) (a4 m c) (a5 m c) := by
  refine (dats m 0 c).arrAt_eq_of_covers 7 _ (by decide +kernel) fun t _ y => ?_
  blk_simp
  rw [after0_7]
  have hy : ((cfg0.win 7).blk t).view.emb y = ix2 (y 0) (cl (pr t) (y 1)) := by blk_ext [(idx t).2, cl, pr]
  rw [hy]
  refine Eq.trans ?_ (st163 _ _ _ _ _ _ H _).symm
  refine (congrArg _ (ValueIdx.eq_ix2 y)).trans ((outK_val (whole m c H t) (y 0) (y 1)).trans ?_)
  exact congrArg (fun x : ℝ => (x : EReal)) (congrArg₂ (fun h l => (AA m c).dk h (y 0) l) (hd_cl (pr t) (y 1)).symm (ln_cl (pr t) (y 1)).symm)

theorem final_v : (dats m 0 c).arrAt 8 (cfgs 0).N = val_main_v161 (F := Ideal) (a0 m c) (a2 m c) (a4 m c) (a5 m c) := by
  refine (dats m 0 c).arrAt_eq_of_covers 8 _ (by decide +kernel) fun t _ y => ?_
  blk_simp
  rw [after0_8]
  have hy : ((cfg0.win 8).blk t).view.emb y = ix2 (y 0) (cl (pr t) (y 1)) := by blk_ext [(idx t).2, cl, pr]
  rw [hy]
  refine Eq.trans ?_ (st161 _ _ _ _ _ _ H _).symm
  refine (congrArg _ (ValueIdx.eq_ix2 y)).trans ((outV_val (whole m c H t) (y 0) (y 1)).trans ?_)
  exact congrArg (fun x : ℝ => (x : EReal)) (congrArg₂ (fun h l => (AA m c).dv h (y 0) l) (hd_cl (pr t) (y 1)).symm (ln_cl (pr t) (y 1)).symm)

end Grid

end Cert.Dil
-- ==== Proof.Norm.lean ====
module

public import proofs.«01_k».proof.Proof.Arith
public import Idealize.ShloMosaic.PureOps.Ideal.Laws
public import Mathlib.Tactic.NormNum
public import Mathlib.Tactic.Ring
public import Mathlib.Tactic.FieldSimp

/-! The norm over 1024 channels and the sigmoid: the kernels' formulas against those of the derivative. -/

@[expose] public section

noncomputable section

namespace Cert.Norm

open Idealize.ShloMosaic

/-! ## Constants -/

abbrev zer : EReal := FloatOps.ofBits (F := Ideal) .f32 0x00000000#32
abbrev one : EReal := FloatOps.ofBits (F := Ideal) .f32 0x3F800000#32
abbrev hlf : EReal := FloatOps.ofBits (F := Ideal) .f32 0x3F000000#32
abbrev neg : EReal := FloatOps.ofBits (F := Ideal) .f32 0xBF000000#32
abbrev num : EReal := FloatOps.ofBits (F := Ideal) .f32 0x44800000#32
abbrev eps : EReal := FloatOps.ofBits (F := Ideal) .f32 0x358637BD#32

theorem hlf_r : hlf = ((1 / 2 : ℝ) : EReal) := by simp [Ideal.ofBits, Ideal.ieee, -EReal.coe_mul]; norm_num
theorem neg_r : neg = ((-(1 / 2) : ℝ) : EReal) := by simp [Ideal.ofBits, Ideal.ieee, -EReal.coe_mul]; norm_num
theorem num_r : num = ((1024 : ℝ) : EReal) := by simp [Ideal.ofBits, Ideal.ieee, -EReal.coe_mul]; norm_num
theorem eps_v : eps = ((8796093 / 8796093022208 : ℝ) : EReal) := by simp [Ideal.ofBits, Ideal.ieee, -EReal.coe_mul]; norm_num
theorem eps_r : ∃ e : ℝ, 0 < e ∧ eps = (e : EReal) := ⟨_, by norm_num, eps_v⟩

/-- The inverse root of a positive number. -/
theorem rsqrt_r (M : ℝ) (h : 0 < M) : Ideal.rsqrt (M : EReal) = (((Real.sqrt M)⁻¹ : ℝ) : EReal) := by
  rw [Ideal.rsqrt_coe, if_neg (not_lt.mpr h.le), if_neg h.ne']

theorem inv_sq (M : ℝ) (h : 0 < M) : (Real.sqrt M)⁻¹ * (Real.sqrt M)⁻¹ = 1 / M := by
  rw [← mul_inv, Real.mul_self_sqrt h.le, one_div]

theorem div_r (a b : ℝ) (hb : b ≠ 0) : Ideal.div (a : EReal) (b : EReal) = ((a * (1 / b) : ℝ) : EReal) :=
  (Ideal.div_coe hb (a : EReal)).trans (EReal.coe_mul a (1 / b)).symm

/-! ## The norm -/

/-- The mean square of a row, moved away from zero. -/
abbrev ms (x : Fin 1024 → EReal) : EReal := Ideal.div (∑ k, x k * x k) num + eps

/-- A number that is not negative goes into a sum of extended reals. -/
theorem scale_sum (r : ℝ) (hr : 0 ≤ r) {n : ℕ} (f : Fin n → EReal) : (r : EReal) * ∑ k, f k = ∑ k, (r : EReal) * f k := by
  induction n with
  | zero => rw [Fin.sum_univ_zero, Fin.sum_univ_zero, mul_zero]
  | succ n ih =>
    rw [Fin.sum_univ_castSucc, Fin.sum_univ_castSucc, EReal.left_distrib_of_nonneg_of_ne_top (EReal.coe_nonneg.mpr hr) (EReal.coe_ne_top _), ih]

/-- A square is not negative. -/
theorem square_nonneg (a : EReal) : 0 ≤ a * a := by
  induction a with
  | bot => rw [EReal.bot_mul_bot]; exact le_top
  | top => rw [EReal.top_mul_top]; exact le_top
  | coe a => rw [← EReal.coe_mul]; exact EReal.coe_nonneg.mpr (mul_self_nonneg a)

/-- The mean square is positive: a real number, or infinite. -/
theorem ms_cases (x : Fin 1024 → EReal) : ms x = ⊤ ∨ ∃ M : ℝ, 0 < M ∧ ms x = (M : EReal) := by
  obtain ⟨e, he, h⟩ := eps_r
  have h0 : 0 ≤ ∑ k, x k * x k := Finset.sum_nonneg fun k _ => square_nonneg (x k)
  show Ideal.div (∑ k, x k * x k) num + eps = ⊤ ∨ ∃ M : ℝ, 0 < M ∧ Ideal.div (∑ k, x k * x k) num + eps = (M : EReal)
  rw [h, num_r, Ideal.div_coe (by norm_num)]
  generalize ∑ k, x k * x k = s at h0 ⊢
  induction s with
  | bot => exact absurd h0 (by simp)
  | top => left; rw [EReal.top_mul_coe_of_pos (by norm_num), EReal.top_add_coe]
  | coe s =>
    right
    refine ⟨s * (1 / 1024) + e, add_pos_of_nonneg_of_pos (mul_nonneg (EReal.coe_nonneg.mp h0) (by norm_num)) he, ?_⟩
    rw [← EReal.coe_mul, ← EReal.coe_add]

/-- Twice a product with a negative factor. -/
theorem twice (y : EReal) (k : ℝ) (hk : 0 ≤ k) : -(y * ((2 * k : ℝ) : EReal)) = y * ((-k : ℝ) : EReal) + y * ((-k : ℝ) : EReal) := by
  rw [show 2 * k = k + k by ring, EReal.coe_add, EReal.left_distrib_of_nonneg (EReal.coe_nonneg.mpr hk) (EReal.coe_nonneg.mpr hk), EReal.coe_neg, mul_neg]
  generalize y * (k : EReal) = z
  induction z with
  | bot => rfl
  | top => rfl
  | coe z => rw [← EReal.coe_add, ← EReal.coe_neg, ← EReal.coe_neg, ← EReal.coe_add]; exact congrArg _ (by ring)

/-- The gradient that leaves the norm, as the kernels form it and as the derivative of each operation gives it. -/
theorem back (x d g : Fin 1024 → EReal) (o : EReal) (j : Fin 1024) :
    o + Ideal.rsqrt (ms x) * (d j * g j - x j * Ideal.rsqrt (ms x) * Ideal.div (∑ k, d k * g k * (x k * Ideal.rsqrt (ms x))) num)
      = o + d j * g j * Ideal.rsqrt (ms x)
          + x j * (zer + Ideal.div ((zer + ∑ k, x k * (d k * g k)) * (neg * Ideal.div (Ideal.rsqrt (ms x)) (ms x))) num)
          + (zer + Ideal.div ((zer + ∑ k, x k * (d k * g k)) * (neg * Ideal.div (Ideal.rsqrt (ms x)) (ms x))) num) * x j := by
  have hz : zer = 0 := Dil.c_zero'
  rcases ms_cases x with hm | ⟨M, hM, hm⟩
  · have h0 : Ideal.div 0 ⊤ = 0 := by unfold Ideal.div; rw [if_neg (by simp), zero_mul]
    have h1 : Ideal.div 0 num = 0 := by rw [num_r, Ideal.div_coe (by norm_num), zero_mul]
    rw [hm, Ideal.rsqrt_top, h0, hz]
    simp only [mul_zero, zero_mul, add_zero, h1]
  · have hr := rsqrt_r M hM
    have h2 := inv_sq M hM
    have hp : 0 ≤ (Real.sqrt M)⁻¹ := inv_nonneg.mpr (Real.sqrt_nonneg M)
    rw [hm, hr]
    generalize (Real.sqrt M)⁻¹ = r at h2 hp ⊢
    have s1 : ∑ k, d k * g k * (x k * (r : EReal)) = (r : EReal) * ∑ k, x k * (d k * g k) := by
      rw [scale_sum r hp]
      exact Finset.sum_congr rfl fun k _ => by rw [← mul_assoc, mul_comm (d k * g k) (x k), mul_comm]
    rw [s1, hz, zero_add, zero_add, num_r, neg_r, div_r _ _ hM.ne', Ideal.div_coe (by norm_num), Ideal.div_coe (by norm_num)]
    generalize ∑ k, x k * (d k * g k) = T
    have hk : 0 ≤ 1 / 2 * (r * (1 / M)) * (1 / 1024) := by positivity
    have e1 : x j * (r : EReal) * ((r : EReal) * T * ((1 / 1024 : ℝ) : EReal)) = x j * T * ((r * r * (1 / 1024) : ℝ) : EReal) := by
      rw [EReal.coe_mul, EReal.coe_mul]; ac_rfl
    have e2 : (r : EReal) * (x j * T * ((r * r * (1 / 1024) : ℝ) : EReal)) = x j * T * ((2 * (1 / 2 * (r * (1 / M)) * (1 / 1024)) : ℝ) : EReal) := by
      rw [mul_left_comm, ← EReal.coe_mul, ← h2]; exact congrArg (x j * T * ·) (congrArg _ (by ring))
    have e3 : x j * (T * (((-(1 / 2) : ℝ) : EReal) * ((r * (1 / M) : ℝ) : EReal)) * ((1 / 1024 : ℝ) : EReal))
        = x j * T * ((-(1 / 2 * (r * (1 / M)) * (1 / 1024)) : ℝ) : EReal) := by
      rw [← EReal.coe_mul, mul_assoc T, ← EReal.coe_mul, ← mul_assoc]; exact congrArg (x j * T * ·) (congrArg _ (by ring))
    rw [e1, sub_eq_add_neg, EReal.left_distrib_of_nonneg_of_ne_top (EReal.coe_nonneg.mpr hp) (EReal.coe_ne_top _), mul_neg, e2, twice _ _ hk,
      mul_comm _ (x j), e3, mul_comm (r : EReal), add_assoc, add_assoc]

/-- A normed number is a real number, as a row with an infinite entry has the inverse root zero. -/
theorem n_real (x : Fin 1024 → EReal) (j : Fin 1024) : ∃ a : ℝ, x j * Ideal.rsqrt (ms x) = (a : EReal) := by
  rcases ms_cases x with hm | ⟨M, hM, hm⟩
  · exact ⟨0, by rw [hm, Ideal.rsqrt_top, mul_zero]; rfl⟩
  · have hs : x j * x j ≠ ⊤ := fun h => by
      have h1 : ⊤ ≤ ∑ k, x k * x k := h ▸ Finset.single_le_sum (f := fun k => x k * x k) (fun k _ => square_nonneg (x k)) (Finset.mem_univ j)
      have h2 : ms x = ⊤ := by
        obtain ⟨e, he, h3⟩ := eps_r
        show Ideal.div (∑ k, x k * x k) num + eps = ⊤
        rw [top_le_iff.mp h1, h3, num_r, Ideal.div_coe (by norm_num), EReal.top_mul_coe_of_pos (by norm_num), EReal.top_add_coe]
      exact EReal.coe_ne_top M (hm.symm.trans h2)
    rw [hm, rsqrt_r M hM]
    generalize x j = y at hs ⊢
    induction y with
    | bot => exact absurd EReal.bot_mul_bot hs
    | top => exact absurd EReal.top_mul_top hs
    | coe y => exact ⟨y * (Real.sqrt M)⁻¹, (EReal.coe_mul _ _).symm⟩

/-! ## The sigmoid -/

/-- One over one plus the exponential. -/
abbrev sig (a : EReal) : EReal := Ideal.div one (one + Ideal.exp (-a))

theorem sig_lit (a : EReal) : Ideal.div 1 (1 + Ideal.exp (-a)) = sig a := by
  show _ = Ideal.div one (one + Ideal.exp (-a))
  rw [show one = 1 from Dil.c_one.trans EReal.coe_one]

theorem sig_r (a : ℝ) : sig (a : EReal) = ((1 * (1 / (1 + Real.exp (-a))) : ℝ) : EReal) := by
  show Ideal.div one (one + Ideal.exp (-(a : EReal))) = _
  have h1 : one = ((1 : ℝ) : EReal) := Dil.c_one
  rw [h1, ← EReal.coe_neg, Ideal.exp_coe, ← EReal.coe_add, div_r _ _ (by positivity)]

/-- The kernels write the sigmoid with a hyperbolic tangent. -/
theorem sig_tanh (a : EReal) : hlf * Ideal.tanh (hlf * a) + hlf = sig a := by
  have h1 : one = ((1 : ℝ) : EReal) := Dil.c_one
  induction a with
  | bot =>
    show _ = Ideal.div one (one + Ideal.exp (-⊥))
    rw [hlf_r, EReal.coe_mul_bot_of_pos (by norm_num), Ideal.tanh_bot, EReal.neg_bot, Ideal.exp_top, h1, EReal.coe_add_top,
      show (-1 : EReal) = ((-1 : ℝ) : EReal) from rfl, ← EReal.coe_mul, ← EReal.coe_add]
    unfold Ideal.div
    rw [if_neg (by simp), EReal.inv_top, mul_zero]
    norm_num
  | top =>
    show _ = Ideal.div one (one + Ideal.exp (-⊤))
    rw [hlf_r, EReal.coe_mul_top_of_pos (by norm_num), Ideal.tanh_top, EReal.neg_top, Ideal.exp_bot, h1, add_zero, mul_one, ← EReal.coe_add,
      div_r _ _ (by norm_num)]
    norm_num
  | coe a =>
    rw [sig_r, hlf_r, ← EReal.coe_mul, Ideal.tanh_coe, ← EReal.coe_mul, ← EReal.coe_add]
    refine congrArg _ ?_
    rw [Real.tanh_eq_sinh_div_cosh, Real.sinh_eq, Real.cosh_eq, show -a = -(1 / 2 * a) + -(1 / 2 * a) by ring, Real.exp_add, Real.exp_neg]
    have hE := Real.exp_pos (1 / 2 * a)
    generalize Real.exp (1 / 2 * a) = E at hE ⊢
    field_simp
    ring

/-- The sigmoid far away. -/
theorem sig_top : sig ⊤ = one := by
  have h1 : one = ((1 : ℝ) : EReal) := Dil.c_one
  show Ideal.div one (one + Ideal.exp (-⊤)) = one
  rw [EReal.neg_top, Ideal.exp_bot, add_zero, h1, div_r _ _ (by norm_num)]
  norm_num

theorem sig_bot : sig ⊥ = 0 := by
  have h1 : one = ((1 : ℝ) : EReal) := Dil.c_one
  show Ideal.div one (one + Ideal.exp (-⊥)) = 0
  rw [EReal.neg_bot, Ideal.exp_top, h1, EReal.coe_add_top]
  unfold Ideal.div
  rw [if_neg (by simp), EReal.inv_top, mul_zero]

theorem one_sub : one - one = 0 := by
  have h1 : one = ((1 : ℝ) : EReal) := Dil.c_one
  rw [h1, ← EReal.coe_sub, sub_self]; rfl

/-- The derivative of the gate, as one factor and as two products. -/
theorem gate_back (a : EReal) (u : ℝ) : (u : EReal) * (sig a * (one + a * (one - sig a))) = (u : EReal) * sig a + a * (u : EReal) * (sig a * (one - sig a)) := by
  have h1 : one = ((1 : ℝ) : EReal) := Dil.c_one
  induction a with
  | bot => rw [sig_bot]; simp only [mul_zero, zero_mul, add_zero]
  | top => rw [sig_top, one_sub]; simp only [mul_zero, add_zero]; rw [h1, ← EReal.coe_mul, mul_one]
  | coe a =>
    rw [sig_r, h1]
    simp only [← EReal.coe_mul, ← EReal.coe_add, ← EReal.coe_sub]
    exact congrArg _ (by ring)

/-- Pulling a number back through the activation is multiplying by one factor. -/
theorem spread (d u : ℝ) (a : EReal) : (d : EReal) * ((u : EReal) * sig a + a * (u : EReal) * (sig a * (one - sig a)))
    = (d : EReal) * (u : EReal) * sig a + a * ((d : EReal) * (u : EReal)) * (sig a * (one - sig a)) := by
  have h1 : one = ((1 : ℝ) : EReal) := Dil.c_one
  induction a with
  | bot => rw [sig_bot]; simp only [mul_zero, zero_mul, add_zero]
  | top => rw [sig_top, one_sub]; simp only [mul_zero, add_zero, mul_assoc]
  | coe a =>
    rw [sig_r, h1]
    simp only [← EReal.coe_mul, ← EReal.coe_add, ← EReal.coe_sub]
    exact congrArg _ (by ring)

end Cert.Norm

end
-- ==== Proof.Fdx.lean ====
module

public import proofs.«01_k».proof.Proof.Gen.Kernel2Ideal.Frame
public import proofs.«01_k».proof.Proof.Gen.Reference2Ideal.Read
public import proofs.«01_k».proof.Proof.Norm
public import Idealize.ShloMosaic.Lib.Pipeline.ValueKit

/-! The gradient of the feed-forward layer with respect to its input: two products and the backward pass of the norm, with the gradient of the norm's gain added up over sixteen blocks of 256 tokens. -/

@[expose] public section

set_option maxRecDepth 16384

noncomputable section

namespace Cert.Fdx

open Idealize.ShloMosaic
open Cert.Kernel2Ideal Cert.Kernel2Ideal.Gen Idealize.ShloMosaic.TcCoe Idealize.SL.Sem
open Idealize.ShloMosaic.Pipeline (Dat)
open Cert.Norm
open Cert.Reference2Ideal.Read (val_main_v12 val_main_v20 val_main_v26 val_main_v41)

/-! ## The kernel's formulas -/

theorem dh_at (a b : FVec Ideal S256x2816 .bf16) (w v : FVec Ideal S2816x1024 .bf16) (j : S256x1024.Idx) :
    k0_pay4 (F := Ideal) a w b v j = (∑ k : Fin 2816, a (ix2 (j 0) k) * w (ix2 k (j 1))) + ∑ k : Fin 2816, b (ix2 (j 0) k) * v (ix2 k (j 1)) := by
  pointwise [k0_pay4]

theorem n_at (x : FVec Ideal S256x1024 .f32) (j : S256x1024.Idx) :
    k0_pay6 (F := Ideal) x j = x j * Ideal.rsqrt (ms fun k => x (ix2 (j 0) k)) := by
  pointwise [k0_pay6, k0_pay5]
  rfl

theorem dx_at (a b : FVec Ideal S256x2816 .bf16) (w v : FVec Ideal S2816x1024 .bf16) (x o : FVec Ideal S256x1024 .f32) (g : FVec Ideal S1x1024 .f32) (j : S256x1024.Idx) :
    k0_pay1 (F := Ideal) (k0_pay7 (F := Ideal) a w b v x g) o j
      = o j + Ideal.rsqrt (ms fun k => x (ix2 (j 0) k)) * (k0_pay4 (F := Ideal) a w b v j * g (ix2 0 (j 1))
          - x j * Ideal.rsqrt (ms fun k => x (ix2 (j 0) k)) * Ideal.div (∑ k : Fin 1024, k0_pay4 (F := Ideal) a w b v (ix2 (j 0) k) * g (ix2 0 k)
              * (x (ix2 (j 0) k) * Ideal.rsqrt (ms fun k => x (ix2 (j 0) k)))) num) := by
  pointwise [k0_pay1, k0_pay7, k0_pay6, k0_pay5]
  rfl

theorem gain_at (d n : FVec Ideal S256x1024 .f32) (j : S8x1024.Idx) :
    k0_pay2 (F := Ideal) d n j = ∑ k : Fin 256, d (ix2 k (j 1)) * n (ix2 k (j 1)) := by
  pointwise [k0_pay2]

theorem add_at (d n : FVec Ideal S256x1024 .f32) (old : FVec Ideal S8x1024 .f32) (j : S8x1024.Idx) :
    k0_pay3 (F := Ideal) d n old j = old j + k0_pay2 (F := Ideal) d n j := by
  pointwise [k0_pay3]

/-! ## The reference's formulas -/

theorem ref_dh (a b : FVec Ideal S4096x2816 .f32) (w v : FVec Ideal S1024x2816 .f32) (z : S4096x1024.Idx) :
    val_main_v20 (F := Ideal) a b w v z = (∑ k : Fin 2816, b (ix2 (z 0) k) * v (ix2 (z 1) k)) + ∑ k : Fin 2816, a (ix2 (z 0) k) * w (ix2 (z 1) k) := by
  pointwise [Cert.Reference2Ideal.Read.val_main_v20, Cert.Reference2Ideal.Read.val_main_v18, Cert.Reference2Ideal.Read.val_main_v19]

theorem ref_n (x : FVec Ideal S4096x1024 .f32) (z : S4096x1024.Idx) :
    val_main_v12 (F := Ideal) x z = x z * Ideal.rsqrt (ms fun k => x (ix2 (z 0) k)) := by
  pointwise [Cert.Reference2Ideal.Read.val_main_v12, Cert.Reference2Ideal.Read.val_main_v11, Cert.Reference2Ideal.Read.val_main_v7, Cert.Reference2Ideal.Read.val_main_v6, Cert.Reference2Ideal.Read.val_main_v5, Cert.Reference2Ideal.Read.val_main_v4, Cert.Reference2Ideal.Read.val_main_v3, Cert.Reference2Ideal.Read.val_main_v2, Cert.Reference2Ideal.Read.val_main_v1, Cert.Reference2Ideal.Read.val_main_v0, Cert.Reference2Ideal.Read.val_main_cst, Cert.Reference2Ideal.Read.val_main_cst_0, Cert.Reference2Ideal.Read.val_main_cst_1]
  rfl

theorem ref_gain (a b : FVec Ideal S4096x2816 .f32) (w v : FVec Ideal S1024x2816 .f32) (x : FVec Ideal S4096x1024 .f32) (z : S1024.Idx) :
    val_main_v26 (F := Ideal) a b w v x z = ∑ k : Fin 4096, val_main_v12 (F := Ideal) x (ix2 k (z 0)) * val_main_v20 (F := Ideal) a b w v (ix2 k (z 0)) := by
  pointwise [Cert.Reference2Ideal.Read.val_main_v26, Cert.Reference2Ideal.Read.val_main_v23, Cert.Reference2Ideal.Read.val_main_v22, Cert.Reference2Ideal.Read.val_main_v21, Cert.Reference2Ideal.Read.val_main_cst_3, Cert.Reference2Ideal.Read.val_main_cst_4]
  simp only [Fin.sum_univ_one]

theorem ref_dx (a b : FVec Ideal S4096x2816 .f32) (w v : FVec Ideal S1024x2816 .f32) (x : FVec Ideal S4096x1024 .f32) (g : FVec Ideal S1024 .f32) (o : FVec Ideal S4096x1024 .f32) (z : S4096x1024.Idx) :
    val_main_v41 (F := Ideal) a b w v x g o z
      = o z + val_main_v20 (F := Ideal) a b w v z * g (ix1 (z 1)) * Ideal.rsqrt (ms fun k => x (ix2 (z 0) k))
          + x z * (zer + Ideal.div ((zer + ∑ k : Fin 1024, x (ix2 (z 0) k) * (val_main_v20 (F := Ideal) a b w v (ix2 (z 0) k) * g (ix1 k)))
              * (neg * Ideal.div (Ideal.rsqrt (ms fun k => x (ix2 (z 0) k))) (ms fun k => x (ix2 (z 0) k)))) num)
          + (zer + Ideal.div ((zer + ∑ k : Fin 1024, x (ix2 (z 0) k) * (val_main_v20 (F := Ideal) a b w v (ix2 (z 0) k) * g (ix1 k)))
              * (neg * Ideal.div (Ideal.rsqrt (ms fun k => x (ix2 (z 0) k))) (ms fun k => x (ix2 (z 0) k)))) num) * x z := by
  pointwise [Cert.Reference2Ideal.Read.val_main_v41, Cert.Reference2Ideal.Read.val_main_v40, Cert.Reference2Ideal.Read.val_main_v39, Cert.Reference2Ideal.Read.val_main_v38, Cert.Reference2Ideal.Read.val_main_v37, Cert.Reference2Ideal.Read.val_main_v36, Cert.Reference2Ideal.Read.val_main_v35, Cert.Reference2Ideal.Read.val_main_v34, Cert.Reference2Ideal.Read.val_main_v33, Cert.Reference2Ideal.Read.val_main_v32, Cert.Reference2Ideal.Read.val_main_v31, Cert.Reference2Ideal.Read.val_main_v30, Cert.Reference2Ideal.Read.val_main_v29, Cert.Reference2Ideal.Read.val_main_v28, Cert.Reference2Ideal.Read.val_main_v27, Cert.Reference2Ideal.Read.val_main_v25, Cert.Reference2Ideal.Read.val_main_v24, Cert.Reference2Ideal.Read.val_main_v13, Cert.Reference2Ideal.Read.val_main_v10, Cert.Reference2Ideal.Read.val_main_v9, Cert.Reference2Ideal.Read.val_main_v8, Cert.Reference2Ideal.Read.val_main_v7, Cert.Reference2Ideal.Read.val_main_v6, Cert.Reference2Ideal.Read.val_main_v5, Cert.Reference2Ideal.Read.val_main_v4, Cert.Reference2Ideal.Read.val_main_v3, Cert.Reference2Ideal.Read.val_main_v2, Cert.Reference2Ideal.Read.val_main_v1, Cert.Reference2Ideal.Read.val_main_v0, Cert.Reference2Ideal.Read.val_main_cst, Cert.Reference2Ideal.Read.val_main_cst_0, Cert.Reference2Ideal.Read.val_main_cst_1, Cert.Reference2Ideal.Read.val_main_cst_2, Cert.Reference2Ideal.Read.val_main_cst_5, Cert.Reference2Ideal.Read.val_main_cst_6, Cert.Reference2Ideal.Read.val_main_cst_7]
  simp only [Fin.sum_univ_one]
  rfl

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![t.val, 0] ∧ win0_7.index t = ![t.val, 0] ∧ win0_8.index t = ![0, 0] :=
  (by decide +kernel : ∀ t : Fin grid0.N, _)

theorem turn (w : FVec Ideal S1024x2816 .f32) (j : S2816x1024.Idx) :
    transpose S2816x1024 [1, 0] w transposes_S1024x2816_S2816x1024_1_0 j = w (ix2 (j 1) (j 0)) := by
  pointwise

theorem wide (g : FVec Ideal S1024 .f32) (j : S1x1024.Idx) : shapeCast S1x1024 g shapeCasts_S1024_S1x1024 j = g (ix1 (j 1)) := by
  pointwise

/-- The host takes the first of the eight equal rows. -/
theorem first (X : FVec Ideal S8x1024 .f32) (z : S1024.Idx) :
    shapeCast S1024 (extractStridedSlice S1x1024 ![0, 0] X slices_S8x1024_S1x1024_0_0) shapeCasts_S1x1024_S1024 z = X (ix2 0 (z 0)) := by
  pointwise

section Grid

variable (m : (ℓ : Loc nD τ sig) → Buf (Elt Ideal) ℓ) (c : Dev nD)

abbrev aa : FVec Ideal S4096x2816 .f32 := m ((c : Thread nD τ).loc main_arg0)
abbrev ab : FVec Ideal S4096x2816 .f32 := m ((c : Thread nD τ).loc main_arg1)
abbrev aw : FVec Ideal S1024x2816 .f32 := m ((c : Thread nD τ).loc main_arg2)
abbrev av : FVec Ideal S1024x2816 .f32 := m ((c : Thread nD τ).loc main_arg3)
abbrev ax : FVec Ideal S4096x1024 .f32 := m ((c : Thread nD τ).loc main_arg4)
abbrev ag : FVec Ideal S1024 .f32 := m ((c : Thread nD τ).loc main_arg5)
abbrev ao : FVec Ideal S4096x1024 .f32 := m ((c : Thread nD τ).loc main_arg6)

abbrev goal0 : FVec Ideal S4096x1024 .f32 := val_main_v41 (F := Ideal) (aa m c) (ab m c) (aw m c) (av m c) (ax m c) (ag m c) (ao m c)
abbrev goal1 : FVec Ideal S1024 .f32 := val_main_v26 (F := Ideal) (aa m c) (ab m c) (aw m c) (av m c) (ax m c)

abbrev ba (t : Fin cfg0.N) : FVec Ideal S256x2816 .bf16 := iblk m c 0 t
abbrev bb (t : Fin cfg0.N) : FVec Ideal S256x2816 .bf16 := iblk m c 1 t
abbrev bw (t : Fin cfg0.N) : FVec Ideal S2816x1024 .bf16 := iblk m c 2 t
abbrev bv (t : Fin cfg0.N) : FVec Ideal S2816x1024 .bf16 := iblk m c 3 t
abbrev bx (t : Fin cfg0.N) : FVec Ideal S256x1024 .f32 := iblk m c 4 t
abbrev bg (t : Fin cfg0.N) : FVec Ideal S1x1024 .f32 := iblk m c 5 t
abbrev bo (t : Fin cfg0.N) : FVec Ideal S256x1024 .f32 := iblk m c 6 t

/-- The row of the whole array that a grid point's row is. -/
abbrev row (t : Fin cfg0.N) (i : Fin 256) : Fin 4096 :=
  ⟨t.val * 256 + i.val, by have h := lt_of_lt_of_eq t.isLt N_0; have h' := i.isLt; omega⟩

theorem ba_at (t : Fin cfg0.N) (i : Fin 256) (k : Fin 2816) : ba m c t (ix2 i k) = aa m c (ix2 (row t i) k) := by
  show ((cfg0.win 0).blk t).view.read (Elt Ideal) (V m c main_v0) _ = _
  rw [show V m c main_v0 = aa m c by entry_read; rfl]
  blk_ext [idx t]

theorem bb_at (t : Fin cfg0.N) (i : Fin 256) (k : Fin 2816) : bb m c t (ix2 i k) = ab m c (ix2 (row t i) k) := by
  show ((cfg0.win 1).blk t).view.read (Elt Ideal) (V m c main_v1) _ = _
  rw [show V m c main_v1 = ab m c by entry_read; rfl]
  blk_ext [idx t]

theorem bw_at (t : Fin cfg0.N) (n : Fin 2816) (k : Fin 1024) : bw m c t (ix2 n k) = aw m c (ix2 k n) := by
  show ((cfg0.win 2).blk t).view.read (Elt Ideal) (V m c main_v3) _ = _
  rw [show V m c main_v3 = transpose S2816x1024 [1, 0] (aw m c) transposes_S1024x2816_S2816x1024_1_0 by entry_read; rfl]
  refine Eq.trans ?_ (turn (aw m c) (ix2 n k))
  blk_ext [idx t]

theorem bv_at (t : Fin cfg0.N) (n : Fin 2816) (k : Fin 1024) : bv m c t (ix2 n k) = av m c (ix2 k n) := by
  show ((cfg0.win 3).blk t).view.read (Elt Ideal) (V m c main_v5) _ = _
  rw [show V m c main_v5 = transpose S2816x1024 [1, 0] (av m c) transposes_S1024x2816_S2816x1024_1_0 by entry_read; rfl]
  refine Eq.trans ?_ (turn (av m c) (ix2 n k))
  blk_ext [idx t]

theorem bx_at (t : Fin cfg0.N) (i : Fin 256) (k : Fin 1024) : bx m c t (ix2 i k) = ax m c (ix2 (row t i) k) := by
  show ((cfg0.win 4).blk t).view.read (Elt Ideal) (V m c main_arg4) _ = _
  rw [show V m c main_arg4 = ax m c by entry_read; rfl]
  blk_ext [idx t]

theorem bg_at (t : Fin cfg0.N) (k : Fin 1024) : bg m c t (ix2 0 k) = ag m c (ix1 k) := by
  show ((cfg0.win 5).blk t).view.read (Elt Ideal) (V m c main_v6) _ = _
  rw [show V m c main_v6 = shapeCast S1x1024 (ag m c) shapeCasts_S1024_S1x1024 by entry_read; rfl]
  refine Eq.trans ?_ (wide (ag m c) (ix2 0 k))
  blk_ext [idx t]

theorem bo_at (t : Fin cfg0.N) (i : Fin 256) (k : Fin 1024) : bo m c t (ix2 i k) = ao m c (ix2 (row t i) k) := by
  show ((cfg0.win 6).blk t).view.read (Elt Ideal) (V m c main_arg6) _ = _
  rw [show V m c main_arg6 = ao m c by entry_read; rfl]
  blk_ext [idx t]

/-- The gradient of the normed input, as the kernel and as the reference has it. -/
abbrev kd (t : Fin cfg0.N) : FVec Ideal S256x1024 .f32 := k0_pay4 (F := Ideal) (ba m c t) (bw m c t) (bb m c t) (bv m c t)
abbrev rd : FVec Ideal S4096x1024 .f32 := val_main_v20 (F := Ideal) (aa m c) (ab m c) (aw m c) (av m c)

theorem dh_eq (t : Fin cfg0.N) (i : Fin 256) (k : Fin 1024) : kd m c t (ix2 i k) = rd m c (ix2 (row t i) k) := by
  refine (dh_at _ _ _ _ (ix2 i k)).trans ((add_comm _ _).trans (Eq.trans ?_ (ref_dh _ _ _ _ _).symm))
  refine congrArg₂ (· + ·) ?_ ?_
  · exact Fin.sum_fin_congr fun l => congrArg₂ (· * ·) (bb_at m c t i l) (bv_at m c t l k)
  · exact Fin.sum_fin_congr fun l => congrArg₂ (· * ·) (ba_at m c t i l) (bw_at m c t l k)

theorem n_eq (t : Fin cfg0.N) (i : Fin 256) (k : Fin 1024) : k0_pay6 (F := Ideal) (bx m c t) (ix2 i k) = val_main_v12 (F := Ideal) (ax m c) (ix2 (row t i) k) := by
  refine (n_at _ (ix2 i k)).trans (Eq.trans ?_ (ref_n _ _).symm)
  exact congrArg₂ (· * ·) (bx_at m c t i k) (congrArg (fun f => Ideal.rsqrt (ms f)) (funext fun k => bx_at m c t i k))

/-- What the kernel stores for one token and one column, in terms of the arguments. -/
theorem dx_eq (t : Fin cfg0.N) (i : Fin 256) (k : Fin 1024) :
    k0_pay1 (F := Ideal) (k0_pay7 (F := Ideal) (ba m c t) (bw m c t) (bb m c t) (bv m c t) (bx m c t) (bg m c t)) (bo m c t) (ix2 i k)
      = goal0 m c (ix2 (row t i) k) := by
  refine (dx_at _ _ _ _ _ _ _ (ix2 i k)).trans (Eq.trans ?_ (ref_dx _ _ _ _ _ _ _ _).symm)
  refine Eq.trans ?_ (back (fun l => ax m c (ix2 (row t i) l)) (fun l => rd m c (ix2 (row t i) l)) (fun l => ag m c (ix1 l))
    (ao m c (ix2 (row t i) k)) k)
  have hx : (fun l : Fin 1024 => bx m c t (ix2 i l)) = fun l => ax m c (ix2 (row t i) l) := funext fun l => bx_at m c t i l
  have hs : (∑ l : Fin 1024, kd m c t (ix2 i l) * bg m c t (ix2 0 l) * (bx m c t (ix2 i l) * Ideal.rsqrt (ms fun k => bx m c t (ix2 i k))))
      = ∑ l : Fin 1024, rd m c (ix2 (row t i) l) * ag m c (ix1 l) * (ax m c (ix2 (row t i) l) * Ideal.rsqrt (ms fun k => ax m c (ix2 (row t i) k))) := by
    rw [hx]
    exact Fin.sum_fin_congr fun l => congrArg₂ (· * ·) (congrArg₂ (· * ·) (dh_eq m c t i l) (bg_at m c t l)) (congrArg (· * _) (bx_at m c t i l))
  refine congrArg₂ (· + ·) (bo_at m c t i k) (congrArg₂ (· * ·) (congrArg (fun f => Ideal.rsqrt (ms f)) hx) (congrArg₂ (· - ·) ?_ (congrArg₂ (· * ·) ?_ ?_)))
  · exact congrArg₂ (· * ·) (dh_eq m c t i k) (bg_at m c t k)
  · exact congrArg₂ (· * ·) (bx_at m c t i k) (congrArg (fun f => Ideal.rsqrt (ms f)) hx)
  · exact congrArg (fun s => Ideal.div s num) hs

/-- What a grid point adds to the gradient of the gain. -/
def part (t : Fin cfg0.N) (j : S8x1024.Idx) : EReal := ∑ k : Fin 256, kd m c t (ix2 k (j 1)) * k0_pay6 (F := Ideal) (bx m c t) (ix2 k (j 1))

theorem first_at (t : Fin cfg0.N) (y : S256x1024.Idx) :
    (outsAt0 m c t.val t.isLt).1 y
      = k0_pay1 (F := Ideal) (k0_pay7 (F := Ideal) (ba m c t) (bw m c t) (bb m c t) (bv m c t) (bx m c t) (bg m c t)) (bo m c t) y := by
  have h16 : t.val < 16 := lt_of_lt_of_eq t.isLt N_0
  by_cases h : t.val % 16 = 0
  · rw [outsAt0_A m c t h (by omega)]; frame_out
  · rw [outsAt0_B m c t h (by omega)]; frame_out

theorem sum_at (t : Fin cfg0.N) (ht : t.val + 1 = cfg0.N) (j : S8x1024.Idx) :
    (outsAt0 m c t.val t.isLt).2 j = 0 + ∑ p : Fin cfg0.N, part m c p j :=
  Pipeline.eq_sum_fin_of_reset_step_apply_last (fun n h => (outsAt0 m c n h).2) 16 (fun _ => (0 : EReal)) (part m c)
    (fun t h j => by
      rw [outsAt0_A m c t h (by have h16 : t.val < 16 := lt_of_lt_of_eq t.isLt N_0; omega)]; frame_out
      exact (gain_at _ _ j).trans (zero_add _).symm)
    (fun t h j => by
      rw [outsAt0_B m c t h (by omega)]; frame_out
      exact (add_at _ _ _ j).trans (congrArg (_ + ·) (gain_at _ _ j)))
    (le_of_eq N_0) t ht j

theorem whole (j : S8x1024.Idx) : ∑ p : Fin cfg0.N, part m c p j = goal1 m c (ix1 (j 1)) := by
  refine (Fin.sum_points_lanes_congr (A := 1) (L := 4096) 16
    (g := fun _ l => val_main_v12 (F := Ideal) (ax m c) (ix2 l (j 1)) * rd m c (ix2 l (j 1))) fun t k ha hl => ?_).trans ?_
  · refine (congrArg₂ (· * ·) (dh_eq m c t k (j 1)) (n_eq m c t k (j 1))).trans ((mul_comm _ _).trans ?_)
    have h16 : t.val < 16 := lt_of_lt_of_eq t.isLt N_0
    have e : row t k = ⟨_, hl⟩ := Fin.ext (by show t.val * 256 + k.val = t.val % 16 * 256 + k.val; omega)
    rw [e]
  · rw [Fin.sum_univ_one]
    exact (ref_gain _ _ _ _ _ (ix1 (j 1))).symm

theorem final0 : (dats m 0 c).arrAt 7 (cfgs 0).N = goal0 m c := by
  refine (dats m 0 c).arrAt_eq_of_covers 7 _ (by decide +kernel) fun t _ y => ?_
  have h16 : t.val < 16 := lt_of_lt_of_eq t.isLt N_0
  blk_simp
  rw [after0_7]
  refine (first_at m c t y).trans ?_
  have e : y = ix2 (y 0) (y 1) := by blk_ext [idx t]
  refine (congrArg _ e).trans ((dx_eq m c t (y 0) (y 1)).trans (congrArg (goal0 m c) ?_))
  blk_ext [idx t]

/-- The eight rows of the accumulated gradient of the gain. -/
abbrev rows : FVec Ideal S8x1024 .f32 := fun j => goal1 m c (ix1 (j 1))

theorem final1 : (dats m 0 c).arrAt 8 (cfgs 0).N = rows m c := by
  refine (dats m 0 c).arrAt_eq_of_after_last 8 t0_15 (by decide +kernel) _ fun j => ?_
  blk_simp
  rw [after0_8, sum_at m c t0_15 rfl j, zero_add, whole]

/-- After the call the host takes one row of the gradient of the gain. -/
theorem tail1 : Pipeline.afterTail₀ cfgs (dats m) 0 (V0 m) [hostOps1] c main_v9 = goal1 m c := by
  unfold Pipeline.afterTail₀
  simp only [List.flatten_cons, List.flatten_nil, List.append_nil]
  after_results
  refine (congrArg (fun X : FVec Ideal S8x1024 .f32 => shapeCast S1024 (extractStridedSlice S1x1024 ![0, 0] X slices_S8x1024_S1x1024_0_0) shapeCasts_S1x1024_S1024)
    ((Pipeline.withArrays_arr spec0 winFacts0.arr_inj c (V0 m c) (fun w => (dats m 0 c).arrAt w (cfgs 0).N) 8).trans (final1 m c))).trans (funext fun z => ?_)
  refine (first (rows m c) z).trans (congrArg (goal1 m c) (funext fun a => ?_))
  match a with
  | ⟨0, _⟩ => rfl

/-- The whole program writes the reference's results. -/
theorem run (g : Dev nD → PrngReg) :
    θ_run (defs (F := Ideal)) (onTc (τ := τ) (main (F := Ideal))) ⟨m, fun _ => 0, g⟩
    (fun r => ∀ c : Dev nD, r.2.mem ((c.tc : Thread nD τ).loc main_v7_0) = goal0 m c ∧ r.2.mem ((c.tc : Thread nD τ).loc main_v9) = goal1 m c) :=
  (θ_run _ _ _).mono (fun r h c => ⟨((h c).1 7).trans (final0 m c), ((h c).2 main_v9 (by decide)).trans (tail1 m c)⟩) (run_main m g)

end Grid

end Cert.Fdx

end
-- ==== Proof.Dwgu.lean ====
module

public import proofs.«01_k».proof.Proof.Gen.Kernel3Ideal.Frame
public import proofs.«01_k».proof.Proof.Gen.Reference3Ideal.Read
public import Idealize.ShloMosaic.Lib.Pipeline.ValueKit

/-! The weight gradient of a linear layer: the kernel adds up eight blocks of 512 tokens, the reference contracts the 4096 tokens at once. -/

@[expose] public section

set_option maxRecDepth 16384

noncomputable section

namespace Cert.Dwgu

open Idealize.ShloMosaic
open Cert.Kernel3Ideal Cert.Kernel3Ideal.Gen Idealize.ShloMosaic.TcCoe Idealize.SL.Sem
open Idealize.ShloMosaic.Pipeline (Dat)

/-- The accumulator starts at zero. -/
theorem zero_at (j : S2816x1024.Idx) : k0_pay1 (F := Ideal) j = 0 := by
  pointwise [k0_pay1]

/-- One block of tokens adds its product to the accumulator. -/
theorem add_at (acc : FVec Ideal S2816x1024 .f32) (x : FVec Ideal S512x2816 .bf16) (y : FVec Ideal S512x1024 .bf16) (j : S2816x1024.Idx) :
    k0_pay2 (F := Ideal) acc x y j = acc j + ∑ k : Fin 512, x (ix2 k (j 0)) * y (ix2 k (j 1)) := by
  pointwise [k0_pay2]

/-- Reading the whole scratch array gives what was put there. -/
theorem held (x : FVec Ideal S2816x1024 .f32) (h : (scM0_0).IsWhole) : scM0_0.view.read (Elt Ideal) (h.unread (Val := Elt Ideal) x) = x :=
  h.read_unread (Val := Elt Ideal) x

theorem idx : ∀ t : Fin cfg0.N, win0_0.index t = ![t.val, 0] ∧ win0_1.index t = ![t.val, 0] ∧ win0_2.index t = ![0, 0] :=
  (by decide +kernel : ∀ t : Fin grid0.N, _)

section Grid

variable (m : (ℓ : Loc nD τ sig) → Buf (Elt Ideal) ℓ) (c : Dev nD)

/-- The token block of the output gradient. -/
abbrev bx (t : Fin cfg0.N) : FVec Ideal S512x2816 .bf16 := iblk m c 0 t

/-- The token block of the layer's input. -/
abbrev by' (t : Fin cfg0.N) : FVec Ideal S512x1024 .bf16 := iblk m c 1 t

/-- What a grid point adds. -/
def part (t : Fin cfg0.N) (j : S2816x1024.Idx) : EReal := ∑ k : Fin 512, bx m c t (ix2 k (j 0)) * by' m c t (ix2 k (j 1))

theorem sum_at (t : Fin cfg0.N) (ht : t.val + 1 = cfg0.N) (j : S2816x1024.Idx) :
    (outsAt0 m c t.val t.isLt).2 j = 0 + ∑ p : Fin cfg0.N, part m c p j :=
  Pipeline.eq_sum_fin_of_reset_step_apply_last (fun n h => (outsAt0 m c n h).2) 8 (fun _ => (0 : EReal)) (part m c)
    (fun t h j => by
      rw [outsAt0_A m c t h (by omega)]; frame_out; exact (add_at _ _ _ j).trans (congrArg (· + _) (zero_at j)))
    (fun t h j => by
      by_cases h7 : t.val % 8 = 7
      · rw [outsAt0_C m c t h h7]; frame_out; exact (add_at _ _ _ j).trans (congrArg (· + part m c t j) (congrFun (held _ (Memref.isWhole_whole _)) j))
      · rw [outsAt0_B m c t h h7]; frame_out; exact (add_at _ _ _ j).trans (congrArg (· + part m c t j) (congrFun (held _ (Memref.isWhole_whole _)) j)))
    (le_of_eq N_0) t ht j

/-- The last point stores what the accumulator then holds. -/
theorem store_at (t : Fin cfg0.N) (h7 : t.val % 8 = 7) : (outsAt0 m c t.val t.isLt).1 = (outsAt0 m c t.val t.isLt).2 := by
  rw [outsAt0_C m c t (by omega) h7]; frame_out; rfl

/-- The layer's input and the gradient of its output. -/
abbrev inp : FVec Ideal S4096x1024 .f32 := m ((c : Thread nD τ).loc main_arg0)
abbrev gra : FVec Ideal S4096x2816 .f32 := m ((c : Thread nD τ).loc main_arg2)

theorem part_at (t : Fin cfg0.N) (j : S2816x1024.Idx) (k : Fin 512) (l : Fin 4096) (hl : l.val = t.val % 8 * 512 + k.val) :
    bx m c t (ix2 k (j 0)) * by' m c t (ix2 k (j 1)) = gra m c (ix2 l (j 0)) * inp m c (ix2 l (j 1)) := by
  have h8 : t.val < 8 := lt_of_lt_of_eq t.isLt N_0
  refine congrArg₂ (· * ·) ?_ ?_
  · show ((cfg0.win 0).blk t).view.read (Elt Ideal) (V m c main_v0) _ = _
    rw [show V m c main_v0 = gra m c by entry_read; rfl]
    blk_ext [idx t]
  · show ((cfg0.win 1).blk t).view.read (Elt Ideal) (V m c main_v1) _ = _
    rw [show V m c main_v1 = inp m c by entry_read; rfl]
    blk_ext [idx t]

theorem whole (j : S2816x1024.Idx) : ∑ p : Fin cfg0.N, part m c p j = ∑ l : Fin 4096, gra m c (ix2 l (j 0)) * inp m c (ix2 l (j 1)) := by
  refine (Fin.sum_points_lanes_congr (A := 1) (L := 4096) 8 (g := fun _ l => gra m c (ix2 l (j 0)) * inp m c (ix2 l (j 1)))
    fun t k ha hl => part_at m c t j k ⟨_, hl⟩ rfl).trans ?_
  rw [Fin.sum_univ_one]

theorem final : (dats m 0 c).arrAt 2 (cfgs 0).N = Cert.Reference3Ideal.Read.val_main_v1 (F := Ideal) (inp m c) (gra m c) := by
  refine (dats m 0 c).arrAt_eq_of_after_last 2 t0_7 (by decide +kernel) _ fun j => ?_
  blk_simp
  rw [after0_2, store_at m c t0_7 rfl, sum_at m c t0_7 rfl j, zero_add, Cert.Reference3Ideal.Read.val_main_v1_apply, whole]
  refine Fin.sum_fin_congr fun l => congrArg₂ (· * ·) (congrArg (gra m c) (funext fun a => ?_)) (congrArg (inp m c) (funext fun a => ?_)) <;>
  · match a with
    | ⟨0, _⟩ => rfl
    | ⟨1, _⟩ => rfl

abbrev goal : FVec Ideal S1024x2816 .f32 := Cert.Reference3Ideal.Read.val_main_v2 (F := Ideal) (inp m c) (gra m c)

/-- After the call the host widens and transposes. -/
theorem tail : Pipeline.afterTail₀ cfgs (dats m) 0 (V0 m) [hostOps1] c main_v4 = goal m c := by
  unfold Pipeline.afterTail₀
  simp only [List.flatten_cons, List.flatten_nil, List.append_nil]
  after_results
  exact congrArg (fun X : FVec Ideal S2816x1024 .bf16 => extf .f32 (transpose S1024x2816 [1, 0] X transposes_S2816x1024_S1024x2816_1_0) bitsLt_bf16_f32)
    ((Pipeline.withArrays_arr spec0 winFacts0.arr_inj c (V0 m c) _ 2).trans (final m c))

/-- The whole program writes the reference's result. -/
theorem run (g : Dev nD → PrngReg) : θ_run (defs (F := Ideal)) (onTc (τ := τ) (main (F := Ideal))) ⟨m, fun _ => 0, g⟩
    (fun r => ∀ c : Dev nD, r.2.mem ((c.tc : Thread nD τ).loc main_v4) = goal m c) :=
  (θ_run _ _ _).mono (fun r h c => ((h c).2 main_v4 (by decide)).trans (tail m c)) (run_main m g)

end Grid

end Cert.Dwgu

end
-- ==== Proof.Down.lean ====
module

public import proofs.«01_k».proof.Proof.Gen.Kernel4Ideal.Frame
public import proofs.«01_k».proof.Proof.Gen.Reference4Ideal.Read
public import Idealize.ShloMosaic.Lib.Pipeline.ValueKit

/-! The second matrix of the feed-forward network, with the residual: a grid point writes 512 tokens. -/

@[expose] public section

set_option maxRecDepth 16384

noncomputable section

namespace Cert.Down

open Idealize.ShloMosaic
open Cert.Kernel4Ideal Cert.Kernel4Ideal.Gen Idealize.ShloMosaic.TcCoe Idealize.SL.Sem
open Idealize.ShloMosaic.Pipeline (Dat)

/-- What the kernel writes into one block of 512 tokens. -/
theorem out_at (y : FVec Ideal S512x2816 .bf16) (w : FVec Ideal S2816x1024 .bf16) (x : FVec Ideal S512x1024 .f32) (j : S512x1024.Idx) :
    k0_pay1 (F := Ideal) y w x j = x j + FloatOps.ofBits .f32 0x3F000000#32 * ∑ k : Fin 2816, y (ix2 (j 0) k) * w (ix2 k (j 1)) := by
  pointwise [k0_pay1]

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

section Grid

variable (m : (ℓ : Loc nD τ sig) → Buf (Elt Ideal) ℓ) (c : Dev nD)

abbrev res : FVec Ideal S4096x1024 .f32 := m ((c : Thread nD τ).loc main_arg0)
abbrev act : FVec Ideal S4096x2816 .f32 := m ((c : Thread nD τ).loc main_arg1)
abbrev wgt : FVec Ideal S2816x1024 .f32 := m ((c : Thread nD τ).loc main_arg2)

abbrev goal : FVec Ideal S4096x1024 .f32 := Cert.Reference4Ideal.Read.val_main_v3 (F := Ideal) (res m c) (act m c) (wgt m c)

/-- The reference, element by element. -/
theorem goal_at (z : S4096x1024.Idx) :
    goal m c z = res m c z + FloatOps.ofBits .f32 0x3F000000#32 * ∑ k : Fin 2816, act m c (ix2 (z 0) k) * wgt m c (ix2 k (z 1)) := by
  show Cert.Reference4Ideal.Read.val_main_v3 (F := Ideal) _ _ _ z = _
  rw [Cert.Reference4Ideal.Read.val_main_v3_apply, Cert.Reference4Ideal.Read.val_main_v2_apply, Cert.Reference4Ideal.Read.val_main_v1_apply, Cert.Reference4Ideal.Read.val_main_cst_apply, Cert.Reference4Ideal.Read.val_main_v0_apply]
  refine congrArg (res m c z + ·) (congrArg (FloatOps.ofBits .f32 0x3F000000#32 * ·) (Fin.sum_fin_congr fun l => congrArg₂ (· * ·) (congrArg (act m c) (funext fun a => ?_)) (congrArg (wgt m c) (funext fun a => ?_)))) <;>
  · match a with
    | ⟨0, _⟩ => rfl
    | ⟨1, _⟩ => rfl

theorem final : (dats m 0 c).arrAt 3 (cfgs 0).N = goal m c := by
  refine (dats m 0 c).arrAt_eq_of_covers 3 _ (by decide +kernel) fun t _ y => ?_
  have h8 : t.val < 8 := lt_of_lt_of_eq t.isLt N_0
  blk_simp
  rw [after0_3]
  frame_out
  refine (out_at _ _ _ y).trans (Eq.trans ?_ (goal_at m c _).symm)
  refine congrArg₂ (· + ·) ?_ (congrArg (FloatOps.ofBits .f32 0x3F000000#32 * ·) (Fin.sum_fin_congr fun k => congrArg₂ (· * ·) ?_ ?_))
  · show ((cfg0.win 2).blk t).view.read (Elt Ideal) (V m c main_arg0) _ = _
    rw [show V m c main_arg0 = res m c by entry_read; rfl]
    blk_ext [idx t]
  · show ((cfg0.win 0).blk t).view.read (Elt Ideal) (V m c main_v0) _ = _
    rw [show V m c main_v0 = act m c by entry_read; rfl]
    blk_ext [idx t]
  · show ((cfg0.win 1).blk t).view.read (Elt Ideal) (V m c main_v1) _ = _
    rw [show V m c main_v1 = wgt m c by entry_read; rfl]
    blk_ext [idx t]

/-- The whole program writes the reference's result. -/
theorem run (g : Dev nD → PrngReg) : θ_run (defs (F := Ideal)) (onTc (τ := τ) (main (F := Ideal))) ⟨m, fun _ => 0, g⟩
    (fun r => ∀ c : Dev nD, r.2.mem ((c.tc : Thread nD τ).loc main_v2) = goal m c) :=
  (θ_run _ _ _).mono (fun r h c => ((h c).1 3).trans (final m c)) (run_main m g)

end Grid

end Cert.Down

end
-- ==== Proof.Dwd.lean ====
module

public import proofs.«01_k».proof.Proof.Gen.Kernel5Ideal.Frame
public import proofs.«01_k».proof.Proof.Gen.Reference5Ideal.Read
public import Idealize.ShloMosaic.Lib.Pipeline.ValueKit

/-! The weight gradient of a layer with a residual: the kernel adds up eight blocks of 512 tokens, the reference contracts the 4096 tokens at once. -/

@[expose] public section

set_option maxRecDepth 16384

noncomputable section

namespace Cert.Dwd

open Idealize.ShloMosaic
open Cert.Kernel5Ideal Cert.Kernel5Ideal.Gen Idealize.ShloMosaic.TcCoe Idealize.SL.Sem
open Idealize.ShloMosaic.Pipeline (Dat)

/-- Multiplication by one half distributes over a sum of extended reals. -/
theorem half_sum {n : ℕ} (f : Fin n → EReal) :
    FloatOps.ofBits (F := Ideal) .f32 0x3F000000#32 * ∑ k : Fin n, f k = ∑ k : Fin n, FloatOps.ofBits (F := Ideal) .f32 0x3F000000#32 * f k := by
  have h : FloatOps.ofBits (F := Ideal) .f32 0x3F000000#32 = ((1 / 2 : ℝ) : EReal) := by
    simp [Ideal.ofBits, Ideal.ieee, -EReal.coe_mul]; norm_num
  have h0 : (0 : ℝ) ≤ 1 / 2 := by norm_num
  rw [h]
  induction n with
  | zero => rw [Fin.sum_univ_zero, Fin.sum_univ_zero, mul_zero]
  | succ n ih =>
    rw [Fin.sum_univ_castSucc, Fin.sum_univ_castSucc, EReal.left_distrib_of_nonneg_of_ne_top (EReal.coe_nonneg.mpr h0) (EReal.coe_ne_top _), ih]

/-- Half of an extended real. -/
abbrev half (x : EReal) : EReal := FloatOps.ofBits (F := Ideal) .f32 0x3F000000#32 * x

/-- The accumulator starts at zero. -/
theorem zero_at (j : S2816x1024.Idx) : k0_pay1 (F := Ideal) j = 0 := by
  pointwise [k0_pay1]

/-- One block of tokens adds its product to the accumulator. -/
theorem add_at (acc : FVec Ideal S2816x1024 .f32) (x : FVec Ideal S512x2816 .bf16) (y : FVec Ideal S512x1024 .f32) (j : S2816x1024.Idx) :
    k0_pay2 (F := Ideal) acc x y j = acc j + ∑ k : Fin 512, x (ix2 k (j 0)) * y (ix2 k (j 1)) := by
  pointwise [k0_pay2]

/-- Reading the whole scratch array gives what was put there. -/
theorem held (x : FVec Ideal S2816x1024 .f32) (h : (scM0_0).IsWhole) : scM0_0.view.read (Elt Ideal) (h.unread (Val := Elt Ideal) x) = x :=
  h.read_unread (Val := Elt Ideal) x

theorem idx : ∀ t : Fin cfg0.N, win0_0.index t = ![t.val, 0] ∧ win0_1.index t = ![t.val, 0] ∧ win0_2.index t = ![0, 0] :=
  (by decide +kernel : ∀ t : Fin grid0.N, _)

section Grid

variable (m : (ℓ : Loc nD τ sig) → Buf (Elt Ideal) ℓ) (c : Dev nD)

/-- The token block of the layer's input. -/
abbrev bx (t : Fin cfg0.N) : FVec Ideal S512x2816 .bf16 := iblk m c 0 t

/-- The token block of the output gradient. -/
abbrev by' (t : Fin cfg0.N) : FVec Ideal S512x1024 .f32 := iblk m c 1 t

/-- What a grid point adds. -/
def part (t : Fin cfg0.N) (j : S2816x1024.Idx) : EReal := ∑ k : Fin 512, bx m c t (ix2 k (j 0)) * by' m c t (ix2 k (j 1))

theorem sum_at (t : Fin cfg0.N) (ht : t.val + 1 = cfg0.N) (j : S2816x1024.Idx) :
    (outsAt0 m c t.val t.isLt).2 j = 0 + ∑ p : Fin cfg0.N, part m c p j :=
  Pipeline.eq_sum_fin_of_reset_step_apply_last (fun n h => (outsAt0 m c n h).2) 8 (fun _ => (0 : EReal)) (part m c)
    (fun t h j => by
      rw [outsAt0_A m c t h (by omega)]; frame_out; exact (add_at _ _ _ j).trans (congrArg (· + _) (zero_at j)))
    (fun t h j => by
      by_cases h7 : t.val % 8 = 7
      · rw [outsAt0_C m c t h h7]; frame_out; exact (add_at _ _ _ j).trans (congrArg (· + part m c t j) (congrFun (held _ (Memref.isWhole_whole _)) j))
      · rw [outsAt0_B m c t h h7]; frame_out; exact (add_at _ _ _ j).trans (congrArg (· + part m c t j) (congrFun (held _ (Memref.isWhole_whole _)) j)))
    (le_of_eq N_0) t ht j

/-- The last point stores half of what the accumulator then holds. -/
theorem store_at (t : Fin cfg0.N) (h7 : t.val % 8 = 7) (j : S2816x1024.Idx) :
    (outsAt0 m c t.val t.isLt).1 j = half ((outsAt0 m c t.val t.isLt).2 j) := by
  rw [outsAt0_C m c t (by omega) h7]; frame_out; rfl

/-- The layer's input and the gradient of its output. -/
abbrev inp : FVec Ideal S4096x2816 .f32 := m ((c : Thread nD τ).loc main_arg1)
abbrev gra : FVec Ideal S4096x1024 .f32 := m ((c : Thread nD τ).loc main_arg3)

theorem part_at (t : Fin cfg0.N) (j : S2816x1024.Idx) (k : Fin 512) (l : Fin 4096) (hl : l.val = t.val % 8 * 512 + k.val) :
    bx m c t (ix2 k (j 0)) * by' m c t (ix2 k (j 1)) = inp m c (ix2 l (j 0)) * gra m c (ix2 l (j 1)) := by
  have h8 : t.val < 8 := lt_of_lt_of_eq t.isLt N_0
  refine congrArg₂ (· * ·) ?_ ?_
  · show ((cfg0.win 0).blk t).view.read (Elt Ideal) (V m c main_v0) _ = _
    rw [show V m c main_v0 = inp m c by entry_read; rfl]
    blk_ext [idx t]
  · show ((cfg0.win 1).blk t).view.read (Elt Ideal) (V m c main_arg3) _ = _
    rw [show V m c main_arg3 = gra m c by entry_read; rfl]
    blk_ext [idx t]

theorem whole (j : S2816x1024.Idx) : ∑ p : Fin cfg0.N, part m c p j = ∑ l : Fin 4096, inp m c (ix2 l (j 0)) * gra m c (ix2 l (j 1)) := by
  refine (Fin.sum_points_lanes_congr (A := 1) (L := 4096) 8 (g := fun _ l => inp m c (ix2 l (j 0)) * gra m c (ix2 l (j 1)))
    fun t k ha hl => part_at m c t j k ⟨_, hl⟩ rfl).trans ?_
  rw [Fin.sum_univ_one]

abbrev goal : FVec Ideal S2816x1024 .f32 := Cert.Reference5Ideal.Read.val_main_v7 (F := Ideal) (inp m c) (gra m c)

/-- The reference, element by element. -/
theorem goal_at (z : S2816x1024.Idx) : goal m c z = FloatOps.ofBits .f32 0x3F000000#32 * ∑ l : Fin 4096, inp m c (ix2 l (z 0)) * gra m c (ix2 l (z 1)) := by
  show Cert.Reference5Ideal.Read.val_main_v7 (F := Ideal) _ _ z = _
  rw [Cert.Reference5Ideal.Read.val_main_v7_apply, Cert.Reference5Ideal.Read.val_main_v6_apply, half_sum]
  refine Fin.sum_fin_congr fun l => (mul_comm _ _).trans ?_
  refine (congrArg (_ * ·) ((Cert.Reference5Ideal.Read.val_main_v5_apply _ _).trans rfl)).trans ((mul_left_comm _ _ _).trans (congrArg (_ * ·) ?_))
  refine congrArg₂ (· * ·) (congrArg (inp m c) (funext fun a => ?_)) (congrArg (gra m c) (funext fun a => ?_)) <;>
  · match a with
    | ⟨0, _⟩ => rfl
    | ⟨1, _⟩ => rfl

theorem final : (dats m 0 c).arrAt 2 (cfgs 0).N = goal m c := by
  refine (dats m 0 c).arrAt_eq_of_after_last 2 t0_7 (by decide +kernel) _ fun j => ?_
  blk_simp
  refine Eq.trans ?_ (goal_at m c _).symm
  rw [after0_2, store_at m c t0_7 rfl, sum_at m c t0_7 rfl j, zero_add, whole]

/-- After the call the host widens. -/
theorem tail : Pipeline.afterTail₀ cfgs (dats m) 0 (V0 m) [hostOps1] c main_v2 = goal m c := by
  unfold Pipeline.afterTail₀
  simp only [List.flatten_cons, List.flatten_nil, List.append_nil]
  after_results
  exact congrArg (fun X : FVec Ideal S2816x1024 .bf16 => extf .f32 X bitsLt_bf16_f32)
    ((Pipeline.withArrays_arr spec0 winFacts0.arr_inj c (V0 m c) _ 2).trans (final m c))

/-- The whole program writes the reference's result. -/
theorem run (g : Dev nD → PrngReg) : θ_run (defs (F := Ideal)) (onTc (τ := τ) (main (F := Ideal))) ⟨m, fun _ => 0, g⟩
    (fun r => ∀ c : Dev nD, r.2.mem ((c.tc : Thread nD τ).loc main_v2) = goal m c) :=
  (θ_run _ _ _).mono (fun r h c => ((h c).2 main_v2 (by decide)).trans (tail m c)) (run_main m g)

end Grid

end Cert.Dwd

end
-- ==== Proof.Dact.lean ====
module

public import proofs.«01_k».proof.Proof.Gen.Kernel6Ideal.Frame
public import proofs.«01_k».proof.Proof.Gen.Reference6Ideal.Read
public import proofs.«01_k».proof.Proof.Gen.Pre_finite6
public import proofs.«01_k».proof.Proof.Finite
public import proofs.«01_k».proof.Proof.Norm
public import proofs.«01_k».proof.Proof.Dwd
public import Idealize.ShloMosaic.Lib.Pipeline.ValueKit

/-! The gradients of the gate and of the up projection: the kernel halves the product with the turned down projection and multiplies by the two factors the host has made, the reference halves first and pulls the result back through the activation. -/

@[expose] public section

set_option maxRecDepth 16384

noncomputable section

namespace Cert.Dact

open Idealize.ShloMosaic
open Cert.Kernel6Ideal Cert.Kernel6Ideal.Gen Idealize.ShloMosaic.TcCoe Idealize.SL.Sem
open Idealize.ShloMosaic.Pipeline (Dat)
open Cert.Norm
open Cert.Reference6Ideal.Read (val_main_v0_0 val_main_v0_1 val_main_v0_2 val_main_v8 val_main_v9 val_main_v11)

/-! ## The formulas -/

theorem da_at (o : FVec Ideal S512x1024 .f32) (w : FVec Ideal S2816x1024 .bf16) (j : S512x2816.Idx) :
    k0_pay1 (F := Ideal) o w j = Cert.Dwd.half (∑ k : Fin 1024, o (ix2 (j 0) k) * w (ix2 (j 1) k)) := by
  pointwise [k0_pay1]
  rfl

theorem dgate_at (o : FVec Ideal S512x1024 .f32) (w : FVec Ideal S2816x1024 .bf16) (f : FVec Ideal S512x2816 .bf16) (j : S512x2816.Idx) :
    k0_pay2 (F := Ideal) o w f j = k0_pay1 (F := Ideal) o w j * f j := by
  pointwise [k0_pay2]

theorem dup_at (o : FVec Ideal S512x1024 .f32) (w : FVec Ideal S2816x1024 .bf16) (f : FVec Ideal S512x2816 .bf16) (j : S512x2816.Idx) :
    k0_pay3 (F := Ideal) o w f j = k0_pay1 (F := Ideal) o w j * f j := by
  pointwise [k0_pay3]

theorem ref_da (w : FVec Ideal S2816x1024 .f32) (o : FVec Ideal S4096x1024 .f32) (z : S4096x2816.Idx) :
    val_main_v8 (F := Ideal) w o z = ∑ k : Fin 1024, Cert.Dwd.half (o (ix2 (z 0) k)) * w (ix2 (z 1) k) := by
  pointwise [val_main_v8, Cert.Reference6Ideal.Read.val_main_v7, Cert.Reference6Ideal.Read.val_main_v6, Cert.Reference6Ideal.Read.val_main_cst_0]
  rfl

theorem ref_sig (a : FVec Ideal S4096x2816 .f32) (z : S4096x2816.Idx) : val_main_v0_2 (F := Ideal) a z = sig (a z) := by
  pointwise [Cert.Reference6Ideal.Read.val_main_v0_2, Cert.Reference6Ideal.Read.val_main_call0_v0, Cert.Reference6Ideal.Read.val_main_call0_v1, Cert.Reference6Ideal.Read.val_main_call0_v2,
    Cert.Reference6Ideal.Read.val_main_call0_v3, Cert.Reference6Ideal.Read.val_main_call0_v4, Cert.Reference6Ideal.Read.val_main_call0_cst, Cert.Reference6Ideal.Read.val_main_call0_cst_0]
  exact sig_lit _

theorem ref_one (z : S4096x2816.Idx) : Cert.Reference6Ideal.Read.val_main_call0_v6 (F := Ideal) z = one := by
  pointwise [Cert.Reference6Ideal.Read.val_main_call0_v6, Cert.Reference6Ideal.Read.val_main_call0_cst_1]

theorem ref_bend (a : FVec Ideal S4096x2816 .f32) (z : S4096x2816.Idx) : val_main_v0_1 (F := Ideal) a z = sig (a z) * (one - sig (a z)) :=
  congrArg₂ (· * ·) (ref_sig a z) (congrArg₂ (· - ·) (ref_one z) (ref_sig a z))

theorem ref_dgate (a u : FVec Ideal S4096x2816 .f32) (w : FVec Ideal S2816x1024 .f32) (o : FVec Ideal S4096x1024 .f32) (z : S4096x2816.Idx) :
    val_main_v11 (F := Ideal) a u w o z = val_main_v8 (F := Ideal) w o z * u z * sig (a z)
      + a z * (val_main_v8 (F := Ideal) w o z * u z) * (sig (a z) * (one - sig (a z))) :=
  congrArg₂ (· + ·) (congrArg (val_main_v8 (F := Ideal) w o z * u z * ·) (ref_sig a z)) (congrArg (a z * (val_main_v8 (F := Ideal) w o z * u z) * ·) (ref_bend a z))

theorem ref_dup (a : FVec Ideal S4096x2816 .f32) (w : FVec Ideal S2816x1024 .f32) (o : FVec Ideal S4096x1024 .f32) (z : S4096x2816.Idx) :
    val_main_v9 (F := Ideal) a w o z = val_main_v0_0 (F := Ideal) a z * val_main_v8 (F := Ideal) w o z := rfl

/-- The factor of the gate's gradient, as the host makes it. -/
abbrev slope (a u : FVec Ideal S4096x2816 .f32) : FVec Ideal S4096x2816 .f32 :=
  addf (mulf u (val_main_v0_2 (F := Ideal) a)) (mulf (mulf a u) (val_main_v0_1 (F := Ideal) a))

theorem slope_at (a u : FVec Ideal S4096x2816 .f32) (z : S4096x2816.Idx) :
    slope a u z = u z * sig (a z) + a z * u z * (sig (a z) * (one - sig (a z))) :=
  congrArg₂ (· + ·) (congrArg (u z * ·) (ref_sig a z)) (congrArg (a z * u z * ·) (ref_bend a z))

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] :=
  (by decide +kernel : ∀ t : Fin grid0.N, _)

section Grid

variable (m : (ℓ : Loc nD τ sig) → Buf (Elt Ideal) ℓ) (c : Dev nD)

abbrev ax : FVec Ideal S4096x1024 .f32 := m ((c : Thread nD τ).loc main_arg0)
abbrev aa : FVec Ideal S4096x2816 .f32 := m ((c : Thread nD τ).loc main_arg1)
abbrev au : FVec Ideal S4096x2816 .f32 := m ((c : Thread nD τ).loc main_arg2)
abbrev aw : FVec Ideal S2816x1024 .f32 := m ((c : Thread nD τ).loc main_arg3)
abbrev ao : FVec Ideal S4096x1024 .f32 := m ((c : Thread nD τ).loc main_arg4)

abbrev goal0 : FVec Ideal S4096x2816 .f32 := val_main_v11 (F := Ideal) (aa m c) (au m c) (aw m c) (ao m c)
abbrev goal1 : FVec Ideal S4096x2816 .f32 := val_main_v9 (F := Ideal) (aa m c) (aw m c) (ao m c)

/-- Every element of the three arguments is a finite number. -/
structure Fin3 : Prop where
  h2 : ∀ i, au m c i = ((au m c i).toReal : EReal)
  h3 : ∀ i, aw m c i = ((aw m c i).toReal : EReal)
  h4 : ∀ i, ao m c i = ((ao m c i).toReal : EReal)

theorem finite_of (h : Cert.Pre_finite6.fn (F := Ideal) (ax m c) (aa m c) (au m c) (aw m c) (ao m c) = fun _ => 1#1) : Fin3 m c := by
  have e := congrFun h (fun k => k.elim0)
  unfold Cert.Pre_finite6.fn at e
  dsimp only at e
  obtain ⟨e, e3⟩ := IntOp.andi_eq_one.1 e
  obtain ⟨e1, e2⟩ := IntOp.andi_eq_one.1 e
  exact
    { h2 := fun i => Dil.real_of_lt _ _ i (Host.reduce_andi_all _ _ _ _ _ e1 i)
      h3 := fun i => Dil.real_of_lt _ _ i (Host.reduce_andi_all _ _ _ _ _ e2 i)
      h4 := fun i => Dil.real_of_lt _ _ i (Host.reduce_andi_all _ _ _ _ _ e3 i) }

abbrev bo (t : Fin cfg0.N) : FVec Ideal S512x1024 .f32 := iblk m c 0 t
abbrev bw (t : Fin cfg0.N) : FVec Ideal S2816x1024 .bf16 := iblk m c 1 t
abbrev bs (t : Fin cfg0.N) : FVec Ideal S512x2816 .bf16 := iblk m c 2 t
abbrev bf (t : Fin cfg0.N) : FVec Ideal S512x2816 .bf16 := iblk m c 3 t

/-- The row of the whole array that a grid point's row is. -/
abbrev row (t : Fin cfg0.N) (i : Fin 512) : Fin 4096 :=
  ⟨t.val * 512 + i.val, by have h := lt_of_lt_of_eq t.isLt N_0; have h' := i.isLt; omega⟩

theorem bo_at (t : Fin cfg0.N) (i : Fin 512) (k : Fin 1024) : bo m c t (ix2 i k) = ao m c (ix2 (row t i) k) := by
  show ((cfg0.win 0).blk t).view.read (Elt Ideal) (V m c main_arg4) _ = _
  rw [show V m c main_arg4 = ao m c by entry_read; rfl]
  blk_ext [idx t]

theorem bw_at (t : Fin cfg0.N) (n : Fin 2816) (k : Fin 1024) : bw m c t (ix2 n k) = aw m c (ix2 n k) := by
  show ((cfg0.win 1).blk t).view.read (Elt Ideal) (V m c main_v1) _ = _
  rw [show V m c main_v1 = aw m c by entry_read; rfl]
  blk_ext [idx t]

theorem bs_at (t : Fin cfg0.N) (j : S512x2816.Idx) : bs m c t j = val_main_v0_0 (F := Ideal) (aa m c) (ix2 (row t (j 0)) (j 1)) := by
  show ((cfg0.win 2).blk t).view.read (Elt Ideal) (V m c main_v2) _ = _
  rw [show V m c main_v2 = val_main_v0_0 (F := Ideal) (aa m c) by entry_read; rfl]
  blk_ext [idx t]

theorem bf_at (t : Fin cfg0.N) (j : S512x2816.Idx) : bf m c t j = slope (aa m c) (au m c) (ix2 (row t (j 0)) (j 1)) := by
  show ((cfg0.win 3).blk t).view.read (Elt Ideal) (V m c main_v4) _ = _
  rw [show V m c main_v4 = slope (aa m c) (au m c) by entry_read; rfl]
  generalize slope (aa m c) (au m c) = X
  blk_ext [idx t]

/-- The gradient of the activation. -/
theorem da_eq (t : Fin cfg0.N) (j : S512x2816.Idx) :
    k0_pay1 (F := Ideal) (bo m c t) (bw m c t) j = val_main_v8 (F := Ideal) (aw m c) (ao m c) (ix2 (row t (j 0)) (j 1)) := by
  refine (da_at _ _ j).trans ((Cert.Dwd.half_sum _).trans (Eq.trans ?_ (ref_da _ _ _).symm))
  exact Fin.sum_fin_congr fun k => (congrArg Cert.Dwd.half (congrArg₂ (· * ·) (bo_at m c t (j 0) k) (bw_at m c t (j 1) k))).trans (mul_assoc _ _ _).symm

theorem da_real (H : Fin3 m c) (z : S4096x2816.Idx) : ∃ r : ℝ, val_main_v8 (F := Ideal) (aw m c) (ao m c) z = (r : EReal) := by
  have e1 := Dil.dot_r (fun k : Fin 1024 => Cert.Dwd.half (ao m c (ix2 (z 0) k))) (fun k => aw m c (ix2 (z 1) k)) (fun k => 1 / 2 * (ao m c (ix2 (z 0) k)).toReal) _
    (fun k => (congrArg₂ (· * ·) hlf_r (H.h4 _)).trans (EReal.coe_mul _ _).symm) fun k => H.h3 _
  exact ⟨_, (ref_da _ _ z).trans e1⟩

theorem final0 (H : Fin3 m c) : (dats m 0 c).arrAt 4 (cfgs 0).N = goal0 m c := by
  refine (dats m 0 c).arrAt_eq_of_covers 4 _ (by decide +kernel) fun t _ y => ?_
  have h8 : t.val < 8 := lt_of_lt_of_eq t.isLt N_0
  blk_simp
  rw [after0_4]
  frame_out
  refine (dgate_at (bo m c t) (bw m c t) (bf m c t) y).trans ((congrArg₂ (· * ·) (da_eq m c t y) ((bf_at m c t y).trans (slope_at _ _ _))).trans ?_)
  refine Eq.trans ?_ ((ref_dgate _ _ _ _ (ix2 (row t (y 0)) (y 1))).symm.trans (congrArg (goal0 m c) ?_))
  · obtain ⟨d, hd⟩ := da_real m c H (ix2 (row t (y 0)) (y 1))
    rw [hd, H.h2 (ix2 (row t (y 0)) (y 1))]
    exact spread d _ _
  · blk_ext [idx t]

theorem final1 : (dats m 0 c).arrAt 5 (cfgs 0).N = goal1 m c := by
  refine (dats m 0 c).arrAt_eq_of_covers 5 _ (by decide +kernel) fun t _ y => ?_
  have h8 : t.val < 8 := lt_of_lt_of_eq t.isLt N_0
  blk_simp
  rw [after0_5]
  frame_out
  refine (dup_at (bo m c t) (bw m c t) (bs m c t) y).trans ((congrArg₂ (· * ·) (da_eq m c t y) (bs_at m c t y)).trans ((mul_comm _ _).trans ?_))
  refine (ref_dup _ _ _ (ix2 (row t (y 0)) (y 1))).symm.trans (congrArg (goal1 m c) ?_)
  blk_ext [idx t]

/-- After the call the host widens the two results. -/
theorem tail0 (H : Fin3 m c) : Pipeline.afterTail₀ cfgs (dats m) 0 (V0 m) [hostOps1] c main_v6 = goal0 m c := by
  unfold Pipeline.afterTail₀
  simp only [List.flatten_cons, List.flatten_nil, List.append_nil]
  after_results
  exact congrArg (fun X : FVec Ideal S4096x2816 .bf16 => extf .f32 X bitsLt_bf16_f32)
    ((Pipeline.withArrays_arr spec0 winFacts0.arr_inj c (V0 m c) _ 4).trans (final0 m c H))

theorem tail1 : Pipeline.afterTail₀ cfgs (dats m) 0 (V0 m) [hostOps1] c main_v7 = goal1 m c := by
  unfold Pipeline.afterTail₀
  simp only [List.flatten_cons, List.flatten_nil, List.append_nil]
  after_results
  exact congrArg (fun X : FVec Ideal S4096x2816 .bf16 => extf .f32 X bitsLt_bf16_f32)
    ((Pipeline.withArrays_arr spec0 winFacts0.arr_inj c (V0 m c) _ 5).trans (final1 m c))

/-- The whole program writes the reference's results. -/
theorem run (H : ∀ c, Fin3 m c) (g : Dev nD → PrngReg) :
    θ_run (defs (F := Ideal)) (onTc (τ := τ) (main (F := Ideal))) ⟨m, fun _ => 0, g⟩
    (fun r => ∀ c : Dev nD, r.2.mem ((c.tc : Thread nD τ).loc main_v6) = goal0 m c ∧ r.2.mem ((c.tc : Thread nD τ).loc main_v7) = goal1 m c) :=
  (θ_run _ _ _).mono (fun r h c => ⟨((h c).2 main_v6 (by decide)).trans (tail0 m c (H c)), ((h c).2 main_v7 (by decide)).trans (tail1 m c)⟩) (run_main m g)

end Grid

end Cert.Dact

end
-- ==== Proof.Fup.lean ====
module

public import proofs.«01_k».proof.Proof.Gen.Kernel7Ideal.Frame
public import proofs.«01_k».proof.Proof.Gen.Reference7Ideal.Read
public import proofs.«01_k».proof.Proof.Gen.Pre_finite7
public import proofs.«01_k».proof.Proof.Finite
public import proofs.«01_k».proof.Proof.Norm
public import Idealize.ShloMosaic.Lib.Pipeline.ValueKit

/-! The first half of the feed-forward network: norm, gate, up projection, activation, and the values saved for the backward pass. -/

@[expose] public section

set_option maxRecDepth 16384

noncomputable section

namespace Cert.Fup

open Idealize.ShloMosaic
open Cert.Kernel7Ideal Cert.Kernel7Ideal.Gen Idealize.ShloMosaic.TcCoe Idealize.SL.Sem
open Idealize.ShloMosaic.Pipeline (Dat)
open Cert.Norm
open Cert.Reference7Ideal.Read (val_main_v12 val_main_v13 val_main_v14 val_main_v15_0 val_main_v15_1 val_main_v15_2 val_main_v16 val_main_v17)

/-! ## The kernel's formulas -/

theorem h_at (x : FVec Ideal S256x1024 .f32) (g : FVec Ideal S1x1024 .f32) (j : S256x1024.Idx) :
    k0_pay3 (F := Ideal) x g j = x j * Ideal.rsqrt (ms fun k => x (ix2 (j 0) k)) * g (ix2 0 (j 1)) := by
  pointwise [k0_pay3]
  rfl

theorem gate_at (x : FVec Ideal S256x1024 .f32) (g : FVec Ideal S1x1024 .f32) (w : FVec Ideal S2816x1024 .bf16) (j : S256x2816.Idx) :
    k0_pay4 (F := Ideal) x g w j = ∑ k : Fin 1024, (k0_pay3 (F := Ideal) x g (ix2 (j 0) k) : EReal) * w (ix2 (j 1) k) := by
  pointwise [k0_pay4]

theorem up_at (x : FVec Ideal S256x1024 .f32) (g : FVec Ideal S1x1024 .f32) (w : FVec Ideal S2816x1024 .bf16) (j : S256x2816.Idx) :
    k0_pay5 (F := Ideal) x g w j = ∑ k : Fin 1024, (k0_pay3 (F := Ideal) x g (ix2 (j 0) k) : EReal) * w (ix2 (j 1) k) := by
  pointwise [k0_pay5]

theorem sig_at (x : FVec Ideal S256x1024 .f32) (g : FVec Ideal S1x1024 .f32) (w : FVec Ideal S2816x1024 .bf16) (j : S256x2816.Idx) :
    k0_pay6 (F := Ideal) x g w j = sig (k0_pay4 (F := Ideal) x g w j) := by
  refine Eq.trans ?_ (sig_tanh _)
  pointwise [k0_pay6]

theorem sil_at (x : FVec Ideal S256x1024 .f32) (g : FVec Ideal S1x1024 .f32) (w : FVec Ideal S2816x1024 .bf16) (j : S256x2816.Idx) :
    k0_pay7 (F := Ideal) x g w j = k0_pay4 (F := Ideal) x g w j * sig (k0_pay4 (F := Ideal) x g w j) :=
  congrArg (k0_pay4 (F := Ideal) x g w j * ·) (sig_at x g w j)

theorem up_name (x : FVec Ideal S256x1024 .f32) (w v : FVec Ideal S2816x1024 .bf16) (g : FVec Ideal S1x1024 .f32) :
    k0_pay11 (F := Ideal) x w v g = k0_pay5 (F := Ideal) x g v := by
  unfold k0_pay11
  simp (disch := decide) only [View.ld_unit_lit]

theorem act_at (u s : FVec Ideal S256x2816 .f32) (j : S256x2816.Idx) : k0_pay2 (F := Ideal) u s j = s j * u j := rfl

theorem dsil_at (u : FVec Ideal S256x2816 .f32) (x : FVec Ideal S256x1024 .f32) (g : FVec Ideal S1x1024 .f32) (w : FVec Ideal S2816x1024 .bf16) (j : S256x2816.Idx) :
    k0_pay1 (F := Ideal) u (k0_pay6 (F := Ideal) x g w) (k0_pay9 (F := Ideal) x g w) (k0_pay10 (F := Ideal)) j
      = u j * (sig (k0_pay4 (F := Ideal) x g w j) * (one + k0_pay4 (F := Ideal) x g w j * (one - sig (k0_pay4 (F := Ideal) x g w j)))) := by
  rw [← sig_at]
  rfl

/-! ## The reference's formulas -/

theorem ref_h (x : FVec Ideal S4096x1024 .f32) (g : FVec Ideal S1024 .f32) (z : S4096x1024.Idx) :
    val_main_v12 (F := Ideal) x g z = x z * Ideal.rsqrt (ms fun k => x (ix2 (z 0) k)) * g (ix1 (z 1)) := by
  pointwise [Cert.Reference7Ideal.Read.val_main_v12, Cert.Reference7Ideal.Read.val_main_v11, Cert.Reference7Ideal.Read.val_main_v10, Cert.Reference7Ideal.Read.val_main_v9,
    Cert.Reference7Ideal.Read.val_main_v8, Cert.Reference7Ideal.Read.val_main_v7, Cert.Reference7Ideal.Read.val_main_v6, Cert.Reference7Ideal.Read.val_main_v5,
    Cert.Reference7Ideal.Read.val_main_v4, Cert.Reference7Ideal.Read.val_main_v3, Cert.Reference7Ideal.Read.val_main_v2, Cert.Reference7Ideal.Read.val_main_v1,
    Cert.Reference7Ideal.Read.val_main_v0, Cert.Reference7Ideal.Read.val_main_cst, Cert.Reference7Ideal.Read.val_main_cst_0, Cert.Reference7Ideal.Read.val_main_cst_1]
  rfl

theorem ref_up (x : FVec Ideal S4096x1024 .f32) (g : FVec Ideal S1024 .f32) (w : FVec Ideal S1024x2816 .f32) (z : S4096x2816.Idx) :
    val_main_v13 (F := Ideal) x g w z = ∑ k : Fin 1024, val_main_v12 (F := Ideal) x g (ix2 (z 0) k) * w (ix2 k (z 1)) := by
  pointwise [Cert.Reference7Ideal.Read.val_main_v13]

theorem ref_gate (x : FVec Ideal S4096x1024 .f32) (g : FVec Ideal S1024 .f32) (w : FVec Ideal S1024x2816 .f32) (z : S4096x2816.Idx) :
    val_main_v14 (F := Ideal) x g w z = ∑ k : Fin 1024, val_main_v12 (F := Ideal) x g (ix2 (z 0) k) * w (ix2 k (z 1)) := by
  pointwise [Cert.Reference7Ideal.Read.val_main_v14]

theorem ref_sig (x : FVec Ideal S4096x1024 .f32) (g : FVec Ideal S1024 .f32) (w : FVec Ideal S1024x2816 .f32) (z : S4096x2816.Idx) :
    val_main_v15_2 (F := Ideal) x g w z = sig (val_main_v14 (F := Ideal) x g w z) := by
  pointwise [Cert.Reference7Ideal.Read.val_main_v15_2, Cert.Reference7Ideal.Read.val_main_call0_v0, Cert.Reference7Ideal.Read.val_main_call0_v1, Cert.Reference7Ideal.Read.val_main_call0_v2,
    Cert.Reference7Ideal.Read.val_main_call0_v3, Cert.Reference7Ideal.Read.val_main_call0_v4, Cert.Reference7Ideal.Read.val_main_call0_cst, Cert.Reference7Ideal.Read.val_main_call0_cst_0]
  exact sig_lit _

theorem ref_sil (x : FVec Ideal S4096x1024 .f32) (g : FVec Ideal S1024 .f32) (w : FVec Ideal S1024x2816 .f32) (z : S4096x2816.Idx) :
    val_main_v15_0 (F := Ideal) x g w z = val_main_v14 (F := Ideal) x g w z * sig (val_main_v14 (F := Ideal) x g w z) :=
  congrArg (val_main_v14 (F := Ideal) x g w z * ·) (ref_sig x g w z)

theorem ref_one (z : S4096x2816.Idx) : Cert.Reference7Ideal.Read.val_main_call0_v6 (F := Ideal) z = one := by
  pointwise [Cert.Reference7Ideal.Read.val_main_call0_v6, Cert.Reference7Ideal.Read.val_main_call0_cst_1]

theorem ref_dsil (x : FVec Ideal S4096x1024 .f32) (g : FVec Ideal S1024 .f32) (w v : FVec Ideal S1024x2816 .f32) (z : S4096x2816.Idx) :
    val_main_v16 (F := Ideal) x g w v z = val_main_v13 (F := Ideal) x g v z * sig (val_main_v14 (F := Ideal) x g w z)
      + val_main_v14 (F := Ideal) x g w z * val_main_v13 (F := Ideal) x g v z * (sig (val_main_v14 (F := Ideal) x g w z) * (one - sig (val_main_v14 (F := Ideal) x g w z))) := by
  rw [← ref_sig, ← ref_one z]
  rfl

/-! ## Finite arguments -/

/-- Every element of the gain and of the up projection is a finite number. -/
structure Fin2 (g : FVec Ideal S1024 .f32) (v : FVec Ideal S1024x2816 .f32) : Prop where
  h1 : ∀ i, g i = ((g i).toReal : EReal)
  h3 : ∀ i, v i = ((v i).toReal : EReal)

theorem h_real (x : FVec Ideal S4096x1024 .f32) (g : FVec Ideal S1024 .f32) (v : FVec Ideal S1024x2816 .f32) (H : Fin2 g v) (z : S4096x1024.Idx) :
    ∃ a : ℝ, val_main_v12 (F := Ideal) x g z = (a : EReal) := by
  obtain ⟨a, ha⟩ := n_real (fun k => x (ix2 (z 0) k)) (z 1)
  refine ⟨a * (g (ix1 (z 1))).toReal, (ref_h x g z).trans ?_⟩
  rw [EReal.coe_mul, ← ha, ← H.h1]
  exact congrArg (fun i => x i * _ * _) (funext fun b => match b with
    | ⟨0, _⟩ => rfl
    | ⟨1, _⟩ => rfl)

theorem up_real (x : FVec Ideal S4096x1024 .f32) (g : FVec Ideal S1024 .f32) (v : FVec Ideal S1024x2816 .f32) (H : Fin2 g v) (z : S4096x2816.Idx) :
    ∃ a : ℝ, ∑ k : Fin 1024, val_main_v12 (F := Ideal) x g (ix2 (z 0) k) * v (ix2 k (z 1)) = (a : EReal) := by
  choose p hp using h_real x g v H
  exact ⟨_, Dil.dot_r _ _ (fun k => p (ix2 (z 0) k)) (fun k => (v (ix2 k (z 1))).toReal) (fun k => hp _) fun k => H.h3 _⟩

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] :=
  (by decide +kernel : ∀ t : Fin grid0.N, _)

theorem turn (w : FVec Ideal S1024x2816 .f32) (j : S2816x1024.Idx) :
    transpose S2816x1024 [1, 0] w transposes_S1024x2816_S2816x1024_1_0 j = w (ix2 (j 1) (j 0)) := by
  pointwise

theorem wide (g : FVec Ideal S1024 .f32) (j : S1x1024.Idx) : shapeCast S1x1024 g shapeCasts_S1024_S1x1024 j = g (ix1 (j 1)) := by
  pointwise

section Grid

variable (m : (ℓ : Loc nD τ sig) → Buf (Elt Ideal) ℓ) (c : Dev nD)

abbrev ax : FVec Ideal S4096x1024 .f32 := m ((c : Thread nD τ).loc main_arg0)
abbrev ag : FVec Ideal S1024 .f32 := m ((c : Thread nD τ).loc main_arg1)
abbrev aw : FVec Ideal S1024x2816 .f32 := m ((c : Thread nD τ).loc main_arg2)
abbrev av : FVec Ideal S1024x2816 .f32 := m ((c : Thread nD τ).loc main_arg3)

abbrev goal0 : FVec Ideal S4096x2816 .f32 := val_main_v15_0 (F := Ideal) (ax m c) (ag m c) (aw m c)
abbrev goal1 : FVec Ideal S4096x2816 .f32 := val_main_v16 (F := Ideal) (ax m c) (ag m c) (aw m c) (av m c)
abbrev goal2 : FVec Ideal S4096x2816 .f32 := val_main_v17 (F := Ideal) (ax m c) (ag m c) (aw m c) (av m c)
abbrev goal3 : FVec Ideal S4096x1024 .f32 := val_main_v12 (F := Ideal) (ax m c) (ag m c)

theorem finite_of (h : Cert.Pre_finite7.fn (F := Ideal) (ax m c) (ag m c) (aw m c) (av m c) = fun _ => 1#1) : Fin2 (ag m c) (av m c) := by
  have e := congrFun h (fun k => k.elim0)
  unfold Cert.Pre_finite7.fn at e
  dsimp only at e
  obtain ⟨e0, e1⟩ := IntOp.andi_eq_one.1 e
  exact
    { h1 := fun i => Dil.real_of_lt _ _ i (Host.reduce_andi_all _ _ _ _ _ e0 i)
      h3 := fun i => Dil.real_of_lt _ _ i (Host.reduce_andi_all _ _ _ _ _ e1 i) }

abbrev bx (t : Fin cfg0.N) : FVec Ideal S256x1024 .f32 := iblk m c 0 t
abbrev bw (t : Fin cfg0.N) : FVec Ideal S2816x1024 .bf16 := iblk m c 1 t
abbrev bv (t : Fin cfg0.N) : FVec Ideal S2816x1024 .bf16 := iblk m c 2 t
abbrev bg (t : Fin cfg0.N) : FVec Ideal S1x1024 .f32 := iblk m c 3 t

/-- The row of the whole array that a grid point's row is. -/
abbrev row (t : Fin cfg0.N) (i : Fin 256) : Fin 4096 :=
  ⟨t.val * 256 + i.val, by have h := lt_of_lt_of_eq t.isLt N_0; have h' := i.isLt; omega⟩

theorem bx_at (t : Fin cfg0.N) (i : Fin 256) (k : Fin 1024) : bx m c t (ix2 i k) = ax m c (ix2 (row t i) k) := by
  show ((cfg0.win 0).blk t).view.read (Elt Ideal) (V m c main_arg0) _ = _
  rw [show V m c main_arg0 = ax m c by entry_read; rfl]
  blk_ext [idx t]

theorem bg_at (t : Fin cfg0.N) (k : Fin 1024) : bg m c t (ix2 0 k) = ag m c (ix1 k) := by
  show ((cfg0.win 3).blk t).view.read (Elt Ideal) (V m c main_v0) _ = _
  rw [show V m c main_v0 = shapeCast S1x1024 (ag m c) shapeCasts_S1024_S1x1024 by entry_read; rfl]
  refine Eq.trans ?_ (wide (ag m c) (ix2 0 k))
  blk_ext [idx t]

theorem bw_at (t : Fin cfg0.N) (n : Fin 2816) (k : Fin 1024) : bw m c t (ix2 n k) = aw m c (ix2 k n) := by
  show ((cfg0.win 1).blk t).view.read (Elt Ideal) (V m c main_v2) _ = _
  rw [show V m c main_v2 = transpose S2816x1024 [1, 0] (aw m c) transposes_S1024x2816_S2816x1024_1_0 by entry_read; rfl]
  refine Eq.trans ?_ (turn (aw m c) (ix2 n k))
  blk_ext [idx t]

theorem bv_at (t : Fin cfg0.N) (n : Fin 2816) (k : Fin 1024) : bv m c t (ix2 n k) = av m c (ix2 k n) := by
  show ((cfg0.win 2).blk t).view.read (Elt Ideal) (V m c main_v4) _ = _
  rw [show V m c main_v4 = transpose S2816x1024 [1, 0] (av m c) transposes_S1024x2816_S2816x1024_1_0 by entry_read; rfl]
  refine Eq.trans ?_ (turn (av m c) (ix2 n k))
  blk_ext [idx t]

theorem h_eq (t : Fin cfg0.N) (j : S256x1024.Idx) : k0_pay3 (F := Ideal) (bx m c t) (bg m c t) j = goal3 m c (ix2 (row t (j 0)) (j 1)) := by
  refine (h_at _ _ j).trans (Eq.trans ?_ (ref_h _ _ _).symm)
  have e : j = ix2 (j 0) (j 1) := by blk_ext [idx t]
  refine congrArg₂ (· * ·) (congrArg₂ (· * ·) ?_ (congrArg (fun f => Ideal.rsqrt (ms f)) (funext fun k => bx_at m c t (j 0) k))) (bg_at m c t (j 1))
  exact (congrArg (bx m c t) e).trans (bx_at m c t (j 0) (j 1))

theorem gate_eq (t : Fin cfg0.N) (j : S256x2816.Idx) :
    k0_pay4 (F := Ideal) (bx m c t) (bg m c t) (bw m c t) j = val_main_v14 (F := Ideal) (ax m c) (ag m c) (aw m c) (ix2 (row t (j 0)) (j 1)) := by
  refine (gate_at _ _ _ j).trans (Eq.trans ?_ (ref_gate _ _ _ _).symm)
  exact Fin.sum_fin_congr fun k => congrArg₂ (· * ·) (h_eq m c t (ix2 (j 0) k)) (bw_at m c t (j 1) k)

theorem up_eq (t : Fin cfg0.N) (j : S256x2816.Idx) :
    k0_pay5 (F := Ideal) (bx m c t) (bg m c t) (bv m c t) j = val_main_v13 (F := Ideal) (ax m c) (ag m c) (av m c) (ix2 (row t (j 0)) (j 1)) := by
  refine (up_at _ _ _ j).trans (Eq.trans ?_ (ref_up _ _ _ _).symm)
  exact Fin.sum_fin_congr fun k => congrArg₂ (· * ·) (h_eq m c t (ix2 (j 0) k)) (bv_at m c t (j 1) k)

theorem final3 : (dats m 0 c).arrAt 7 (cfgs 0).N = goal3 m c := by
  refine (dats m 0 c).arrAt_eq_of_covers 7 _ (by decide +kernel) fun t _ y => ?_
  have h16 : t.val < 16 := lt_of_lt_of_eq t.isLt N_0
  blk_simp
  rw [after0_7]
  frame_out
  refine (h_eq m c t y).trans (congrArg (goal3 m c) ?_)
  blk_ext [idx t]

theorem final0 : (dats m 0 c).arrAt 4 (cfgs 0).N = goal0 m c := by
  refine (dats m 0 c).arrAt_eq_of_covers 4 _ (by decide +kernel) fun t _ y => ?_
  have h16 : t.val < 16 := lt_of_lt_of_eq t.isLt N_0
  blk_simp
  rw [after0_4]
  frame_out
  refine (sil_at (bx m c t) (bg m c t) (bw m c t) y).trans (Eq.trans ?_ (ref_sil _ _ _ _).symm)
  rw [gate_eq m c t y]
  refine congrArg (fun i => val_main_v14 (F := Ideal) (ax m c) (ag m c) (aw m c) i * sig (val_main_v14 (F := Ideal) (ax m c) (ag m c) (aw m c) i)) ?_
  blk_ext [idx t]

theorem final2 : (dats m 0 c).arrAt 6 (cfgs 0).N = goal2 m c := by
  refine (dats m 0 c).arrAt_eq_of_covers 6 _ (by decide +kernel) fun t _ y => ?_
  have h16 : t.val < 16 := lt_of_lt_of_eq t.isLt N_0
  blk_simp
  rw [after0_6]
  frame_out
  have e : ∀ z, goal2 m c z = val_main_v14 (F := Ideal) (ax m c) (ag m c) (aw m c) z * sig (val_main_v14 (F := Ideal) (ax m c) (ag m c) (aw m c) z)
      * val_main_v13 (F := Ideal) (ax m c) (ag m c) (av m c) z := fun z => congrArg (· * _) (ref_sil _ _ _ z)
  refine Eq.trans ?_ (e _).symm
  refine (act_at _ (k0_pay7 (F := Ideal) (bx m c t) (bg m c t) (bw m c t)) y).trans ?_
  refine (congrArg₂ (· * ·) (sil_at (bx m c t) (bg m c t) (bw m c t) y) ((congrFun (up_name (bx m c t) (bw m c t) (bv m c t) (bg m c t)) y).trans (up_eq m c t y))).trans ?_
  rw [gate_eq m c t y]
  refine congrArg (fun i => val_main_v14 (F := Ideal) (ax m c) (ag m c) (aw m c) i * sig (val_main_v14 (F := Ideal) (ax m c) (ag m c) (aw m c) i)
    * val_main_v13 (F := Ideal) (ax m c) (ag m c) (av m c) i) ?_
  blk_ext [idx t]

theorem final1 (H : Fin2 (ag m c) (av m c)) : (dats m 0 c).arrAt 5 (cfgs 0).N = goal1 m c := by
  refine (dats m 0 c).arrAt_eq_of_covers 5 _ (by decide +kernel) fun t _ y => ?_
  have h16 : t.val < 16 := lt_of_lt_of_eq t.isLt N_0
  blk_simp
  rw [after0_5]
  frame_out
  refine (dsil_at _ (bx m c t) (bg m c t) (bw m c t) y).trans ?_
  refine (congrArg (· * _) ((congrFun (up_name (bx m c t) (bw m c t) (bv m c t) (bg m c t)) y).trans (up_eq m c t y))).trans ?_
  rw [gate_eq m c t y]
  refine Eq.trans ?_ ((ref_dsil _ _ _ _ (ix2 (row t (y 0)) (y 1))).symm.trans (congrArg (goal1 m c) ?_))
  · obtain ⟨u, hu⟩ := up_real (ax m c) _ _ H (ix2 (row t (y 0)) (y 1))
    rw [(ref_up _ _ _ _).trans hu]
    exact gate_back _ u
  · blk_ext [idx t]

/-- After the call the host widens the four results. -/
theorem tail0 : Pipeline.afterTail₀ cfgs (dats m) 0 (V0 m) [hostOps1] c main_v6 = goal0 m c := by
  unfold Pipeline.afterTail₀
  simp only [List.flatten_cons, List.flatten_nil, List.append_nil]
  after_results
  exact congrArg (fun X : FVec Ideal S4096x2816 .bf16 => extf .f32 X bitsLt_bf16_f32)
    ((Pipeline.withArrays_arr spec0 winFacts0.arr_inj c (V0 m c) _ 4).trans (final0 m c))

theorem tail1 (H : Fin2 (ag m c) (av m c)) : Pipeline.afterTail₀ cfgs (dats m) 0 (V0 m) [hostOps1] c main_v7 = goal1 m c := by
  unfold Pipeline.afterTail₀
  simp only [List.flatten_cons, List.flatten_nil, List.append_nil]
  after_results
  exact congrArg (fun X : FVec Ideal S4096x2816 .bf16 => extf .f32 X bitsLt_bf16_f32)
    ((Pipeline.withArrays_arr spec0 winFacts0.arr_inj c (V0 m c) _ 5).trans (final1 m c H))

theorem tail2 : Pipeline.afterTail₀ cfgs (dats m) 0 (V0 m) [hostOps1] c main_v8 = goal2 m c := by
  unfold Pipeline.afterTail₀
  simp only [List.flatten_cons, List.flatten_nil, List.append_nil]
  after_results
  exact congrArg (fun X : FVec Ideal S4096x2816 .bf16 => extf .f32 X bitsLt_bf16_f32)
    ((Pipeline.withArrays_arr spec0 winFacts0.arr_inj c (V0 m c) _ 6).trans (final2 m c))

theorem tail3 : Pipeline.afterTail₀ cfgs (dats m) 0 (V0 m) [hostOps1] c main_v9 = goal3 m c := by
  unfold Pipeline.afterTail₀
  simp only [List.flatten_cons, List.flatten_nil, List.append_nil]
  after_results
  exact congrArg (fun X : FVec Ideal S4096x1024 .bf16 => extf .f32 X bitsLt_bf16_f32)
    ((Pipeline.withArrays_arr spec0 winFacts0.arr_inj c (V0 m c) _ 7).trans (final3 m c))

/-- The whole program writes the reference's results. -/
theorem run (H : ∀ c, Fin2 (ag m c) (av m c)) (g : Dev nD → PrngReg) :
    θ_run (defs (F := Ideal)) (onTc (τ := τ) (main (F := Ideal))) ⟨m, fun _ => 0, g⟩
    (fun r => ∀ c : Dev nD, r.2.mem ((c.tc : Thread nD τ).loc main_v6) = goal0 m c ∧ r.2.mem ((c.tc : Thread nD τ).loc main_v7) = goal1 m c
      ∧ r.2.mem ((c.tc : Thread nD τ).loc main_v8) = goal2 m c ∧ r.2.mem ((c.tc : Thread nD τ).loc main_v9) = goal3 m c) :=
  (θ_run _ _ _).mono (fun r h c => ⟨((h c).2 main_v6 (by decide)).trans (tail0 m c), ((h c).2 main_v7 (by decide)).trans (tail1 m c (H c)),
    ((h c).2 main_v8 (by decide)).trans (tail2 m c), ((h c).2 main_v9 (by decide)).trans (tail3 m c)⟩) (run_main m g)

end Grid

end Cert.Fup

end
-- ==== Proof.Dwin.lean ====
module

public import proofs.«01_k».proof.Proof.Gen.Kernel8Ideal.Frame
public import proofs.«01_k».proof.Proof.Gen.Reference8Ideal.Read
public import Idealize.ShloMosaic.Lib.Pipeline.ValueKit

/-! The weight gradient of the mixer's first layer, in four blocks of 1280 columns: for each the kernel adds up eight blocks of 512 tokens, the reference contracts the 4096 tokens at once. -/

@[expose] public section

set_option maxRecDepth 16384

noncomputable section

namespace Cert.Dwin

open Idealize.ShloMosaic
open Cert.Kernel8Ideal Cert.Kernel8Ideal.Gen Idealize.ShloMosaic.TcCoe Idealize.SL.Sem
open Idealize.ShloMosaic.Pipeline (Dat)

/-- The accumulator starts at zero. -/
theorem zero_at (j : S1024x1280.Idx) : k0_pay1 (F := Ideal) j = 0 := by
  pointwise [k0_pay1]

/-- One block of tokens adds its product to the accumulator. -/
theorem add_at (acc : FVec Ideal S1024x1280 .f32) (x : FVec Ideal S512x1024 .bf16) (y : FVec Ideal S512x1280 .bf16) (j : S1024x1280.Idx) :
    k0_pay2 (F := Ideal) acc x y j = acc j + ∑ k : Fin 512, x (ix2 k (j 0)) * y (ix2 k (j 1)) := by
  pointwise [k0_pay2]

/-- Reading the whole scratch array gives what was put there. -/
theorem held (x : FVec Ideal S1024x1280 .f32) (h : (scM0_0).IsWhole) : scM0_0.view.read (Elt Ideal) (h.unread (Val := Elt Ideal) x) = x :=
  h.read_unread (Val := Elt Ideal) x

theorem idx : ∀ t : Fin cfg0.N, win0_0.index t = ![t.val % 8, 0] ∧ win0_1.index t = ![t.val % 8, t.val / 8] ∧ win0_2.index t = ![t.val / 8, 0, 0] :=
  (by decide +kernel : ∀ t : Fin grid0.N, _)

section Grid

variable (m : (ℓ : Loc nD τ sig) → Buf (Elt Ideal) ℓ) (c : Dev nD)

/-- The token block of the layer's input. -/
abbrev bx (t : Fin cfg0.N) : FVec Ideal S512x1024 .bf16 := iblk m c 0 t

/-- The block of the output gradient. -/
abbrev by' (t : Fin cfg0.N) : FVec Ideal S512x1280 .bf16 := iblk m c 1 t

/-- What a grid point adds. -/
def part (t : Fin cfg0.N) (j : S1024x1280.Idx) : EReal := ∑ k : Fin 512, bx m c t (ix2 k (j 0)) * by' m c t (ix2 k (j 1))

theorem sum_at (t : Fin cfg0.N) (ht : t.val % 8 = 8 - 1) (j : S1024x1280.Idx) :
    (outsAt0 m c t.val t.isLt).2 j = 0 + ∑ s : Fin 8, part m c ⟨8 * (t.val / 8) + s.val, Pipeline.run_point_lt_of_flush t ht s⟩ j :=
  Pipeline.eq_sum_fin_of_reset_step_apply_of_flush (fun n h => (outsAt0 m c n h).2) 8 (fun _ => (0 : EReal)) (part m c)
    (fun t h j => by
      rw [outsAt0_A m c t h (by omega)]; frame_out; exact (add_at _ _ _ j).trans (congrArg (· + _) (zero_at j)))
    (fun t h j => by
      by_cases h7 : t.val % 8 = 7
      · rw [outsAt0_C m c t h h7]; frame_out; exact (add_at _ _ _ j).trans (congrArg (· + part m c t j) (congrFun (held _ (Memref.isWhole_whole _)) j))
      · rw [outsAt0_B m c t h h7]; frame_out; exact (add_at _ _ _ j).trans (congrArg (· + part m c t j) (congrFun (held _ (Memref.isWhole_whole _)) j)))
    t ht j

/-- The block stored, without its leading dimension of one. -/
theorem cast_at (a : FVec Ideal S1024x1280 .f32) (i : S1x1024x1280.Idx) : k0_pay3 (F := Ideal) a i = a (ix2 (i 1) (i 2)) := by
  pointwise [k0_pay3]

/-- The last point of a column block stores what the accumulator then holds. -/
theorem store_at (t : Fin cfg0.N) (h7 : t.val % 8 = 7) (i : S1x1024x1280.Idx) :
    (outsAt0 m c t.val t.isLt).1 i = (outsAt0 m c t.val t.isLt).2 (ix2 (i 1) (i 2)) := by
  rw [outsAt0_C m c t (by omega) h7]; frame_out; exact cast_at _ i

/-- The layer's input and the gradient of its output. -/
abbrev inp : FVec Ideal S4096x1024 .f32 := m ((c : Thread nD τ).loc main_arg0)
abbrev gra : FVec Ideal S4096x5120 .f32 := m ((c : Thread nD τ).loc main_arg2)

theorem part_at (t : Fin cfg0.N) (j : S1024x1280.Idx) (k : Fin 512) (l : Fin 4096) (hl : l.val = t.val % 8 * 512 + k.val)
    (o : Fin 5120) (ho : o.val = t.val / 8 * 1280 + (j 1).val) :
    bx m c t (ix2 k (j 0)) * by' m c t (ix2 k (j 1)) = inp m c (ix2 l (j 0)) * gra m c (ix2 l o) := by
  have h8 : t.val < 32 := lt_of_lt_of_eq t.isLt N_0
  refine congrArg₂ (· * ·) ?_ ?_
  · show ((cfg0.win 0).blk t).view.read (Elt Ideal) (V m c main_v0) _ = _
    rw [show V m c main_v0 = inp m c by entry_read; rfl]
    blk_ext [idx t]
  · show ((cfg0.win 1).blk t).view.read (Elt Ideal) (V m c main_v1) _ = _
    rw [show V m c main_v1 = gra m c by entry_read; rfl]
    blk_ext [idx t]

theorem whole (t : Fin cfg0.N) (ht : t.val % 8 = 8 - 1) (j : S1024x1280.Idx) (o : Fin 5120) (ho : o.val = t.val / 8 * 1280 + (j 1).val) :
    ∑ s : Fin 8, part m c ⟨8 * (t.val / 8) + s.val, Pipeline.run_point_lt_of_flush t ht s⟩ j
      = ∑ l : Fin 4096, inp m c (ix2 l (j 0)) * gra m c (ix2 l o) :=
  Fin.sum_mul_add_congr fun s k hl =>
    part_at m c _ j k ⟨_, hl⟩ (by
      have hs : s.val < 8 := s.isLt
      show s.val * 512 + k.val = (8 * (t.val / 8) + s.val) % 8 * 512 + k.val
      omega) o (by
      have hs : s.val < 8 := s.isLt
      show o.val = (8 * (t.val / 8) + s.val) / 8 * 1280 + (j 1).val
      omega)

/-- The gradient in four column blocks. -/
def cut (i : S4x1024x1280.Idx) : EReal :=
  ∑ l : Fin 4096, inp m c (ix2 l (i 1)) * gra m c (ix2 l ⟨(i 0).val * 1280 + (i 2).val, by have h0 : (i 0).val < 4 := (i 0).isLt; have h2 : (i 2).val < 1280 := (i 2).isLt; omega⟩)

theorem final : (dats m 0 c).arrAt 2 (cfgs 0).N = (cut m c : FVec Ideal S4x1024x1280 .bf16) := by
  refine (dats m 0 c).arrAt_eq_of_covers 2 _ (by decide +kernel) fun t hf y => ?_
  have h7 : t.val % 8 = 7 := (flush0_2 t).mp hf
  have h8 : t.val < 32 := lt_of_lt_of_eq t.isLt N_0
  blk_simp
  rw [after0_2]
  refine (store_at m c t h7 y).trans ?_
  refine (sum_at m c t h7 _).trans ?_
  rw [zero_add]
  have e : (win0_2.blk t).view.emb y = (ix3 ⟨t.val / 8, by omega⟩ (y 1) (y 2) : S4x1024x1280.Idx) := by
    blk_ext [idx t]
  rw [e]
  exact whole m c t h7 (ix2 (y 1) (y 2)) ⟨t.val / 8 * 1280 + (y 2).val, by have h2 : (y 2).val < 1280 := (y 2).isLt; omega⟩ rfl

abbrev goal : FVec Ideal S1024x5120 .f32 := Cert.Reference8Ideal.Read.val_main_v2 (F := Ideal) (inp m c) (gra m c)

/-- The reference, element by element. -/
theorem goal_at (z : S1024x5120.Idx) : goal m c z = ∑ l : Fin 4096, inp m c (ix2 l (z 0)) * gra m c (ix2 l (z 1)) := by
  show Cert.Reference8Ideal.Read.val_main_v2 (F := Ideal) _ _ z = _
  rw [Cert.Reference8Ideal.Read.val_main_v2_apply, Cert.Reference8Ideal.Read.val_main_v1_apply]
  refine Fin.sum_fin_congr fun l => (mul_comm _ _).trans ?_
  refine congrArg₂ (· * ·) (congrArg (inp m c) (funext fun a => ?_)) (congrArg (gra m c) (funext fun a => ?_)) <;>
  · match a with
    | ⟨0, _⟩ => rfl
    | ⟨1, _⟩ => rfl

theorem swap_at (X : FVec Ideal S4x1024x1280 .bf16) (a : Fin 1024) (b : Fin 4) (d : Fin 1280) :
    transpose S1024x4x1280 [1, 0, 2] X transposes_S4x1024x1280_S1024x4x1280_1_0_2 (ix3 a b d) = X (ix3 b a d) := by
  pointwise

/-- Moving the column blocks next to one another. -/
theorem join_at (X : FVec Ideal S4x1024x1280 .bf16) (z : S1024x5120.Idx) (a : Fin 1024) (b : Fin 4) (d : Fin 1280) (ha : (z 0).val = a.val)
    (hz : (z 1).val = b.val * 1280 + d.val) :
    shapeCast S1024x5120 (transpose S1024x4x1280 [1, 0, 2] X transposes_S4x1024x1280_S1024x4x1280_1_0_2) shapeCasts_S1024x4x1280_S1024x5120 z
      = X (ix3 b a d) := by
  refine (shapeCast_apply _ shapeCasts_S1024x4x1280_S1024x5120 z (ix3 a b d) ?_).trans (swap_at X a b d)
  rw [Shape.rowMajor_val_three, Shape.rowMajor_val_two]
  show (a.val * 4 + b.val) * 1280 + d.val = (z 0).val * 5120 + (z 1).val
  omega

theorem join_goal : extf .f32 (shapeCast S1024x5120 (transpose S1024x4x1280 [1, 0, 2] (cut m c : FVec Ideal S4x1024x1280 .bf16) transposes_S4x1024x1280_S1024x4x1280_1_0_2)
    shapeCasts_S1024x4x1280_S1024x5120) bitsLt_bf16_f32 = goal m c := by
  funext z
  have h1 : (z 1).val < 5120 := (z 1).isLt
  refine (join_at (cut m c) z (z 0) ⟨(z 1).val / 1280, by omega⟩ ⟨(z 1).val % 1280, by omega⟩ rfl
    (by show (z 1).val = (z 1).val / 1280 * 1280 + (z 1).val % 1280; omega)).trans (Eq.trans ?_ (goal_at m c z).symm)
  refine Fin.sum_fin_congr fun l => congrArg (_ * ·) (congrArg (gra m c) (funext fun a => ?_))
  match a with
  | ⟨0, _⟩ => rfl
  | ⟨1, _⟩ => exact Fin.ext (by show (z 1).val / 1280 * 1280 + (z 1).val % 1280 = (z 1).val; omega)

/-- After the call the host puts the column blocks together and widens. -/
theorem tail : Pipeline.afterTail₀ cfgs (dats m) 0 (V0 m) [hostOps1] c main_v5 = goal m c := by
  unfold Pipeline.afterTail₀
  simp only [List.flatten_cons, List.flatten_nil, List.append_nil]
  after_results
  exact (congrArg (fun X : FVec Ideal S4x1024x1280 .bf16 => extf .f32 (shapeCast S1024x5120 (transpose S1024x4x1280 [1, 0, 2] X
      transposes_S4x1024x1280_S1024x4x1280_1_0_2) shapeCasts_S1024x4x1280_S1024x5120) bitsLt_bf16_f32)
    ((Pipeline.withArrays_arr spec0 winFacts0.arr_inj c (V0 m c) _ 2).trans (final m c))).trans (join_goal m c)

/-- The whole program writes the reference's result. -/
theorem run (g : Dev nD → PrngReg) : θ_run (defs (F := Ideal)) (onTc (τ := τ) (main (F := Ideal))) ⟨m, fun _ => 0, g⟩
    (fun r => ∀ c : Dev nD, r.2.mem ((c.tc : Thread nD τ).loc main_v5) = goal m c) :=
  (θ_run _ _ _).mono (fun r h c => ((h c).2 main_v5 (by decide)).trans (tail m c)) (run_main m g)

end Grid

end Cert.Dwin

end
-- ==== Proof.Mdx.lean ====
module

public import proofs.«01_k».proof.Proof.Gen.Kernel9Ideal.Frame
public import proofs.«01_k».proof.Proof.Gen.Reference9Ideal.Read
public import proofs.«01_k».proof.Proof.Norm
public import Idealize.ShloMosaic.Lib.Pipeline.ValueKit

/-! The gradient of the mixer with respect to its input: a product in four column blocks and the backward pass of the norm, with the gradient of the norm's gain added up over eight blocks of 512 tokens. -/

@[expose] public section

set_option maxRecDepth 16384

noncomputable section

namespace Cert.Mdx

open Idealize.ShloMosaic
open Cert.Kernel9Ideal Cert.Kernel9Ideal.Gen Idealize.ShloMosaic.TcCoe Idealize.SL.Sem
open Idealize.ShloMosaic.Pipeline (Dat)
open Cert.Norm
open Cert.Reference9Ideal.Read (val_main_v12 val_main_v17 val_main_v23 val_main_v38)

/-! ## The kernel's formulas -/

/-- Row and column of one column block of the stored weight. -/
abbrev cell (n : Fin 1024) (k : Fin 1280) : S1x1x1024x1280.Idx := fun a => match a with
  | ⟨0, _⟩ => (0 : Fin 1)
  | ⟨1, _⟩ => (0 : Fin 1)
  | ⟨2, _⟩ => n
  | ⟨3, _⟩ => k

abbrev cell4 (b : Fin 4) (n : Fin 1024) (k : Fin 1280) : S4x1x1024x1280.Idx := fun a => match a with
  | ⟨0, _⟩ => b
  | ⟨1, _⟩ => (0 : Fin 1)
  | ⟨2, _⟩ => n
  | ⟨3, _⟩ => k

theorem flat_at (w : FVec Ideal S1x1x1024x1280 .bf16) (n : Fin 1024) (k : Fin 1280) :
    shapeCast S1024x1280 w shapeCasts_S1x1x1024x1280_S1024x1280 (ix2 n k) = w (cell n k) := by
  refine shapeCast_apply _ shapeCasts_S1x1x1024x1280_S1024x1280 (ix2 n k) (cell n k) ?_
  rw [Shape.rowMajor_val_two, Shape.rowMajor_val_four]
  show ((0 * 1 + 0) * 1024 + n.val) * 1280 + k.val = n.val * 1280 + k.val
  omega

/-- One column block's product. -/
theorem mul_at (x : FVec Ideal S512x1280 .bf16) (w : FVec Ideal S1024x1280 .bf16) (j : S512x1024.Idx) :
    matmul dot_S512x1280_S1024x1280_S512x1024_1_1_0_0_n_n none x w (constant (F := Ideal) S512x1024 .f32 0x00000000#32) j
      = ∑ k : Fin 1280, x (ix2 (j 0) k) * w (ix2 (j 1) k) := by
  pointwise

theorem block_at (x : FVec Ideal S512x1280 .bf16) (w : FVec Ideal S1x1x1024x1280 .bf16) (j : S512x1024.Idx) :
    matmul dot_S512x1280_S1024x1280_S512x1024_1_1_0_0_n_n none (shapeCast S512x1280 x shapeCasts_S512x1280_S512x1280)
      (shapeCast S1024x1280 w shapeCasts_S1x1x1024x1280_S1024x1280) (constant (F := Ideal) S512x1024 .f32 0x00000000#32) j
      = ∑ k : Fin 1280, x (ix2 (j 0) k) * w (cell (j 1) k) := by
  refine (mul_at _ _ j).trans (Fin.sum_fin_congr fun k => congrArg₂ (· * ·) ?_ (flat_at w (j 1) k))
  pointwise

theorem dh_at (a b d e : FVec Ideal S512x1280 .bf16) (p q r s : FVec Ideal S1x1x1024x1280 .bf16) (j : S512x1024.Idx) :
    k0_pay6 (F := Ideal) a p b q d r e s j = (∑ k : Fin 1280, a (ix2 (j 0) k) * p (cell (j 1) k)) + (∑ k : Fin 1280, b (ix2 (j 0) k) * q (cell (j 1) k))
      + (∑ k : Fin 1280, d (ix2 (j 0) k) * r (cell (j 1) k)) + ∑ k : Fin 1280, e (ix2 (j 0) k) * s (cell (j 1) k) :=
  congrArg₂ (· + ·) (congrArg₂ (· + ·) (congrArg₂ (· + ·) (block_at a p j) (block_at b q j)) (block_at d r j)) (block_at e s j)

theorem n_at (x : FVec Ideal S512x1024 .f32) (j : S512x1024.Idx) :
    k0_pay2 (F := Ideal) x j = x j * Ideal.rsqrt (ms fun k => x (ix2 (j 0) k)) := by
  pointwise [k0_pay2, k0_pay1]
  rfl

theorem dx_at (d x o : FVec Ideal S512x1024 .f32) (g : FVec Ideal S1x1024 .f32) (j : S512x1024.Idx) :
    k0_pay3 (F := Ideal) d x g o j
      = o j + Ideal.rsqrt (ms fun k => x (ix2 (j 0) k)) * (d j * g (ix2 0 (j 1))
          - x j * Ideal.rsqrt (ms fun k => x (ix2 (j 0) k)) * Ideal.div (∑ k : Fin 1024, d (ix2 (j 0) k) * g (ix2 0 k)
              * (x (ix2 (j 0) k) * Ideal.rsqrt (ms fun k => x (ix2 (j 0) k)))) num) := by
  pointwise [k0_pay3, k0_pay2, k0_pay1]
  rfl

theorem gain_at (d x : FVec Ideal S512x1024 .f32) (j : S8x1024.Idx) :
    k0_pay4 (F := Ideal) d x j = ∑ k : Fin 512, d (ix2 k (j 1)) * k0_pay2 (F := Ideal) x (ix2 k (j 1)) := by
  pointwise [k0_pay4]

theorem add_at (d x : FVec Ideal S512x1024 .f32) (old : FVec Ideal S8x1024 .f32) (j : S8x1024.Idx) :
    k0_pay5 (F := Ideal) d x old j = old j + k0_pay4 (F := Ideal) d x j := by
  pointwise [k0_pay5]

/-! ## The reference's formulas -/

theorem ref_dh (a : FVec Ideal S4096x5120 .f32) (w : FVec Ideal S1024x5120 .f32) (z : S4096x1024.Idx) :
    val_main_v17 (F := Ideal) a w z = ∑ k : Fin 5120, a (ix2 (z 0) k) * w (ix2 (z 1) k) := by
  pointwise [Cert.Reference9Ideal.Read.val_main_v17]

theorem ref_n (x : FVec Ideal S4096x1024 .f32) (z : S4096x1024.Idx) :
    val_main_v12 (F := Ideal) x z = x z * Ideal.rsqrt (ms fun k => x (ix2 (z 0) k)) := by
  pointwise [Cert.Reference9Ideal.Read.val_main_v12, Cert.Reference9Ideal.Read.val_main_v11, Cert.Reference9Ideal.Read.val_main_v7, Cert.Reference9Ideal.Read.val_main_v6, Cert.Reference9Ideal.Read.val_main_v5, Cert.Reference9Ideal.Read.val_main_v4, Cert.Reference9Ideal.Read.val_main_v3, Cert.Reference9Ideal.Read.val_main_v2, Cert.Reference9Ideal.Read.val_main_v1, Cert.Reference9Ideal.Read.val_main_v0, Cert.Reference9Ideal.Read.val_main_cst, Cert.Reference9Ideal.Read.val_main_cst_0, Cert.Reference9Ideal.Read.val_main_cst_1]
  rfl

theorem ref_gain (a : FVec Ideal S4096x5120 .f32) (w : FVec Ideal S1024x5120 .f32) (x : FVec Ideal S4096x1024 .f32) (z : S1024.Idx) :
    val_main_v23 (F := Ideal) a w x z = ∑ k : Fin 4096, val_main_v12 (F := Ideal) x (ix2 k (z 0)) * val_main_v17 (F := Ideal) a w (ix2 k (z 0)) := by
  pointwise [Cert.Reference9Ideal.Read.val_main_v23, Cert.Reference9Ideal.Read.val_main_v20, Cert.Reference9Ideal.Read.val_main_v19, Cert.Reference9Ideal.Read.val_main_v18, Cert.Reference9Ideal.Read.val_main_cst_3, Cert.Reference9Ideal.Read.val_main_cst_4]
  simp only [Fin.sum_univ_one]

theorem ref_dx (a : FVec Ideal S4096x5120 .f32) (w : FVec Ideal S1024x5120 .f32) (x : FVec Ideal S4096x1024 .f32) (g : FVec Ideal S1024 .f32) (o : FVec Ideal S4096x1024 .f32) (z : S4096x1024.Idx) :
    val_main_v38 (F := Ideal) a w x g o z
      = o z + val_main_v17 (F := Ideal) a w z * g (ix1 (z 1)) * Ideal.rsqrt (ms fun k => x (ix2 (z 0) k))
          + x z * (zer + Ideal.div ((zer + ∑ k : Fin 1024, x (ix2 (z 0) k) * (val_main_v17 (F := Ideal) a w (ix2 (z 0) k) * g (ix1 k)))
              * (neg * Ideal.div (Ideal.rsqrt (ms fun k => x (ix2 (z 0) k))) (ms fun k => x (ix2 (z 0) k)))) num)
          + (zer + Ideal.div ((zer + ∑ k : Fin 1024, x (ix2 (z 0) k) * (val_main_v17 (F := Ideal) a w (ix2 (z 0) k) * g (ix1 k)))
              * (neg * Ideal.div (Ideal.rsqrt (ms fun k => x (ix2 (z 0) k))) (ms fun k => x (ix2 (z 0) k)))) num) * x z := by
  pointwise [Cert.Reference9Ideal.Read.val_main_v38, Cert.Reference9Ideal.Read.val_main_v37, Cert.Reference9Ideal.Read.val_main_v36, Cert.Reference9Ideal.Read.val_main_v35, Cert.Reference9Ideal.Read.val_main_v34, Cert.Reference9Ideal.Read.val_main_v33, Cert.Reference9Ideal.Read.val_main_v32, Cert.Reference9Ideal.Read.val_main_v31, Cert.Reference9Ideal.Read.val_main_v30, Cert.Reference9Ideal.Read.val_main_v29, Cert.Reference9Ideal.Read.val_main_v28, Cert.Reference9Ideal.Read.val_main_v27, Cert.Reference9Ideal.Read.val_main_v26, Cert.Reference9Ideal.Read.val_main_v25, Cert.Reference9Ideal.Read.val_main_v24, Cert.Reference9Ideal.Read.val_main_v22, Cert.Reference9Ideal.Read.val_main_v21, Cert.Reference9Ideal.Read.val_main_v13, Cert.Reference9Ideal.Read.val_main_v10, Cert.Reference9Ideal.Read.val_main_v9, Cert.Reference9Ideal.Read.val_main_v8, Cert.Reference9Ideal.Read.val_main_v7, Cert.Reference9Ideal.Read.val_main_v6, Cert.Reference9Ideal.Read.val_main_v5, Cert.Reference9Ideal.Read.val_main_v4, Cert.Reference9Ideal.Read.val_main_v3, Cert.Reference9Ideal.Read.val_main_v2, Cert.Reference9Ideal.Read.val_main_v1, Cert.Reference9Ideal.Read.val_main_v0, Cert.Reference9Ideal.Read.val_main_cst, Cert.Reference9Ideal.Read.val_main_cst_0, Cert.Reference9Ideal.Read.val_main_cst_1, Cert.Reference9Ideal.Read.val_main_cst_2, Cert.Reference9Ideal.Read.val_main_cst_5, Cert.Reference9Ideal.Read.val_main_cst_6, Cert.Reference9Ideal.Read.val_main_cst_7]
  simp only [Fin.sum_univ_one]
  rfl

theorem idx : ∀ t : Fin cfg0.N, win0_0.index t = ![t.val, 0] ∧ win0_1.index t = ![0, 0, 0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

theorem wide (g : FVec Ideal S1024 .f32) (j : S1x1024.Idx) : shapeCast S1x1024 g shapeCasts_S1024_S1x1024 j = g (ix1 (j 1)) := by
  pointwise

/-- The weight the host passes, in four column blocks. -/
theorem parts (w : FVec Ideal S1024x5120 .f32) (b : Fin 4) (n : Fin 1024) (k : Fin 1280) (l : Fin 5120) (hl : l.val = b.val * 1280 + k.val) :
    transpose S4x1x1024x1280 [1, 2, 0, 3] (shapeCast S1024x4x1x1280 w shapeCasts_S1024x5120_S1024x4x1x1280) transposes_S1024x4x1x1280_S4x1x1024x1280_1_2_0_3 (cell4 b n k)
      = w (ix2 n l) := by
  refine (transpose_apply _ _ _ (cell4 b n k) (fun a => match a with
    | ⟨0, _⟩ => n
    | ⟨1, _⟩ => b
    | ⟨2, _⟩ => (0 : Fin 1)
    | ⟨3, _⟩ => k) (fun a => match a with
    | ⟨0, _⟩ => rfl
    | ⟨1, _⟩ => rfl
    | ⟨2, _⟩ => rfl
    | ⟨3, _⟩ => rfl)).trans ?_
  refine shapeCast_apply _ shapeCasts_S1024x5120_S1024x4x1x1280 _ (ix2 n l) ?_
  rw [Shape.rowMajor_val_two, Shape.rowMajor_val_four]
  show n.val * 5120 + l.val = ((n.val * 4 + b.val) * 1 + 0) * 1280 + k.val
  omega

/-- The host takes the first of the eight equal rows. -/
theorem first (X : FVec Ideal S8x1024 .f32) (z : S1024.Idx) :
    shapeCast S1024 (extractStridedSlice S1x1024 ![0, 0] X slices_S8x1024_S1x1024_0_0) shapeCasts_S1x1024_S1024 z = X (ix2 0 (z 0)) := by
  pointwise

section Grid

variable (m : (ℓ : Loc nD τ sig) → Buf (Elt Ideal) ℓ) (c : Dev nD)

abbrev aa : FVec Ideal S4096x5120 .f32 := m ((c : Thread nD τ).loc main_arg0)
abbrev aw : FVec Ideal S1024x5120 .f32 := m ((c : Thread nD τ).loc main_arg1)
abbrev ax : FVec Ideal S4096x1024 .f32 := m ((c : Thread nD τ).loc main_arg2)
abbrev ag : FVec Ideal S1024 .f32 := m ((c : Thread nD τ).loc main_arg3)
abbrev ao : FVec Ideal S4096x1024 .f32 := m ((c : Thread nD τ).loc main_arg4)

abbrev goal0 : FVec Ideal S4096x1024 .f32 := val_main_v38 (F := Ideal) (aa m c) (aw m c) (ax m c) (ag m c) (ao m c)
abbrev goal1 : FVec Ideal S1024 .f32 := val_main_v23 (F := Ideal) (aa m c) (aw m c) (ax m c)

abbrev ba (t : Fin cfg0.N) : FVec Ideal S512x5120 .bf16 := iblk m c 0 t
abbrev bw (t : Fin cfg0.N) : FVec Ideal S4x1x1024x1280 .bf16 := iblk m c 1 t
abbrev bx (t : Fin cfg0.N) : FVec Ideal S512x1024 .f32 := iblk m c 2 t
abbrev bg (t : Fin cfg0.N) : FVec Ideal S1x1024 .f32 := iblk m c 3 t
abbrev bo (t : Fin cfg0.N) : FVec Ideal S512x1024 .f32 := iblk m c 4 t

/-- The row of the whole array that a grid point's row is. -/
abbrev row (t : Fin cfg0.N) (i : Fin 512) : Fin 4096 :=
  ⟨t.val * 512 + i.val, by have h := lt_of_lt_of_eq t.isLt N_0; have h' := i.isLt; omega⟩

theorem ba_at (t : Fin cfg0.N) (i : Fin 512) (k : Fin 5120) : ba m c t (ix2 i k) = aa m c (ix2 (row t i) k) := by
  show ((cfg0.win 0).blk t).view.read (Elt Ideal) (V m c main_v2) _ = _
  rw [show V m c main_v2 = aa m c by entry_read; rfl]
  blk_ext [idx t]

theorem bw_at (t : Fin cfg0.N) (b : Fin 4) (n : Fin 1024) (k : Fin 1280) (l : Fin 5120) (hl : l.val = b.val * 1280 + k.val) :
    bw m c t (cell4 b n k) = aw m c (ix2 n l) := by
  show ((cfg0.win 1).blk t).view.read (Elt Ideal) (V m c main_v3) _ = _
  rw [show V m c main_v3 = transpose S4x1x1024x1280 [1, 2, 0, 3] (shapeCast S1024x4x1x1280 (aw m c) shapeCasts_S1024x5120_S1024x4x1x1280)
    transposes_S1024x4x1x1280_S4x1x1024x1280_1_2_0_3 by entry_read; rfl]
  refine Eq.trans ?_ (parts (aw m c) b n k l hl)
  blk_ext [idx t]

theorem bx_at (t : Fin cfg0.N) (i : Fin 512) (k : Fin 1024) : bx m c t (ix2 i k) = ax m c (ix2 (row t i) k) := by
  show ((cfg0.win 2).blk t).view.read (Elt Ideal) (V m c main_arg2) _ = _
  rw [show V m c main_arg2 = ax m c by entry_read; rfl]
  blk_ext [idx t]

theorem bg_at (t : Fin cfg0.N) (k : Fin 1024) : bg m c t (ix2 0 k) = ag m c (ix1 k) := by
  show ((cfg0.win 3).blk t).view.read (Elt Ideal) (V m c main_v4) _ = _
  rw [show V m c main_v4 = shapeCast S1x1024 (ag m c) shapeCasts_S1024_S1x1024 by entry_read; rfl]
  refine Eq.trans ?_ (wide (ag m c) (ix2 0 k))
  blk_ext [idx t]

theorem bo_at (t : Fin cfg0.N) (i : Fin 512) (k : Fin 1024) : bo m c t (ix2 i k) = ao m c (ix2 (row t i) k) := by
  show ((cfg0.win 4).blk t).view.read (Elt Ideal) (V m c main_arg4) _ = _
  rw [show V m c main_arg4 = ao m c by entry_read; rfl]
  blk_ext [idx t]

/-- The gradient of the normed input, as the kernel and as the reference has it. -/
abbrev kd (t : Fin cfg0.N) : FVec Ideal S512x1024 .f32 := k0_pay6 (F := Ideal)
  (View.ld (ba m c t) (Rect.unit (s := S512x5120) ![0, 0] S512x1280.size inb_S512x5120_S512x1280_0_0))
  (View.ld (bw m c t) (Rect.unit (s := S4x1x1024x1280) ![0, 0, 0, 0] S1x1x1024x1280.size inb_S4x1x1024x1280_S1x1x1024x1280_0_0_0_0))
  (View.ld (ba m c t) (Rect.unit (s := S512x5120) ![0, 1280] S512x1280.size inb_S512x5120_S512x1280_0_1280))
  (View.ld (bw m c t) (Rect.unit (s := S4x1x1024x1280) ![1, 0, 0, 0] S1x1x1024x1280.size inb_S4x1x1024x1280_S1x1x1024x1280_1_0_0_0))
  (View.ld (ba m c t) (Rect.unit (s := S512x5120) ![0, 2560] S512x1280.size inb_S512x5120_S512x1280_0_2560))
  (View.ld (bw m c t) (Rect.unit (s := S4x1x1024x1280) ![2, 0, 0, 0] S1x1x1024x1280.size inb_S4x1x1024x1280_S1x1x1024x1280_2_0_0_0))
  (View.ld (ba m c t) (Rect.unit (s := S512x5120) ![0, 3840] S512x1280.size inb_S512x5120_S512x1280_0_3840))
  (View.ld (bw m c t) (Rect.unit (s := S4x1x1024x1280) ![3, 0, 0, 0] S1x1x1024x1280.size inb_S4x1x1024x1280_S1x1x1024x1280_3_0_0_0))
abbrev rd : FVec Ideal S4096x1024 .f32 := val_main_v17 (F := Ideal) (aa m c) (aw m c)

/-- The column of the whole array that a column of a block is. -/
abbrev col (b : Fin 4) (k : Fin 1280) : Fin 5120 := ⟨b.val * 1280 + k.val, by have h := b.isLt; have h' := k.isLt; omega⟩

/-- A column block of the first factor. -/
theorem lda (t : Fin cfg0.N) (b : Fin 4) (o : ℕ) (ho : o = b.val * 1280) (inb) (i : Fin 512) (k : Fin 1280) :
    (View.ld (Val := Elt Ideal) (e' := .bf16) (ba m c t) (Rect.unit (s := S512x5120) ![0, o] S512x1280.size inb) : FVec Ideal S512x1280 .bf16) (ix2 i k) = aa m c (ix2 (row t i) (col b k)) := by
  refine (View.ld_unit_apply_of (S := S512x5120) (Val := Elt Ideal) (e := .bf16) (ba m c t) ![0, o] S512x1280.size inb (ix2 i k) (ix2 i (col b k)) fun a => ?_).trans (ba_at m c t i (col b k))
  match a with
  | ⟨0, _⟩ => show i.val = 0 + i.val; omega
  | ⟨1, _⟩ => show b.val * 1280 + k.val = o + k.val; omega

/-- A column block of the weight. -/
theorem ldw (t : Fin cfg0.N) (b : Fin 4) (o : ℕ) (ho : o = b.val) (inb) (n : Fin 1024) (k : Fin 1280) :
    (View.ld (Val := Elt Ideal) (e' := .bf16) (bw m c t) (Rect.unit (s := S4x1x1024x1280) ![o, 0, 0, 0] S1x1x1024x1280.size inb) : FVec Ideal S1x1x1024x1280 .bf16) (cell n k) = aw m c (ix2 n (col b k)) := by
  refine (View.ld_unit_apply_of (S := S4x1x1024x1280) (Val := Elt Ideal) (e := .bf16) (bw m c t) ![o, 0, 0, 0] S1x1x1024x1280.size inb (cell n k) (cell4 b n k) fun a => ?_).trans (bw_at m c t b n k (col b k) rfl)
  match a with
  | ⟨0, _⟩ => show b.val = o + 0; omega
  | ⟨1, _⟩ => rfl
  | ⟨2, _⟩ => show n.val = 0 + n.val; omega
  | ⟨3, _⟩ => show k.val = 0 + k.val; omega

theorem dh_eq (t : Fin cfg0.N) (i : Fin 512) (n : Fin 1024) : kd m c t (ix2 i n) = rd m c (ix2 (row t i) n) := by
  refine (dh_at _ _ _ _ _ _ _ _ (ix2 i n)).trans (Eq.trans ?_ (ref_dh _ _ _).symm)
  refine Eq.trans ?_ (Fin.sum_mul_add_congr (S := 4) (n := 1280) (F := fun b k => aa m c (ix2 (row t i) (col b k)) * aw m c (ix2 n (col b k)))
    fun b k hl => rfl)
  rw [Fin.sum_univ_four]
  refine congrArg₂ (· + ·) (congrArg₂ (· + ·) (congrArg₂ (· + ·) ?_ ?_) ?_) ?_
  · exact Fin.sum_fin_congr fun k => congrArg₂ (· * ·) (lda m c t 0 _ rfl _ i k) (ldw m c t 0 _ rfl _ n k)
  · exact Fin.sum_fin_congr fun k => congrArg₂ (· * ·) (lda m c t 1 _ rfl _ i k) (ldw m c t 1 _ rfl _ n k)
  · exact Fin.sum_fin_congr fun k => congrArg₂ (· * ·) (lda m c t 2 _ rfl _ i k) (ldw m c t 2 _ rfl _ n k)
  · exact Fin.sum_fin_congr fun k => congrArg₂ (· * ·) (lda m c t 3 _ rfl _ i k) (ldw m c t 3 _ rfl _ n k)

theorem n_eq (t : Fin cfg0.N) (i : Fin 512) (k : Fin 1024) : k0_pay2 (F := Ideal) (bx m c t) (ix2 i k) = val_main_v12 (F := Ideal) (ax m c) (ix2 (row t i) k) := by
  refine (n_at _ (ix2 i k)).trans (Eq.trans ?_ (ref_n _ _).symm)
  exact congrArg₂ (· * ·) (bx_at m c t i k) (congrArg (fun f => Ideal.rsqrt (ms f)) (funext fun k => bx_at m c t i k))

/-- What the kernel stores for one token and one column, in terms of the arguments. -/
theorem dx_eq (t : Fin cfg0.N) (i : Fin 512) (k : Fin 1024) :
    k0_pay3 (F := Ideal) (kd m c t) (bx m c t) (bg m c t) (bo m c t) (ix2 i k) = goal0 m c (ix2 (row t i) k) := by
  refine (dx_at _ _ _ _ (ix2 i k)).trans (Eq.trans ?_ (ref_dx _ _ _ _ _ _).symm)
  refine Eq.trans ?_ (back (fun l => ax m c (ix2 (row t i) l)) (fun l => rd m c (ix2 (row t i) l)) (fun l => ag m c (ix1 l))
    (ao m c (ix2 (row t i) k)) k)
  have hx : (fun l : Fin 1024 => bx m c t (ix2 i l)) = fun l => ax m c (ix2 (row t i) l) := funext fun l => bx_at m c t i l
  have hs : (∑ l : Fin 1024, kd m c t (ix2 i l) * bg m c t (ix2 0 l) * (bx m c t (ix2 i l) * Ideal.rsqrt (ms fun k => bx m c t (ix2 i k))))
      = ∑ l : Fin 1024, rd m c (ix2 (row t i) l) * ag m c (ix1 l) * (ax m c (ix2 (row t i) l) * Ideal.rsqrt (ms fun k => ax m c (ix2 (row t i) k))) := by
    rw [hx]
    exact Fin.sum_fin_congr fun l => congrArg₂ (· * ·) (congrArg₂ (· * ·) (dh_eq m c t i l) (bg_at m c t l)) (congrArg (· * _) (bx_at m c t i l))
  refine congrArg₂ (· + ·) (bo_at m c t i k) (congrArg₂ (· * ·) (congrArg (fun f => Ideal.rsqrt (ms f)) hx) (congrArg₂ (· - ·) ?_ (congrArg₂ (· * ·) ?_ ?_)))
  · exact congrArg₂ (· * ·) (dh_eq m c t i k) (bg_at m c t k)
  · exact congrArg₂ (· * ·) (bx_at m c t i k) (congrArg (fun f => Ideal.rsqrt (ms f)) hx)
  · exact congrArg (fun s => Ideal.div s num) hs

/-- What a grid point adds to the gradient of the gain. -/
def part (t : Fin cfg0.N) (j : S8x1024.Idx) : EReal := ∑ k : Fin 512, kd m c t (ix2 k (j 1)) * k0_pay2 (F := Ideal) (bx m c t) (ix2 k (j 1))

theorem first_at (t : Fin cfg0.N) (y : S512x1024.Idx) :
    (outsAt0 m c t.val t.isLt).1 y
      = k0_pay3 (F := Ideal) (kd m c t) (bx m c t) (bg m c t) (bo m c t) y := by
  have h8 : t.val < 8 := lt_of_lt_of_eq t.isLt N_0
  by_cases h : t.val % 8 = 0
  · rw [outsAt0_A m c t h (by omega)]; frame_out
  · rw [outsAt0_B m c t h (by omega)]; frame_out

theorem sum_at (t : Fin cfg0.N) (ht : t.val + 1 = cfg0.N) (j : S8x1024.Idx) :
    (outsAt0 m c t.val t.isLt).2 j = 0 + ∑ p : Fin cfg0.N, part m c p j :=
  Pipeline.eq_sum_fin_of_reset_step_apply_last (fun n h => (outsAt0 m c n h).2) 8 (fun _ => (0 : EReal)) (part m c)
    (fun t h j => by
      rw [outsAt0_A m c t h (by have h8 : t.val < 8 := lt_of_lt_of_eq t.isLt N_0; omega)]; frame_out
      exact (gain_at _ _ j).trans (zero_add _).symm)
    (fun t h j => by
      rw [outsAt0_B m c t h (by omega)]; frame_out
      exact (add_at _ _ _ j).trans (congrArg (_ + ·) (gain_at _ _ j)))
    (le_of_eq N_0) t ht j

theorem whole (j : S8x1024.Idx) : ∑ p : Fin cfg0.N, part m c p j = goal1 m c (ix1 (j 1)) := by
  refine (Fin.sum_points_lanes_congr (A := 1) (L := 4096) 8
    (g := fun _ l => val_main_v12 (F := Ideal) (ax m c) (ix2 l (j 1)) * rd m c (ix2 l (j 1))) fun t k ha hl => ?_).trans ?_
  · refine (congrArg₂ (· * ·) (dh_eq m c t k (j 1)) (n_eq m c t k (j 1))).trans ((mul_comm _ _).trans ?_)
    have h8 : t.val < 8 := lt_of_lt_of_eq t.isLt N_0
    have e : row t k = ⟨_, hl⟩ := Fin.ext (by show t.val * 512 + k.val = t.val % 8 * 512 + k.val; omega)
    rw [e]
  · rw [Fin.sum_univ_one]
    exact (ref_gain _ _ _ (ix1 (j 1))).symm

theorem final0 : (dats m 0 c).arrAt 5 (cfgs 0).N = goal0 m c := by
  refine (dats m 0 c).arrAt_eq_of_covers 5 _ (by decide +kernel) fun t _ y => ?_
  have h8 : t.val < 8 := lt_of_lt_of_eq t.isLt N_0
  blk_simp
  rw [after0_5]
  refine (first_at m c t y).trans ?_
  have e : y = ix2 (y 0) (y 1) := by blk_ext [idx t]
  refine (congrArg _ e).trans ((dx_eq m c t (y 0) (y 1)).trans (congrArg (goal0 m c) ?_))
  blk_ext [idx t]

/-- The eight rows of the accumulated gradient of the gain. -/
abbrev rows : FVec Ideal S8x1024 .f32 := fun j => goal1 m c (ix1 (j 1))

theorem final1 : (dats m 0 c).arrAt 6 (cfgs 0).N = rows m c := by
  refine (dats m 0 c).arrAt_eq_of_after_last 6 t0_7 (by decide +kernel) _ fun j => ?_
  blk_simp
  rw [after0_6, sum_at m c t0_7 rfl j, zero_add, whole]

/-- After the call the host takes one row of the gradient of the gain. -/
theorem tail1 : Pipeline.afterTail₀ cfgs (dats m) 0 (V0 m) [hostOps1] c main_v7 = goal1 m c := by
  unfold Pipeline.afterTail₀
  simp only [List.flatten_cons, List.flatten_nil, List.append_nil]
  after_results
  refine (congrArg (fun X : FVec Ideal S8x1024 .f32 => shapeCast S1024 (extractStridedSlice S1x1024 ![0, 0] X slices_S8x1024_S1x1024_0_0) shapeCasts_S1x1024_S1024)
    ((Pipeline.withArrays_arr spec0 winFacts0.arr_inj c (V0 m c) (fun w => (dats m 0 c).arrAt w (cfgs 0).N) 6).trans (final1 m c))).trans (funext fun z => ?_)
  refine (first (rows m c) z).trans (congrArg (goal1 m c) (funext fun a => ?_))
  match a with
  | ⟨0, _⟩ => rfl

/-- The whole program writes the reference's results. -/
theorem run (g : Dev nD → PrngReg) :
    θ_run (defs (F := Ideal)) (onTc (τ := τ) (main (F := Ideal))) ⟨m, fun _ => 0, g⟩
    (fun r => ∀ c : Dev nD, r.2.mem ((c.tc : Thread nD τ).loc main_v5_0) = goal0 m c ∧ r.2.mem ((c.tc : Thread nD τ).loc main_v7) = goal1 m c) :=
  (θ_run _ _ _).mono (fun r h c => ⟨((h c).1 5).trans (final0 m c), ((h c).2 main_v7 (by decide)).trans (tail1 m c)⟩) (run_main m g)

end Grid

end Cert.Mdx

end
-- ==== Proof.Mout.lean ====
module

public import proofs.«01_k».proof.Proof.Gen.Kernel10Ideal.Frame
public import proofs.«01_k».proof.Proof.Gen.Reference10Ideal.Read
public import Idealize.ShloMosaic.Lib.Pipeline.ValueKit

/-! The last matrix of the mixer, with the residual: a grid point writes 512 tokens. -/

@[expose] public section

set_option maxRecDepth 16384

noncomputable section

namespace Cert.Mout

open Idealize.ShloMosaic
open Cert.Kernel10Ideal Cert.Kernel10Ideal.Gen Idealize.ShloMosaic.TcCoe Idealize.SL.Sem
open Idealize.ShloMosaic.Pipeline (Dat)

/-- What the kernel writes into one block of 512 tokens. -/
theorem out_at (y : FVec Ideal S512x1024 .bf16) (w : FVec Ideal S1024x1024 .bf16) (x : FVec Ideal S512x1024 .f32) (j : S512x1024.Idx) :
    k0_pay1 (F := Ideal) y w x j = x j + ∑ k : Fin 1024, y (ix2 (j 0) k) * w (ix2 k (j 1)) := by
  pointwise [k0_pay1]

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

section Grid

variable (m : (ℓ : Loc nD τ sig) → Buf (Elt Ideal) ℓ) (c : Dev nD)

abbrev res : FVec Ideal S4096x1024 .f32 := m ((c : Thread nD τ).loc main_arg0)
abbrev act : FVec Ideal S4096x1024 .f32 := m ((c : Thread nD τ).loc main_arg1)
abbrev wgt : FVec Ideal S1024x1024 .f32 := m ((c : Thread nD τ).loc main_arg2)

abbrev goal : FVec Ideal S4096x1024 .f32 := Cert.Reference10Ideal.Read.val_main_v1 (F := Ideal) (res m c) (act m c) (wgt m c)

/-- The reference, element by element. -/
theorem goal_at (z : S4096x1024.Idx) :
    goal m c z = res m c z + ∑ k : Fin 1024, act m c (ix2 (z 0) k) * wgt m c (ix2 k (z 1)) := by
  show Cert.Reference10Ideal.Read.val_main_v1 (F := Ideal) _ _ _ z = _
  rw [Cert.Reference10Ideal.Read.val_main_v1_apply, Cert.Reference10Ideal.Read.val_main_v0_apply]
  refine congrArg (res m c z + ·) ((Fin.sum_fin_congr fun l => congrArg₂ (· * ·) (congrArg (act m c) (funext fun a => ?_)) (congrArg (wgt m c) (funext fun a => ?_)))) <;>
  · match a with
    | ⟨0, _⟩ => rfl
    | ⟨1, _⟩ => rfl

theorem final : (dats m 0 c).arrAt 3 (cfgs 0).N = goal m c := by
  refine (dats m 0 c).arrAt_eq_of_covers 3 _ (by decide +kernel) fun t _ y => ?_
  have h8 : t.val < 8 := lt_of_lt_of_eq t.isLt N_0
  blk_simp
  rw [after0_3]
  frame_out
  refine (out_at _ _ _ y).trans (Eq.trans ?_ (goal_at m c _).symm)
  refine congrArg₂ (· + ·) ?_ ((Fin.sum_fin_congr fun k => congrArg₂ (· * ·) ?_ ?_))
  · show ((cfg0.win 2).blk t).view.read (Elt Ideal) (V m c main_arg0) _ = _
    rw [show V m c main_arg0 = res m c by entry_read; rfl]
    blk_ext [idx t]
  · show ((cfg0.win 0).blk t).view.read (Elt Ideal) (V m c main_v0) _ = _
    rw [show V m c main_v0 = act m c by entry_read; rfl]
    blk_ext [idx t]
  · show ((cfg0.win 1).blk t).view.read (Elt Ideal) (V m c main_v1) _ = _
    rw [show V m c main_v1 = wgt m c by entry_read; rfl]
    blk_ext [idx t]

/-- The whole program writes the reference's result. -/
theorem run (g : Dev nD → PrngReg) : θ_run (defs (F := Ideal)) (onTc (τ := τ) (main (F := Ideal))) ⟨m, fun _ => 0, g⟩
    (fun r => ∀ c : Dev nD, r.2.mem ((c.tc : Thread nD τ).loc main_v2) = goal m c) :=
  (θ_run _ _ _).mono (fun r h c => ((h c).1 3).trans (final m c)) (run_main m g)

end Grid

end Cert.Mout

end
-- ==== Proof.Dwo.lean ====
module

public import proofs.«01_k».proof.Proof.Gen.Kernel11Ideal.Frame
public import proofs.«01_k».proof.Proof.Gen.Reference11Ideal.Read
public import Idealize.ShloMosaic.Lib.Pipeline.ValueKit

/-! The weight gradient of a layer with a residual: the kernel adds up eight blocks of 512 tokens, the reference contracts the 4096 tokens at once. -/

@[expose] public section

set_option maxRecDepth 16384

noncomputable section

namespace Cert.Dwo

open Idealize.ShloMosaic
open Cert.Kernel11Ideal Cert.Kernel11Ideal.Gen Idealize.ShloMosaic.TcCoe Idealize.SL.Sem
open Idealize.ShloMosaic.Pipeline (Dat)

/-- The accumulator starts at zero. -/
theorem zero_at (j : S1024x1024.Idx) : k0_pay1 (F := Ideal) j = 0 := by
  pointwise [k0_pay1]

/-- One block of tokens adds its product to the accumulator. -/
theorem add_at (acc : FVec Ideal S1024x1024 .f32) (x : FVec Ideal S512x1024 .bf16) (y : FVec Ideal S512x1024 .f32) (j : S1024x1024.Idx) :
    k0_pay2 (F := Ideal) acc x y j = acc j + ∑ k : Fin 512, x (ix2 k (j 0)) * y (ix2 k (j 1)) := by
  pointwise [k0_pay2]

/-- Reading the whole scratch array gives what was put there. -/
theorem held (x : FVec Ideal S1024x1024 .f32) (h : (scM0_0).IsWhole) : scM0_0.view.read (Elt Ideal) (h.unread (Val := Elt Ideal) x) = x :=
  h.read_unread (Val := Elt Ideal) x

theorem idx : ∀ t : Fin cfg0.N, win0_0.index t = ![t.val, 0] ∧ win0_1.index t = ![t.val, 0] ∧ win0_2.index t = ![0, 0] :=
  (by decide +kernel : ∀ t : Fin grid0.N, _)

section Grid

variable (m : (ℓ : Loc nD τ sig) → Buf (Elt Ideal) ℓ) (c : Dev nD)

/-- The token block of the layer's input. -/
abbrev bx (t : Fin cfg0.N) : FVec Ideal S512x1024 .bf16 := iblk m c 0 t

/-- The token block of the output gradient. -/
abbrev by' (t : Fin cfg0.N) : FVec Ideal S512x1024 .f32 := iblk m c 1 t

/-- What a grid point adds. -/
def part (t : Fin cfg0.N) (j : S1024x1024.Idx) : EReal := ∑ k : Fin 512, bx m c t (ix2 k (j 0)) * by' m c t (ix2 k (j 1))

theorem sum_at (t : Fin cfg0.N) (ht : t.val + 1 = cfg0.N) (j : S1024x1024.Idx) :
    (outsAt0 m c t.val t.isLt).2 j = 0 + ∑ p : Fin cfg0.N, part m c p j :=
  Pipeline.eq_sum_fin_of_reset_step_apply_last (fun n h => (outsAt0 m c n h).2) 8 (fun _ => (0 : EReal)) (part m c)
    (fun t h j => by
      rw [outsAt0_A m c t h (by omega)]; frame_out; exact (add_at _ _ _ j).trans (congrArg (· + _) (zero_at j)))
    (fun t h j => by
      by_cases h7 : t.val % 8 = 7
      · rw [outsAt0_C m c t h h7]; frame_out; exact (add_at _ _ _ j).trans (congrArg (· + part m c t j) (congrFun (held _ (Memref.isWhole_whole _)) j))
      · rw [outsAt0_B m c t h h7]; frame_out; exact (add_at _ _ _ j).trans (congrArg (· + part m c t j) (congrFun (held _ (Memref.isWhole_whole _)) j)))
    (le_of_eq N_0) t ht j

/-- The last point stores what the accumulator then holds. -/
theorem store_at (t : Fin cfg0.N) (h7 : t.val % 8 = 7) : (outsAt0 m c t.val t.isLt).1 = (outsAt0 m c t.val t.isLt).2 := by
  rw [outsAt0_C m c t (by omega) h7]; frame_out; rfl

/-- The layer's input and the gradient of its output. -/
abbrev inp : FVec Ideal S4096x1024 .f32 := m ((c : Thread nD τ).loc main_arg1)
abbrev gra : FVec Ideal S4096x1024 .f32 := m ((c : Thread nD τ).loc main_arg3)

theorem part_at (t : Fin cfg0.N) (j : S1024x1024.Idx) (k : Fin 512) (l : Fin 4096) (hl : l.val = t.val % 8 * 512 + k.val) :
    bx m c t (ix2 k (j 0)) * by' m c t (ix2 k (j 1)) = inp m c (ix2 l (j 0)) * gra m c (ix2 l (j 1)) := by
  have h8 : t.val < 8 := lt_of_lt_of_eq t.isLt N_0
  refine congrArg₂ (· * ·) ?_ ?_
  · show ((cfg0.win 0).blk t).view.read (Elt Ideal) (V m c main_v0) _ = _
    rw [show V m c main_v0 = inp m c by entry_read; rfl]
    blk_ext [idx t]
  · show ((cfg0.win 1).blk t).view.read (Elt Ideal) (V m c main_arg3) _ = _
    rw [show V m c main_arg3 = gra m c by entry_read; rfl]
    blk_ext [idx t]

theorem whole (j : S1024x1024.Idx) : ∑ p : Fin cfg0.N, part m c p j = ∑ l : Fin 4096, inp m c (ix2 l (j 0)) * gra m c (ix2 l (j 1)) := by
  refine (Fin.sum_points_lanes_congr (A := 1) (L := 4096) 8 (g := fun _ l => inp m c (ix2 l (j 0)) * gra m c (ix2 l (j 1)))
    fun t k ha hl => part_at m c t j k ⟨_, hl⟩ rfl).trans ?_
  rw [Fin.sum_univ_one]

abbrev goal : FVec Ideal S1024x1024 .f32 := Cert.Reference11Ideal.Read.val_main_v3 (F := Ideal) (inp m c) (gra m c)

/-- The reference, element by element. -/
theorem goal_at (z : S1024x1024.Idx) : goal m c z = ∑ l : Fin 4096, inp m c (ix2 l (z 0)) * gra m c (ix2 l (z 1)) := by
  show Cert.Reference11Ideal.Read.val_main_v3 (F := Ideal) _ _ z = _
  rw [Cert.Reference11Ideal.Read.val_main_v3_apply, Cert.Reference11Ideal.Read.val_main_v2_apply]
  refine Fin.sum_fin_congr fun l => (mul_comm _ _).trans ?_
  refine congrArg₂ (· * ·) (congrArg (inp m c) (funext fun a => ?_)) (congrArg (gra m c) (funext fun a => ?_)) <;>
  · match a with
    | ⟨0, _⟩ => rfl
    | ⟨1, _⟩ => rfl

theorem final : (dats m 0 c).arrAt 2 (cfgs 0).N = goal m c := by
  refine (dats m 0 c).arrAt_eq_of_after_last 2 t0_7 (by decide +kernel) _ fun j => ?_
  blk_simp
  refine Eq.trans ?_ (goal_at m c _).symm
  rw [after0_2, store_at m c t0_7 rfl, sum_at m c t0_7 rfl j, zero_add, whole]

/-- After the call the host widens. -/
theorem tail : Pipeline.afterTail₀ cfgs (dats m) 0 (V0 m) [hostOps1] c main_v2 = goal m c := by
  unfold Pipeline.afterTail₀
  simp only [List.flatten_cons, List.flatten_nil, List.append_nil]
  after_results
  exact congrArg (fun X : FVec Ideal S1024x1024 .bf16 => extf .f32 X bitsLt_bf16_f32)
    ((Pipeline.withArrays_arr spec0 winFacts0.arr_inj c (V0 m c) _ 2).trans (final m c))

/-- The whole program writes the reference's result. -/
theorem run (g : Dev nD → PrngReg) : θ_run (defs (F := Ideal)) (onTc (τ := τ) (main (F := Ideal))) ⟨m, fun _ => 0, g⟩
    (fun r => ∀ c : Dev nD, r.2.mem ((c.tc : Thread nD τ).loc main_v2) = goal m c) :=
  (θ_run _ _ _).mono (fun r h c => ((h c).2 main_v2 (by decide)).trans (tail m c)) (run_main m g)

end Grid

end Cert.Dwo

end
-- ==== Proof.Mdo.lean ====
module

public import proofs.«01_k».proof.Proof.Gen.Kernel12Ideal.Frame
public import proofs.«01_k».proof.Proof.Gen.Reference12Ideal.Read
public import Idealize.ShloMosaic.Lib.Pipeline.ValueKit

/-! The gradients of the two attention outputs: a grid point multiplies 512 tokens of each projection's gradient by its turned weight. -/

@[expose] public section

set_option maxRecDepth 16384

noncomputable section

namespace Cert.Mdo

open Idealize.ShloMosaic
open Cert.Kernel12Ideal Cert.Kernel12Ideal.Gen Idealize.ShloMosaic.TcCoe Idealize.SL.Sem
open Idealize.ShloMosaic.Pipeline (Dat)

theorem dil_at (d : FVec Ideal S512x1024 .bf16) (w : FVec Ideal S256x1024 .bf16) (j : S512x256.Idx) :
    k0_pay1 (F := Ideal) d w j = ∑ k : Fin 1024, d (ix2 (j 0) k) * w (ix2 (j 1) k) := by
  pointwise [k0_pay1]

theorem sb_at (d : FVec Ideal S512x1024 .bf16) (w : FVec Ideal S256x1024 .bf16) (j : S512x256.Idx) :
    k0_pay2 (F := Ideal) d w j = ∑ k : Fin 1024, d (ix2 (j 0) k) * w (ix2 (j 1) k) := by
  pointwise [k0_pay2]

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] :=
  (by decide +kernel : ∀ t : Fin grid0.N, _)

section Grid

variable (m : (ℓ : Loc nD τ sig) → Buf (Elt Ideal) ℓ) (c : Dev nD)

abbrev wd : FVec Ideal S256x1024 .f32 := m ((c : Thread nD τ).loc main_arg2)
abbrev ws : FVec Ideal S256x1024 .f32 := m ((c : Thread nD τ).loc main_arg3)
abbrev gd : FVec Ideal S4096x1024 .f32 := m ((c : Thread nD τ).loc main_arg4)
abbrev gs : FVec Ideal S4096x1024 .f32 := m ((c : Thread nD τ).loc main_arg5)

abbrev goal0 : FVec Ideal S4096x256 .f32 := Cert.Reference12Ideal.Read.val_main_v3 (F := Ideal) (wd m c) (gd m c)
abbrev goal1 : FVec Ideal S4096x256 .f32 := Cert.Reference12Ideal.Read.val_main_v2 (F := Ideal) (ws m c) (gs m c)

/-- The reference, element by element. -/
theorem goal0_at (z : S4096x256.Idx) : goal0 m c z = ∑ k : Fin 1024, gd m c (ix2 (z 0) k) * wd m c (ix2 (z 1) k) := by
  show Cert.Reference12Ideal.Read.val_main_v3 (F := Ideal) _ _ z = _
  rw [Cert.Reference12Ideal.Read.val_main_v3_apply]
  refine Fin.sum_fin_congr fun k => congrArg₂ (· * ·) (congrArg (gd m c) (funext fun a => ?_)) (congrArg (wd m c) (funext fun a => ?_)) <;>
  · match a with
    | ⟨0, _⟩ => rfl
    | ⟨1, _⟩ => rfl

theorem goal1_at (z : S4096x256.Idx) : goal1 m c z = ∑ k : Fin 1024, gs m c (ix2 (z 0) k) * ws m c (ix2 (z 1) k) := by
  show Cert.Reference12Ideal.Read.val_main_v2 (F := Ideal) _ _ z = _
  rw [Cert.Reference12Ideal.Read.val_main_v2_apply]
  refine Fin.sum_fin_congr fun k => congrArg₂ (· * ·) (congrArg (gs m c) (funext fun a => ?_)) (congrArg (ws m c) (funext fun a => ?_)) <;>
  · match a with
    | ⟨0, _⟩ => rfl
    | ⟨1, _⟩ => rfl

theorem final0 : (dats m 0 c).arrAt 4 (cfgs 0).N = goal0 m c := by
  refine (dats m 0 c).arrAt_eq_of_covers 4 _ (by decide +kernel) fun t _ y => ?_
  have h8 : t.val < 8 := lt_of_lt_of_eq t.isLt N_0
  blk_simp
  rw [after0_4]
  frame_out
  refine (dil_at _ _ y).trans (Eq.trans ?_ (goal0_at m c _).symm)
  refine Fin.sum_fin_congr fun k => congrArg₂ (· * ·) ?_ ?_
  · show ((cfg0.win 0).blk t).view.read (Elt Ideal) (V m c main_v0) _ = _
    rw [show V m c main_v0 = gd m c by entry_read; rfl]
    blk_ext [idx t]
  · show ((cfg0.win 2).blk t).view.read (Elt Ideal) (V m c main_v2) _ = _
    rw [show V m c main_v2 = wd m c by entry_read; rfl]
    blk_ext [idx t]

theorem final1 : (dats m 0 c).arrAt 5 (cfgs 0).N = goal1 m c := by
  refine (dats m 0 c).arrAt_eq_of_covers 5 _ (by decide +kernel) fun t _ y => ?_
  have h8 : t.val < 8 := lt_of_lt_of_eq t.isLt N_0
  blk_simp
  rw [after0_5]
  frame_out
  refine (sb_at _ _ y).trans (Eq.trans ?_ (goal1_at m c _).symm)
  refine Fin.sum_fin_congr fun k => congrArg₂ (· * ·) ?_ ?_
  · show ((cfg0.win 1).blk t).view.read (Elt Ideal) (V m c main_v1) _ = _
    rw [show V m c main_v1 = gs m c by entry_read; rfl]
    blk_ext [idx t]
  · show ((cfg0.win 3).blk t).view.read (Elt Ideal) (V m c main_v3) _ = _
    rw [show V m c main_v3 = ws m c by entry_read; rfl]
    blk_ext [idx t]

/-- The whole program writes the reference's results. -/
theorem run (g : Dev nD → PrngReg) : θ_run (defs (F := Ideal)) (onTc (τ := τ) (main (F := Ideal))) ⟨m, fun _ => 0, g⟩
    (fun r => ∀ c : Dev nD, r.2.mem ((c.tc : Thread nD τ).loc main_v4_0) = goal0 m c ∧ r.2.mem ((c.tc : Thread nD τ).loc main_v4_1) = goal1 m c) :=
  (θ_run _ _ _).mono (fun r h c => ⟨((h c).1 4).trans (final0 m c), ((h c).1 5).trans (final1 m c)⟩) (run_main m g)

end Grid

end Cert.Mdo

end
-- ==== Proof.lean ====
module

public import proofs.«01_k».proof.Defs
public import proofs.«01_k».proof.Proof.Run
public import proofs.«01_k».proof.Proof.Bits.Run
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gen.Pre_finite6
public import proofs.«01_k».proof.Proof.Gen.Pre_finite7
public import proofs.«01_k».proof.Proof.Finite
public import proofs.«01_k».proof.Proof.Bridge
public import proofs.«01_k».proof.Proof.Fdx
public import proofs.«01_k».proof.Proof.Dwgu
public import proofs.«01_k».proof.Proof.Down
public import proofs.«01_k».proof.Proof.Dwd
public import proofs.«01_k».proof.Proof.Dact
public import proofs.«01_k».proof.Proof.Fup
public import proofs.«01_k».proof.Proof.Dwin
public import proofs.«01_k».proof.Proof.Mdx
public import proofs.«01_k».proof.Proof.Mout
public import proofs.«01_k».proof.Proof.Dwo
public import proofs.«01_k».proof.Proof.Mdo
public import Idealize.ShloMosaic.Lib.Quiescent
public import Idealize.ShloMosaic.Lib.Claim

@[expose] public section

noncomputable section

namespace Cert.Proof

open Idealize.ShloMosaic Idealize.ShloMosaic.TcCoe Idealize.SL.Sem

/-- The reference is host code alone: its run leaves the arguments as they were, and it has no counter. -/
theorem frame_reference : Cert.quiescent_ReferenceIdeal (hReferenceIdeal := Cert.ReferenceIdeal.Gen.facts) := fun m ρ _ =>
  (θ_run (Cert.ReferenceIdeal.defs (F := Ideal)) _ _).mono
    (fun r h => And.intro (fun c => (h c).2.2.2) (sem_eq_zero_of_no_sems rfl r.2)) (Cert.ReferenceIdeal.Value.run (F := Ideal) m ρ)

/-- On finite arguments the kernel's three gradients are the reference's. -/
theorem values : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre harg
  have H := fun c => Cert.Dil.finite_of _ _ _ _ _ _ (hpre c)
  refine ⟨fun c => Cert.ReferenceIdeal.Read.val_main_v165 (F := Ideal) (Cert.Dil.a0 m c) (Cert.Dil.a1 m c) (Cert.Dil.a2 m c) (Cert.Dil.a3 m c) (Cert.Dil.a4 m c) (Cert.Dil.a5 m c),
    fun c => Cert.ReferenceIdeal.Read.val_main_v163 (F := Ideal) (Cert.Dil.a0 m c) (Cert.Dil.a1 m c) (Cert.Dil.a2 m c) (Cert.Dil.a3 m c) (Cert.Dil.a4 m c) (Cert.Dil.a5 m c),
    fun c => Cert.ReferenceIdeal.Read.val_main_v161 (F := Ideal) (Cert.Dil.a0 m c) (Cert.Dil.a2 m c) (Cert.Dil.a4 m c) (Cert.Dil.a5 m c), ?_, ?_⟩
  · refine (θ_run (Cert.KernelIdeal.defs (F := Ideal)) _ _).mono (fun r h c => ?_)
      (θ_run_and (Cert.KernelIdeal.Dil.run_main (F := Ideal) m g) (Cert.KernelIdeal.Dil.unchanged (F := Ideal) m g))
    exact ⟨((h.1 c).1 6).trans (Cert.Dil.final_q m c (H c)), ((h.1 c).1 7).trans (Cert.Dil.final_k m c (H c)),
      ((h.1 c).1 8).trans (Cert.Dil.final_v m c (H c)), h.2 c⟩
  · refine (θ_run (Cert.ReferenceIdeal.defs (F := Ideal)) _ _).mono (fun r h c => ?_) (Cert.ReferenceIdeal.Value.run (F := Ideal) m' g')
    obtain ⟨e0, e1, e2, e3, e4, e5⟩ := harg c
    refine ⟨(h c).1.trans ((Cert.ReferenceIdeal.Read.val_main_v165_eq (StableHlo.launchContents m' c)).trans ?_),
      (h c).2.1.trans ((Cert.ReferenceIdeal.Read.val_main_v163_eq (StableHlo.launchContents m' c)).trans ?_),
      (h c).2.2.1.trans ((Cert.ReferenceIdeal.Read.val_main_v161_eq (StableHlo.launchContents m' c)).trans ?_), (h c).2.2.2⟩
    · exact congr (congr (congr (congr (congr (congrArg (Cert.ReferenceIdeal.Read.val_main_v165 (F := Ideal)) e0) e1) e2) e3) e4) e5
    · exact congr (congr (congr (congr (congr (congrArg (Cert.ReferenceIdeal.Read.val_main_v163 (F := Ideal)) e0) e1) e2) e3) e4) e5
    · exact congr (congr (congr (congrArg (Cert.ReferenceIdeal.Read.val_main_v161 (F := Ideal)) e0) e2) e4) e5

theorem frame_reference2 : Cert.quiescent_Reference2Ideal (hReference2Ideal := Cert.Reference2Ideal.Gen.facts) := fun m ρ _ =>
  (θ_run (Cert.Reference2Ideal.defs (F := Ideal)) _ _).mono
    (fun r h => And.intro (fun c => (h c).2.2) (sem_eq_zero_of_no_sems rfl r.2)) (Cert.Reference2Ideal.Value.run (F := Ideal) m ρ)

theorem values2 : Cert.algebraic_Kernel2Ideal_Reference2Ideal (hKernel2Ideal := Cert.Kernel2Ideal.Gen.facts)
    (hReference2Ideal := Cert.Reference2Ideal.Gen.facts) := by
  intro m g m' g' hpre harg
  refine ⟨fun c => Cert.Fdx.goal0 m c, fun c => Cert.Fdx.goal1 m c, ?_, ?_⟩
  · exact (θ_run (Cert.Kernel2Ideal.defs (F := Ideal)) _ _).mono (fun r h c => ⟨(h.1 c).1, (h.1 c).2, h.2 c⟩)
      (θ_run_and (Cert.Fdx.run m g) (Cert.Kernel2Ideal.Gen.unchanged (F := Ideal) m g))
  · refine (θ_run (Cert.Reference2Ideal.defs (F := Ideal)) _ _).mono (fun r h c => ?_) (Cert.Reference2Ideal.Value.run (F := Ideal) m' g')
    have e := harg c
    refine ⟨(h c).1.trans ((Cert.Reference2Ideal.Read.val_main_v41_eq m' c).trans ?_), (h c).2.1.trans ((Cert.Reference2Ideal.Read.val_main_v26_eq _ _ _ _ _).trans ?_), (h c).2.2⟩
    · exact congr (congr (congr (congr (congr (congr (congrArg (Cert.Reference2Ideal.Read.val_main_v41 (F := Ideal)) e.1) e.2.1) e.2.2.1) e.2.2.2.1) e.2.2.2.2.1) e.2.2.2.2.2.1) e.2.2.2.2.2.2
    · exact congr (congr (congr (congr (congrArg (Cert.Reference2Ideal.Read.val_main_v26 (F := Ideal)) e.1) e.2.1) e.2.2.1) e.2.2.2.1) e.2.2.2.2.1

theorem frame_reference3 : Cert.quiescent_Reference3Ideal (hReference3Ideal := Cert.Reference3Ideal.Gen.facts) := fun m ρ _ =>
  (θ_run (Cert.Reference3Ideal.defs (F := Ideal)) _ _).mono
    (fun r h => And.intro (fun c => (h c).2) (sem_eq_zero_of_no_sems rfl r.2)) (Cert.Reference3Ideal.Value.run (F := Ideal) m ρ)

theorem values3 : Cert.algebraic_Kernel3Ideal_Reference3Ideal (hKernel3Ideal := Cert.Kernel3Ideal.Gen.facts)
    (hReference3Ideal := Cert.Reference3Ideal.Gen.facts) := by
  intro m g m' g' hpre harg
  refine ⟨fun c => Cert.Dwgu.goal m c, ?_, ?_⟩
  · exact (θ_run (Cert.Kernel3Ideal.defs (F := Ideal)) _ _).mono (fun r h c => ⟨(h.1 c), h.2 c⟩)
      (θ_run_and (Cert.Dwgu.run m g) (Cert.Kernel3Ideal.Gen.unchanged (F := Ideal) m g))
  · refine (θ_run (Cert.Reference3Ideal.defs (F := Ideal)) _ _).mono (fun r h c => ?_) (Cert.Reference3Ideal.Value.run (F := Ideal) m' g')
    have e := harg c
    refine ⟨(h c).1.trans ((Cert.Reference3Ideal.Read.val_main_v2_eq _ _).trans ?_), (h c).2⟩
    exact congr (congrArg (Cert.Reference3Ideal.Read.val_main_v2 (F := Ideal)) e.1) e.2.2

theorem frame_reference4 : Cert.quiescent_Reference4Ideal (hReference4Ideal := Cert.Reference4Ideal.Gen.facts) := fun m ρ _ =>
  (θ_run (Cert.Reference4Ideal.defs (F := Ideal)) _ _).mono
    (fun r h => And.intro (fun c => (h c).2) (sem_eq_zero_of_no_sems rfl r.2)) (Cert.Reference4Ideal.Value.run (F := Ideal) m ρ)

theorem values4 : Cert.algebraic_Kernel4Ideal_Reference4Ideal (hKernel4Ideal := Cert.Kernel4Ideal.Gen.facts)
    (hReference4Ideal := Cert.Reference4Ideal.Gen.facts) := by
  intro m g m' g' hpre harg
  refine ⟨fun c => Cert.Down.goal m c, ?_, ?_⟩
  · exact (θ_run (Cert.Kernel4Ideal.defs (F := Ideal)) _ _).mono (fun r h c => ⟨(h.1 c), h.2 c⟩)
      (θ_run_and (Cert.Down.run m g) (Cert.Kernel4Ideal.Gen.unchanged (F := Ideal) m g))
  · refine (θ_run (Cert.Reference4Ideal.defs (F := Ideal)) _ _).mono (fun r h c => ?_) (Cert.Reference4Ideal.Value.run (F := Ideal) m' g')
    have e := harg c
    refine ⟨(h c).1.trans ((Cert.Reference4Ideal.Read.val_main_v3_eq _ _ _).trans ?_), (h c).2⟩
    exact congr (congr (congrArg (Cert.Reference4Ideal.Read.val_main_v3 (F := Ideal)) e.1) e.2.1) e.2.2

theorem frame_reference5 : Cert.quiescent_Reference5Ideal (hReference5Ideal := Cert.Reference5Ideal.Gen.facts) := fun m ρ _ =>
  (θ_run (Cert.Reference5Ideal.defs (F := Ideal)) _ _).mono
    (fun r h => And.intro (fun c => (h c).2) (sem_eq_zero_of_no_sems rfl r.2)) (Cert.Reference5Ideal.Value.run (F := Ideal) m ρ)

theorem values5 : Cert.algebraic_Kernel5Ideal_Reference5Ideal (hKernel5Ideal := Cert.Kernel5Ideal.Gen.facts)
    (hReference5Ideal := Cert.Reference5Ideal.Gen.facts) := by
  intro m g m' g' hpre harg
  refine ⟨fun c => Cert.Dwd.goal m c, ?_, ?_⟩
  · exact (θ_run (Cert.Kernel5Ideal.defs (F := Ideal)) _ _).mono (fun r h c => ⟨(h.1 c), h.2 c⟩)
      (θ_run_and (Cert.Dwd.run m g) (Cert.Kernel5Ideal.Gen.unchanged (F := Ideal) m g))
  · refine (θ_run (Cert.Reference5Ideal.defs (F := Ideal)) _ _).mono (fun r h c => ?_) (Cert.Reference5Ideal.Value.run (F := Ideal) m' g')
    have e := harg c
    refine ⟨(h c).1.trans ((Cert.Reference5Ideal.Read.val_main_v7_eq _ _).trans ?_), (h c).2⟩
    exact congr (congrArg (Cert.Reference5Ideal.Read.val_main_v7 (F := Ideal)) e.2.1) e.2.2.2

theorem frame_reference6 : Cert.quiescent_Reference6Ideal (hReference6Ideal := Cert.Reference6Ideal.Gen.facts) := fun m ρ _ =>
  (θ_run (Cert.Reference6Ideal.defs (F := Ideal)) _ _).mono
    (fun r h => And.intro (fun c => (h c).2.2) (sem_eq_zero_of_no_sems rfl r.2)) (Cert.Reference6Ideal.Value.run (F := Ideal) m ρ)

theorem values6 : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  intro m g m' g' hpre harg
  have H := fun c => Cert.Dact.finite_of m c (hpre c)
  refine ⟨fun c => Cert.Dact.goal0 m c, fun c => Cert.Dact.goal1 m c, ?_, ?_⟩
  · exact (θ_run (Cert.Kernel6Ideal.defs (F := Ideal)) _ _).mono (fun r h c => ⟨(h.1 c).1, (h.1 c).2, h.2 c⟩)
      (θ_run_and (Cert.Dact.run m H g) (Cert.Kernel6Ideal.Gen.unchanged (F := Ideal) m g))
  · refine (θ_run (Cert.Reference6Ideal.defs (F := Ideal)) _ _).mono (fun r h c => ?_) (Cert.Reference6Ideal.Value.run (F := Ideal) m' g')
    have e := harg c
    refine ⟨(h c).1.trans ((Cert.Reference6Ideal.Read.val_main_v11_eq _ _ _ _).trans ?_), (h c).2.1.trans ((Cert.Reference6Ideal.Read.val_main_v9_eq _ _ _).trans ?_), (h c).2.2⟩
    · exact congr (congr (congr (congrArg (Cert.Reference6Ideal.Read.val_main_v11 (F := Ideal)) e.2.1) e.2.2.1) e.2.2.2.1) e.2.2.2.2
    · exact congr (congr (congrArg (Cert.Reference6Ideal.Read.val_main_v9 (F := Ideal)) e.2.1) e.2.2.2.1) e.2.2.2.2

theorem frame_reference7 : Cert.quiescent_Reference7Ideal (hReference7Ideal := Cert.Reference7Ideal.Gen.facts) := fun m ρ _ =>
  (θ_run (Cert.Reference7Ideal.defs (F := Ideal)) _ _).mono
    (fun r h => And.intro (fun c => (h c).2.2.2.2) (sem_eq_zero_of_no_sems rfl r.2)) (Cert.Reference7Ideal.Value.run (F := Ideal) m ρ)

theorem values7 : Cert.algebraic_Kernel7Ideal_Reference7Ideal_pre_finite7 (hKernel7Ideal := Cert.Kernel7Ideal.Gen.facts)
    (hReference7Ideal := Cert.Reference7Ideal.Gen.facts) (hPre_finite7 := Cert.Pre_finite7.Gen.facts) := by
  intro m g m' g' hpre harg
  have H := fun c => Cert.Fup.finite_of m c (hpre c)
  refine ⟨fun c => Cert.Fup.goal0 m c, fun c => Cert.Fup.goal1 m c, fun c => Cert.Fup.goal2 m c, fun c => Cert.Fup.goal3 m c, ?_, ?_⟩
  · exact (θ_run (Cert.Kernel7Ideal.defs (F := Ideal)) _ _).mono (fun r h c => ⟨(h.1 c).1, (h.1 c).2.1, (h.1 c).2.2.1, (h.1 c).2.2.2, h.2 c⟩)
      (θ_run_and (Cert.Fup.run m H g) (Cert.Kernel7Ideal.Gen.unchanged (F := Ideal) m g))
  · refine (θ_run (Cert.Reference7Ideal.defs (F := Ideal)) _ _).mono (fun r h c => ?_) (Cert.Reference7Ideal.Value.run (F := Ideal) m' g')
    have e := harg c
    refine ⟨(h c).1.trans ((Cert.Reference7Ideal.Read.val_main_v15_0_eq _ _ _).trans ?_), (h c).2.1.trans ((Cert.Reference7Ideal.Read.val_main_v16_eq m' c).trans ?_), (h c).2.2.1.trans ((Cert.Reference7Ideal.Read.val_main_v17_eq _ _ _ _).trans ?_), (h c).2.2.2.1.trans ((Cert.Reference7Ideal.Read.val_main_v12_eq _ _).trans ?_), (h c).2.2.2.2⟩
    · exact congr (congr (congrArg (Cert.Reference7Ideal.Read.val_main_v15_0 (F := Ideal)) e.1) e.2.1) e.2.2.1
    · exact congr (congr (congr (congrArg (Cert.Reference7Ideal.Read.val_main_v16 (F := Ideal)) e.1) e.2.1) e.2.2.1) e.2.2.2
    · exact congr (congr (congr (congrArg (Cert.Reference7Ideal.Read.val_main_v17 (F := Ideal)) e.1) e.2.1) e.2.2.1) e.2.2.2
    · exact congr (congrArg (Cert.Reference7Ideal.Read.val_main_v12 (F := Ideal)) e.1) e.2.1

theorem frame_reference8 : Cert.quiescent_Reference8Ideal (hReference8Ideal := Cert.Reference8Ideal.Gen.facts) := fun m ρ _ =>
  (θ_run (Cert.Reference8Ideal.defs (F := Ideal)) _ _).mono
    (fun r h => And.intro (fun c => (h c).2) (sem_eq_zero_of_no_sems rfl r.2)) (Cert.Reference8Ideal.Value.run (F := Ideal) m ρ)

theorem values8 : Cert.algebraic_Kernel8Ideal_Reference8Ideal (hKernel8Ideal := Cert.Kernel8Ideal.Gen.facts)
    (hReference8Ideal := Cert.Reference8Ideal.Gen.facts) := by
  intro m g m' g' hpre harg
  refine ⟨fun c => Cert.Dwin.goal m c, ?_, ?_⟩
  · exact (θ_run (Cert.Kernel8Ideal.defs (F := Ideal)) _ _).mono (fun r h c => ⟨(h.1 c), h.2 c⟩)
      (θ_run_and (Cert.Dwin.run m g) (Cert.Kernel8Ideal.Gen.unchanged (F := Ideal) m g))
  · refine (θ_run (Cert.Reference8Ideal.defs (F := Ideal)) _ _).mono (fun r h c => ?_) (Cert.Reference8Ideal.Value.run (F := Ideal) m' g')
    have e := harg c
    refine ⟨(h c).1.trans ((Cert.Reference8Ideal.Read.val_main_v2_eq _ _).trans ?_), (h c).2⟩
    exact congr (congrArg (Cert.Reference8Ideal.Read.val_main_v2 (F := Ideal)) e.1) e.2.2

theorem frame_reference9 : Cert.quiescent_Reference9Ideal (hReference9Ideal := Cert.Reference9Ideal.Gen.facts) := fun m ρ _ =>
  (θ_run (Cert.Reference9Ideal.defs (F := Ideal)) _ _).mono
    (fun r h => And.intro (fun c => (h c).2.2) (sem_eq_zero_of_no_sems rfl r.2)) (Cert.Reference9Ideal.Value.run (F := Ideal) m ρ)

theorem values9 : Cert.algebraic_Kernel9Ideal_Reference9Ideal (hKernel9Ideal := Cert.Kernel9Ideal.Gen.facts)
    (hReference9Ideal := Cert.Reference9Ideal.Gen.facts) := by
  intro m g m' g' hpre harg
  refine ⟨fun c => Cert.Mdx.goal0 m c, fun c => Cert.Mdx.goal1 m c, ?_, ?_⟩
  · exact (θ_run (Cert.Kernel9Ideal.defs (F := Ideal)) _ _).mono (fun r h c => ⟨(h.1 c).1, (h.1 c).2, h.2 c⟩)
      (θ_run_and (Cert.Mdx.run m g) (Cert.Kernel9Ideal.Gen.unchanged (F := Ideal) m g))
  · refine (θ_run (Cert.Reference9Ideal.defs (F := Ideal)) _ _).mono (fun r h c => ?_) (Cert.Reference9Ideal.Value.run (F := Ideal) m' g')
    have e := harg c
    refine ⟨(h c).1.trans ((Cert.Reference9Ideal.Read.val_main_v38_eq m' c).trans ?_), (h c).2.1.trans ((Cert.Reference9Ideal.Read.val_main_v23_eq _ _ _).trans ?_), (h c).2.2⟩
    · exact congr (congr (congr (congr (congrArg (Cert.Reference9Ideal.Read.val_main_v38 (F := Ideal)) e.1) e.2.1) e.2.2.1) e.2.2.2.1) e.2.2.2.2
    · exact congr (congr (congrArg (Cert.Reference9Ideal.Read.val_main_v23 (F := Ideal)) e.1) e.2.1) e.2.2.1

theorem frame_reference10 : Cert.quiescent_Reference10Ideal (hReference10Ideal := Cert.Reference10Ideal.Gen.facts) := fun m ρ _ =>
  (θ_run (Cert.Reference10Ideal.defs (F := Ideal)) _ _).mono
    (fun r h => And.intro (fun c => (h c).2) (sem_eq_zero_of_no_sems rfl r.2)) (Cert.Reference10Ideal.Value.run (F := Ideal) m ρ)

theorem values10 : Cert.algebraic_Kernel10Ideal_Reference10Ideal (hKernel10Ideal := Cert.Kernel10Ideal.Gen.facts)
    (hReference10Ideal := Cert.Reference10Ideal.Gen.facts) := by
  intro m g m' g' hpre harg
  refine ⟨fun c => Cert.Mout.goal m c, ?_, ?_⟩
  · exact (θ_run (Cert.Kernel10Ideal.defs (F := Ideal)) _ _).mono (fun r h c => ⟨(h.1 c), h.2 c⟩)
      (θ_run_and (Cert.Mout.run m g) (Cert.Kernel10Ideal.Gen.unchanged (F := Ideal) m g))
  · refine (θ_run (Cert.Reference10Ideal.defs (F := Ideal)) _ _).mono (fun r h c => ?_) (Cert.Reference10Ideal.Value.run (F := Ideal) m' g')
    have e := harg c
    refine ⟨(h c).1.trans ((Cert.Reference10Ideal.Read.val_main_v1_eq _ _ _).trans ?_), (h c).2⟩
    exact congr (congr (congrArg (Cert.Reference10Ideal.Read.val_main_v1 (F := Ideal)) e.1) e.2.1) e.2.2

theorem frame_reference11 : Cert.quiescent_Reference11Ideal (hReference11Ideal := Cert.Reference11Ideal.Gen.facts) := fun m ρ _ =>
  (θ_run (Cert.Reference11Ideal.defs (F := Ideal)) _ _).mono
    (fun r h => And.intro (fun c => (h c).2) (sem_eq_zero_of_no_sems rfl r.2)) (Cert.Reference11Ideal.Value.run (F := Ideal) m ρ)

theorem values11 : Cert.algebraic_Kernel11Ideal_Reference11Ideal (hKernel11Ideal := Cert.Kernel11Ideal.Gen.facts)
    (hReference11Ideal := Cert.Reference11Ideal.Gen.facts) := by
  intro m g m' g' hpre harg
  refine ⟨fun c => Cert.Dwo.goal m c, ?_, ?_⟩
  · exact (θ_run (Cert.Kernel11Ideal.defs (F := Ideal)) _ _).mono (fun r h c => ⟨(h.1 c), h.2 c⟩)
      (θ_run_and (Cert.Dwo.run m g) (Cert.Kernel11Ideal.Gen.unchanged (F := Ideal) m g))
  · refine (θ_run (Cert.Reference11Ideal.defs (F := Ideal)) _ _).mono (fun r h c => ?_) (Cert.Reference11Ideal.Value.run (F := Ideal) m' g')
    have e := harg c
    refine ⟨(h c).1.trans ((Cert.Reference11Ideal.Read.val_main_v3_eq _ _).trans ?_), (h c).2⟩
    exact congr (congrArg (Cert.Reference11Ideal.Read.val_main_v3 (F := Ideal)) e.2.1) e.2.2.2

theorem frame_reference12 : Cert.quiescent_Reference12Ideal (hReference12Ideal := Cert.Reference12Ideal.Gen.facts) := fun m ρ _ =>
  (θ_run (Cert.Reference12Ideal.defs (F := Ideal)) _ _).mono
    (fun r h => And.intro (fun c => (h c).2.2) (sem_eq_zero_of_no_sems rfl r.2)) (Cert.Reference12Ideal.Value.run (F := Ideal) m ρ)

theorem values12 : Cert.algebraic_Kernel12Ideal_Reference12Ideal (hKernel12Ideal := Cert.Kernel12Ideal.Gen.facts)
    (hReference12Ideal := Cert.Reference12Ideal.Gen.facts) := by
  intro m g m' g' hpre harg
  refine ⟨fun c => Cert.Mdo.goal0 m c, fun c => Cert.Mdo.goal1 m c, ?_, ?_⟩
  · exact (θ_run (Cert.Kernel12Ideal.defs (F := Ideal)) _ _).mono (fun r h c => ⟨(h.1 c).1, (h.1 c).2, h.2 c⟩)
      (θ_run_and (Cert.Mdo.run m g) (Cert.Kernel12Ideal.Gen.unchanged (F := Ideal) m g))
  · refine (θ_run (Cert.Reference12Ideal.defs (F := Ideal)) _ _).mono (fun r h c => ?_) (Cert.Reference12Ideal.Value.run (F := Ideal) m' g')
    have e := harg c
    refine ⟨(h c).1.trans ((Cert.Reference12Ideal.Read.val_main_v3_eq _ _).trans ?_), (h c).2.1.trans ((Cert.Reference12Ideal.Read.val_main_v2_eq _ _).trans ?_), (h c).2.2⟩
    · exact congr (congrArg (Cert.Reference12Ideal.Read.val_main_v3 (F := Ideal)) e.2.2.1) e.2.2.2.2.1
    · exact congr (congrArg (Cert.Reference12Ideal.Read.val_main_v2 (F := Ideal)) e.2.2.2.1) e.2.2.2.2.2

/-- Everything that is claimed. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Kernel11.Gen.facts, Cert.Kernel11Ideal.Gen.facts,
    Cert.Reference11Ideal.Gen.facts, Cert.Kernel12.Gen.facts, Cert.Kernel12Ideal.Gen.facts, Cert.Reference12Ideal.Gen.facts,
    Cert.Pre_finite.Gen.facts, Cert.Pre_finite6.Gen.facts, Cert.Pre_finite7.Gen.facts,
    fun m ρ _ => Cert.Kernel.Dil.frame m ρ,
    fun m ρ _ => Cert.KernelIdeal.Dil.frame m ρ,
    fun m ρ _ => Cert.KernelIdeal.Dil.frame m ρ,
    frame_reference,
    fun m ρ _ => frame_reference m ρ trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    fun m ρ _ => Cert.Kernel6Ideal.Gen.frame m ρ,
    frame_reference6,
    fun m ρ _ => frame_reference6 m ρ trivial,
    fun m ρ _ => Cert.Kernel7.Gen.frame m ρ,
    fun m ρ _ => Cert.Kernel7Ideal.Gen.frame m ρ,
    fun m ρ _ => Cert.Kernel7Ideal.Gen.frame m ρ,
    frame_reference7,
    fun m ρ _ => frame_reference7 m ρ trivial,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    fun m ρ _ => Cert.Kernel11.Gen.frame m ρ,
    fun m ρ _ => Cert.Kernel11Ideal.Gen.frame m ρ,
    frame_reference11,
    fun m ρ _ => Cert.Kernel12.Gen.frame m ρ,
    fun m ρ _ => Cert.Kernel12Ideal.Gen.frame m ρ,
    frame_reference12,
    IdealRules.named_const.statement Cert.KernelIdeal.κ "mask" .f32 0xF149F2CA#32 ⊥ rfl,
    values, trivial, values2, trivial, values3, trivial, values4, trivial, values5, trivial, values6, trivial, values7, trivial, values8, trivial, values9, trivial, values10, trivial, values11, trivial, values12⟩

end Cert.Proof

end
